-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnReferenceIdeal (m : (ℓ : Loc Cert.AttnReferenceIdeal.nD Cert.AttnReferenceIdeal.τ Cert.AttnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)) (v5 : (c : Dev Cert.KernelIdeal.nD) → Buf (Elt Ideal) ((c.tc : Thread Cert.KernelIdeal.nD Cert.KernelIdeal.τ).loc Cert.KernelIdeal.main_v5_0)) (v6 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_v5_0) = v5 c
          ∧ r.2.mem ((c.tc : Thread Cert.KernelIdeal.nD Cert.KernelIdeal.τ).loc Cert.KernelIdeal.main_v13) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v4)) (v2 : (c : Dev Cert.QkvIdeal.nD) → Buf (Elt Ideal) ((c.tc : Thread Cert.QkvIdeal.nD Cert.QkvIdeal.τ).loc Cert.QkvIdeal.main_v6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v4) = v1 c
          ∧ r.2.mem ((c.tc : Thread Cert.QkvIdeal.nD Cert.QkvIdeal.τ).loc Cert.QkvIdeal.main_v6) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v0_0) = v0 c
          ∧ r.2.mem ((c.tc : Thread Cert.QkvReferenceIdeal.nD Cert.QkvReferenceIdeal.τ).loc Cert.QkvReferenceIdeal.main_v0_1) = v1 c
          ∧ r.2.mem ((c.tc : Thread Cert.QkvReferenceIdeal.nD Cert.QkvReferenceIdeal.τ).loc Cert.QkvReferenceIdeal.main_v0_2) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5))

def preserves_Attn_AttnIdeal : Prop :=
  IdealRules.named_const.Statement Cert.AttnIdeal.κ "mask" .f32 0xF149F2CA#32 ⊥

def algebraic_AttnIdeal_AttnReferenceIdeal [hAttnIdeal : Cert.AttnIdeal.Facts] [hAttnReferenceIdeal : Cert.AttnReferenceIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v0) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts) (hAttn : Cert.Attn.Facts) (hAttnIdeal : Cert.AttnIdeal.Facts) (hAttnReferenceIdeal : Cert.AttnReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Attn (hAttn := hAttn)
    ∧ quiescent_AttnIdeal (hAttnIdeal := hAttnIdeal)
    ∧ quiescent_AttnReferenceIdeal (hAttnReferenceIdeal := hAttnReferenceIdeal)
    ∧ preserves_Kernel_KernelIdeal
    ∧ algebraic_KernelIdeal_ReferenceIdeal (hKernelIdeal := hKernelIdeal) (hReferenceIdeal := hReferenceIdeal)
    ∧ preserves_Qkv_QkvIdeal
    ∧ algebraic_QkvIdeal_QkvReferenceIdeal (hQkvIdeal := hQkvIdeal) (hQkvReferenceIdeal := hQkvReferenceIdeal)
    ∧ preserves_Attn_AttnIdeal
    ∧ algebraic_AttnIdeal_AttnReferenceIdeal (hAttnIdeal := hAttnIdeal) (hAttnReferenceIdeal := hAttnReferenceIdeal)
-- ==== Kernel.lean ====
abbrev S1536x4096 : Shape := ⟨2, ![1536, 4096]⟩
abbrev S4096 : Shape := ⟨1, ![4096]⟩
abbrev S4096x34816 : Shape := ⟨2, ![4096, 34816]⟩
abbrev S34816 : Shape := ⟨1, ![34816]⟩
abbrev S32x128x4096 : Shape := ⟨3, ![32, 128, 4096]⟩
abbrev S14336x4096 : Shape := ⟨2, ![14336, 4096]⟩
abbrev S1x34816 : Shape := ⟨2, ![1, 34816]⟩
abbrev S1x4096 : Shape := ⟨2, ![1, 4096]⟩
abbrev S1536x1 : Shape := ⟨2, ![1536, 1]⟩
abbrev S256x4096 : Shape := ⟨2, ![256, 4096]⟩
abbrev S256x1 : Shape := ⟨2, ![256, 1]⟩
abbrev S256 : Shape := ⟨1, ![256]⟩
abbrev S1536x14336 : Shape := ⟨2, ![1536, 14336]⟩
abbrev S4096x256 : Shape := ⟨2, ![4096, 256]⟩
abbrev S1x256 : Shape := ⟨2, ![1, 256]⟩
abbrev S1536x256 : Shape := ⟨2, ![1536, 256]⟩
abbrev S512x1 : Shape := ⟨2, ![512, 1]⟩
abbrev S512x4096 : Shape := ⟨2, ![512, 4096]⟩
abbrev S512x256 : Shape := ⟨2, ![512, 256]⟩
abbrev S128x14336 : Shape := ⟨2, ![128, 14336]⟩
abbrev S128x1 : Shape := ⟨2, ![128, 1]⟩
abbrev S128 : Shape := ⟨1, ![128]⟩
abbrev S4096x4096 : Shape := ⟨2, ![4096, 4096]⟩
abbrev S14336x256 : Shape := ⟨2, ![14336, 256]⟩
abbrev S512x14336 : Shape := ⟨2, ![512, 14336]⟩
abbrev S1536 : Shape := ⟨1, ![1536]⟩
abbrev S1536x32x128 : Shape := ⟨3, ![1536, 32, 128]⟩

abbrev nBuf : Space → Nat
  | .hbm => 26
  | .vmem => 47
  | .smem => 0
  | _ => 0

abbrev bufTy : (tb : Table) → Fin (tcTables nBuf tb) → BufTy
  | .hbm, ⟨0, _⟩ => ⟨S1536x4096, .bf16⟩
  | .hbm, ⟨1, _⟩ => ⟨S4096, .f32⟩
  | .hbm, ⟨2, _⟩ => ⟨S4096x34816, .fp8e4m3⟩
  | .hbm, ⟨3, _⟩ => ⟨S34816, .f32⟩
  | .hbm, ⟨4, _⟩ => ⟨S1536x4096, .f32⟩
  | .hbm, ⟨5, _⟩ => ⟨S32x128x4096, .fp8e4m3⟩
  | .hbm, ⟨6, _⟩ => ⟨S4096, .f32⟩
  | .hbm, ⟨7, _⟩ => ⟨S14336x4096, .fp8e4m3⟩
  | .hbm, ⟨8, _⟩ => ⟨S4096, .f32⟩
  | .hbm, ⟨9, _⟩ => ⟨S1x34816, .f32⟩
  | .hbm, ⟨10, _⟩ => ⟨S1x4096, .f32⟩
  | .hbm, ⟨11, _⟩ => ⟨S1536x4096, .fp8e4m3⟩
  | .hbm, ⟨12, _⟩ => ⟨S1536x1, .f32⟩
  | .hbm, ⟨13, _⟩ => ⟨S1536x4096, .fp8e4m3⟩
  | .hbm, ⟨14, _⟩ => ⟨S1536x1, .f32⟩
  | .hbm, ⟨15, _⟩ => ⟨S1536x14336, .f32⟩
  | .hbm, ⟨16, _⟩ => ⟨S1536x14336, .fp8e4m3⟩
  | .hbm, ⟨17, _⟩ => ⟨S1536x1, .f32⟩
  | .hbm, ⟨18, _⟩ => ⟨S4096x4096, .fp8e4m3⟩
  | .hbm, ⟨19, _⟩ => ⟨S1x4096, .f32⟩
  | .hbm, ⟨20, _⟩ => ⟨S1x4096, .f32⟩
  | .hbm, ⟨21, _⟩ => ⟨S1536x4096, .bf16⟩
  | .hbm, ⟨22, _⟩ => ⟨S1536, .f32⟩
  | .hbm, ⟨23, _⟩ => ⟨S1536x32x128, .fp8e4m3⟩
  | .hbm, ⟨24, _⟩ => ⟨S1536, .f32⟩
  | .hbm, ⟨25, _⟩ => ⟨S1536, .f32⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S256x4096, .fp8e4m3⟩
  | .local _ .vmem, ⟨4, _⟩ => ⟨S256x4096, .fp8e4m3⟩
  | .local _ .vmem, ⟨5, _⟩ => ⟨S256x1, .f32⟩
  | .local _ .vmem, ⟨6, _⟩ => ⟨S256x1, .f32⟩
  | .local _ .vmem, ⟨7, _⟩ => ⟨S256x4096, .f32⟩
  | .local _ .vmem, ⟨8, _⟩ => ⟨S256x4096, .f32⟩
  | .local _ .vmem, ⟨9, _⟩ => ⟨S256x4096, .fp8e4m3⟩
  | .local _ .vmem, ⟨10, _⟩ => ⟨S256x4096, .fp8e4m3⟩
  | .local _ .vmem, ⟨11, _⟩ => ⟨S256x1, .f32⟩
  | .local _ .vmem, ⟨12, _⟩ => ⟨S256x1, .f32⟩
  | .local _ .vmem, ⟨13, _⟩ => ⟨S1536x4096, .fp8e4m3⟩
  | .local _ .vmem, ⟨14, _⟩ => ⟨S1536x1, .f32⟩
  | .local _ .vmem, ⟨15, _⟩ => ⟨S4096x256, .fp8e4m3⟩
  | .local _ .vmem, ⟨16, _⟩ => ⟨S4096x256, .fp8e4m3⟩
  | .local _ .vmem, ⟨17, _⟩ => ⟨S4096x256, .fp8e4m3⟩
  | .local _ .vmem, ⟨18, _⟩ => ⟨S4096x256, .fp8e4m3⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1536x256, .f32⟩
  | .local _ .vmem, ⟨24, _⟩ => ⟨S1536x256, .f32⟩
  | .local _ .vmem, ⟨25, _⟩ => ⟨S128x14336, .f32⟩
  | .local _ .vmem, ⟨26, _⟩ => ⟨S128x14336, .f32⟩
  | .local _ .vmem, ⟨27, _⟩ => ⟨S128x14336, .fp8e4m3⟩
  | .local _ .vmem, ⟨28, _⟩ => ⟨S128x14336, .fp8e4m3⟩
  | .local _ .vmem, ⟨29, _⟩ => ⟨S128x1, .f32⟩
  | .local _ .vmem, ⟨30, _⟩ => ⟨S128x1, .f32⟩
  | .local _ .vmem, ⟨31, _⟩ => ⟨S1536x4096, .fp8e4m3⟩
  | .local _ .vmem, ⟨32, _⟩ => ⟨S1536x1, .f32⟩
  | .local _ .vmem, ⟨33, _⟩ => ⟨S1536x14336, .fp8e4m3⟩
  | .local _ .vmem, ⟨34, _⟩ => ⟨S1536x1, .f32⟩
  | .local _ .vmem, ⟨35, _⟩ => ⟨S4096x256, .fp8e4m3⟩
  | .local _ .vmem, ⟨36, _⟩ => ⟨S4096x256, .fp8e4m3⟩
  | .local _ .vmem, ⟨37, _⟩ => ⟨S14336x256, .fp8e4m3⟩
  | .local _ .vmem, ⟨38, _⟩ => ⟨S14336x256, .fp8e4m3⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S1536x256, .bf16⟩
  | .local _ .vmem, ⟨44, _⟩ => ⟨S1536x256, .bf16⟩
  | .local _ .vmem, ⟨45, _⟩ => ⟨S1536x256, .bf16⟩
  | .local _ .vmem, ⟨46, _⟩ => ⟨S1536x256, .bf16⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc4_stg5_0 : Ref sig .tc := ⟨.vmem, 37, rfl⟩
abbrev cc4_stg5_1 : Ref sig .tc := ⟨.vmem, 38, rfl⟩
abbrev cc4_stg6_0 : Ref sig .tc := ⟨.vmem, 39, rfl⟩
abbrev cc4_stg6_1 : Ref sig .tc := ⟨.vmem, 40, rfl⟩
abbrev cc4_stg7_0 : Ref sig .tc := ⟨.vmem, 41, rfl⟩
abbrev cc4_stg7_1 : Ref sig .tc := ⟨.vmem, 42, rfl⟩
abbrev cc4_stg8_0 : Ref sig .tc := ⟨.vmem, 43, rfl⟩
abbrev cc4_stg8_1 : Ref sig .tc := ⟨.vmem, 44, rfl⟩
abbrev cc4_stg9_0 : Ref sig .tc := ⟨.vmem, 45, rfl⟩
abbrev cc4_stg9_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc4_sem0_0 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem4_1 : DmaSem sig := 36
abbrev cc4_sem5_0 : DmaSem sig := 37
abbrev cc4_sem5_1 : DmaSem sig := 38
abbrev cc4_sem6_0 : DmaSem sig := 39
abbrev cc4_sem6_1 : DmaSem sig := 40
abbrev cc4_sem7_0 : DmaSem sig := 41
abbrev cc4_sem7_1 : DmaSem sig := 42
abbrev cc4_sem8_0 : DmaSem sig := 43
abbrev cc4_sem8_1 : DmaSem sig := 44
abbrev cc4_sem9_0 : DmaSem sig := 45
abbrev cc4_sem9_1 : DmaSem sig := 46

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![56], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc2_transform_4 (i : grid2.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc2_transform_5 (i : grid2.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1536x4096 .fp8e4m3 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1536x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x256 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x256 .fp8e4m3 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1536x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![12], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x14336 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S128x14336 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S1536x4096 .fp8e4m3 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1536x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1536x14336 .fp8e4m3 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1536x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4096x256 .fp8e4m3 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S14336x256 .fp8e4m3 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1536x256 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S1536x256 .bf16 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]
-- ==== ReferenceIdeal.lean ====
abbrev S1536x4096 : Shape := ⟨2, ![1536, 4096]⟩
abbrev S4096 : Shape := ⟨1, ![4096]⟩
abbrev S4096x34816 : Shape := ⟨2, ![4096, 34816]⟩
abbrev S34816 : Shape := ⟨1, ![34816]⟩
abbrev S32x128x4096 : Shape := ⟨3, ![32, 128, 4096]⟩
abbrev S14336x4096 : Shape := ⟨2, ![14336, 4096]⟩
abbrev S1536 : Shape := ⟨1, ![1536]⟩
abbrev S1536x32x128 : Shape := ⟨3, ![1536, 32, 128]⟩
abbrev S1536x14336 : Shape := ⟨2, ![1536, 14336]⟩
abbrev S1536x1 : Shape := ⟨2, ![1536, 1]⟩
abbrev S1x4096 : Shape := ⟨2, ![1, 4096]⟩
abbrev S1536x34816 : Shape := ⟨2, ![1536, 34816]⟩
abbrev S1x34816 : Shape := ⟨2, ![1, 34816]⟩
abbrev S1536x1024 : Shape := ⟨2, ![1536, 1024]⟩
abbrev S1536x1x1 : Shape := ⟨3, ![1536, 1, 1]⟩

abbrev nBuf : Space → Nat
  | .hbm => 16
  | .vmem => 16
  | .smem => 0
  | _ => 0

abbrev bufTy : (tb : Table) → Fin (tcTables nBuf tb) → BufTy
  | .hbm, ⟨0, _⟩ => ⟨S1536x4096, .bf16⟩
  | .hbm, ⟨1, _⟩ => ⟨S4096, .f32⟩
  | .hbm, ⟨2, _⟩ => ⟨S4096x34816, .fp8e4m3⟩
  | .hbm, ⟨3, _⟩ => ⟨S34816, .f32⟩
  | .hbm, ⟨4, _⟩ => ⟨S1536x4096, .f32⟩
  | .hbm, ⟨5, _⟩ => ⟨S32x128x4096, .fp8e4m3⟩
  | .hbm, ⟨6, _⟩ => ⟨S4096, .f32⟩
  | .hbm, ⟨7, _⟩ => ⟨S14336x4096, .fp8e4m3⟩
  | .hbm, ⟨8, _⟩ => ⟨S4096, .f32⟩
  | .hbm, ⟨9, _⟩ => ⟨S1536x4096, .bf16⟩
  | .hbm, ⟨10, _⟩ => ⟨S1536x4096, .fp8e4m3⟩
  | .hbm, ⟨11, _⟩ => ⟨S1536, .f32⟩
  | .hbm, ⟨12, _⟩ => ⟨S1536x32x128, .fp8e4m3⟩
  | .hbm, ⟨13, _⟩ => ⟨S1536, .f32⟩
  | .hbm, ⟨14, _⟩ => ⟨S1536x14336, .fp8e4m3⟩
  | .hbm, ⟨15, _⟩ => ⟨S1536, .f32⟩
  | .local _ .vmem, ⟨0, _⟩ => ⟨S1536x4096, .bf16⟩
  | .local _ .vmem, ⟨1, _⟩ => ⟨S4096, .f32⟩
  | .local _ .vmem, ⟨2, _⟩ => ⟨S4096x34816, .fp8e4m3⟩
  | .local _ .vmem, ⟨3, _⟩ => ⟨S34816, .f32⟩
  | .local _ .vmem, ⟨4, _⟩ => ⟨S1536x4096, .f32⟩
  | .local _ .vmem, ⟨5, _⟩ => ⟨S32x128x4096, .fp8e4m3⟩
  | .local _ .vmem, ⟨6, _⟩ => ⟨S4096, .f32⟩
  | .local _ .vmem, ⟨7, _⟩ => ⟨S14336x4096, .fp8e4m3⟩
  | .local _ .vmem, ⟨8, _⟩ => ⟨S4096, .f32⟩
  | .local _ .vmem, ⟨9, _⟩ => ⟨S1536x4096, .bf16⟩
  | .local _ .vmem, ⟨10, _⟩ => ⟨S1536x4096, .fp8e4m3⟩
  | .local _ .vmem, ⟨11, _⟩ => ⟨S1536, .f32⟩
  | .local _ .vmem, ⟨12, _⟩ => ⟨S1536x32x128, .fp8e4m3⟩
  | .local _ .vmem, ⟨13, _⟩ => ⟨S1536, .f32⟩
  | .local _ .vmem, ⟨14, _⟩ => ⟨S1536x14336, .fp8e4m3⟩
  | .local _ .vmem, ⟨15, _⟩ => ⟨S1536, .f32⟩
  | _, _ => ⟨S1536x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x34816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S34816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14336x4096 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x32x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1536x14336 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Qkv.lean ====
abbrev S1536x4096 : Shape := ⟨2, ![1536, 4096]⟩
abbrev S1536x1 : Shape := ⟨2, ![1536, 1]⟩
abbrev S4096x34816 : Shape := ⟨2, ![4096, 34816]⟩
abbrev S34816 : Shape := ⟨1, ![34816]⟩
abbrev S8 : Shape := ⟨1, ![8]⟩
abbrev S1x34816 : Shape := ⟨2, ![1, 34816]⟩
abbrev S16 : Shape := ⟨1, ![16]⟩
abbrev S1536x2048 : Shape := ⟨2, ![1536, 2048]⟩
abbrev S4096x512 : Shape := ⟨2, ![4096, 512]⟩
abbrev S1x512 : Shape := ⟨2, ![1, 512]⟩
abbrev S1536x512 : Shape := ⟨2, ![1536, 512]⟩
abbrev S512x4096 : Shape := ⟨2, ![512, 4096]⟩
abbrev S512x512 : Shape := ⟨2, ![512, 512]⟩
abbrev S512x1 : Shape := ⟨2, ![512, 1]⟩
abbrev S1 : Shape := ⟨1, ![1]⟩
abbrev S512x128 : Shape := ⟨2, ![512, 128]⟩
abbrev S1536x1024 : Shape := ⟨2, ![1536, 1024]⟩
abbrev S1536x8x128 : Shape := ⟨3, ![1536, 8, 128]⟩

abbrev nBuf : Space → Nat
  | .hbm => 14
  | .vmem => 10
  | .smem => 1
  | _ => 0

abbrev bufTy : (tb : Table) → Fin (tcTables nBuf tb) → BufTy
  | .hbm, ⟨0, _⟩ => ⟨S1536x4096, .fp8e4m3⟩
  | .hbm, ⟨1, _⟩ => ⟨S1536x1, .f32⟩
  | .hbm, ⟨2, _⟩ => ⟨S4096x34816, .fp8e4m3⟩
  | .hbm, ⟨3, _⟩ => ⟨S34816, .f32⟩
  | .hbm, ⟨4, _⟩ => ⟨S8, .f32⟩
  | .hbm, ⟨5, _⟩ => ⟨S8, .f32⟩
  | .hbm, ⟨6, _⟩ => ⟨S1x34816, .f32⟩
  | .hbm, ⟨7, _⟩ => ⟨S16, .f32⟩
  | .hbm, ⟨8, _⟩ => ⟨S1536x4096, .bf16⟩
  | .hbm, ⟨9, _⟩ => ⟨S1536x2048, .fp8e4m3⟩
  | .hbm, ⟨10, _⟩ => ⟨S1536x1024, .fp8e4m3⟩
  | .hbm, ⟨11, _⟩ => ⟨S1536x8x128, .fp8e4m3⟩
  | .hbm, ⟨12, _⟩ => ⟨S1536x1024, .fp8e4m3⟩
  | .hbm, ⟨13, _⟩ => ⟨S1536x8x128, .fp8e4m3⟩
  | .local _ .vmem, ⟨0, _⟩ => ⟨S1536x4096, .fp8e4m3⟩
  | .local _ .vmem, ⟨1, _⟩ => ⟨S1536x1, .f32⟩
  | .local _ .vmem, ⟨2, _⟩ => ⟨S4096x512, .fp8e4m3⟩
  | .local _ .vmem, ⟨3, _⟩ => ⟨S4096x512, .fp8e4m3⟩
  | .local _ .vmem, ⟨4, _⟩ => ⟨S1x512, .f32⟩
  | .local _ .vmem, ⟨5, _⟩ => ⟨S1x512, .f32⟩
  | .local _ .vmem, ⟨6, _⟩ => ⟨S1536x512, .bf16⟩
  | .local _ .vmem, ⟨7, _⟩ => ⟨S1536x512, .bf16⟩
  | .local _ .vmem, ⟨8, _⟩ => ⟨S1536x512, .fp8e4m3⟩
  | .local _ .vmem, ⟨9, _⟩ => ⟨S1536x512, .fp8e4m3⟩
  | .local _ .smem, ⟨0, _⟩ => ⟨S16, .f32⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def k0_off1 (i : grid0.Coords) (c0_i32_10 : BitVec 32) : Fin 1 → Nat :=
  let arg0 : BitVec 32 := BitVec.ofNat 32 (i 0).val
  let c8_i32_9 : BitVec 32 := 8#32
  let v16 : BitVec 32 := Scalar.subi arg0 c8_i32_9
  let c4_i32 : BitVec 32 := 4#32
  let v17 : BitVec 32 := Scalar.muli v16 c4_i32
  let v18 : BitVec 32 := Scalar.addi v17 c0_i32_10
  let v19 : Index := Scalar.indexCast v18
  ![v19.toNat]
def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QkvReferenceIdeal.lean ====
abbrev S1536x4096 : Shape := ⟨2, ![1536, 4096]⟩
abbrev S1536x1 : Shape := ⟨2, ![1536, 1]⟩
abbrev S4096x34816 : Shape := ⟨2, ![4096, 34816]⟩
abbrev S34816 : Shape := ⟨1, ![34816]⟩
abbrev S8 : Shape := ⟨1, ![8]⟩
abbrev S1536x8x128 : Shape := ⟨3, ![1536, 8, 128]⟩
abbrev S1536x34816 : Shape := ⟨2, ![1536, 34816]⟩
abbrev S1x34816 : Shape := ⟨2, ![1, 34816]⟩
abbrev S1536x1024 : Shape := ⟨2, ![1536, 1024]⟩
abbrev S1536x14336 : Shape := ⟨2, ![1536, 14336]⟩
abbrev S1x8x1 : Shape := ⟨3, ![1, 8, 1]⟩

abbrev nBuf : Space → Nat
  | .hbm => 9
  | .vmem => 9
  | .smem => 0
  | _ => 0

abbrev bufTy : (tb : Table) → Fin (tcTables nBuf tb) → BufTy
  | .hbm, ⟨0, _⟩ => ⟨S1536x4096, .fp8e4m3⟩
  | .hbm, ⟨1, _⟩ => ⟨S1536x1, .f32⟩
  | .hbm, ⟨2, _⟩ => ⟨S4096x34816, .fp8e4m3⟩
  | .hbm, ⟨3, _⟩ => ⟨S34816, .f32⟩
  | .hbm, ⟨4, _⟩ => ⟨S8, .f32⟩
  | .hbm, ⟨5, _⟩ => ⟨S8, .f32⟩
  | .hbm, ⟨6, _⟩ => ⟨S1536x4096, .bf16⟩
  | .hbm, ⟨7, _⟩ => ⟨S1536x8x128, .fp8e4m3⟩
  | .hbm, ⟨8, _⟩ => ⟨S1536x8x128, .fp8e4m3⟩
  | .local _ .vmem, ⟨0, _⟩ => ⟨S1536x4096, .fp8e4m3⟩
  | .local _ .vmem, ⟨1, _⟩ => ⟨S1536x1, .f32⟩
  | .local _ .vmem, ⟨2, _⟩ => ⟨S4096x34816, .fp8e4m3⟩
  | .local _ .vmem, ⟨3, _⟩ => ⟨S34816, .f32⟩
  | .local _ .vmem, ⟨4, _⟩ => ⟨S8, .f32⟩
  | .local _ .vmem, ⟨5, _⟩ => ⟨S8, .f32⟩
  | .local _ .vmem, ⟨6, _⟩ => ⟨S1536x4096, .bf16⟩
  | .local _ .vmem, ⟨7, _⟩ => ⟨S1536x8x128, .fp8e4m3⟩
  | .local _ .vmem, ⟨8, _⟩ => ⟨S1536x8x128, .fp8e4m3⟩
  | _, _ => ⟨S1536x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1536x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x34816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S34816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x8x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x8x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Attn.lean ====
abbrev S4 : Shape := ⟨1, ![4]⟩
abbrev S8 : Shape := ⟨1, ![8]⟩
abbrev S1536x4096 : Shape := ⟨2, ![1536, 4096]⟩
abbrev S1536x2048 : Shape := ⟨2, ![1536, 2048]⟩
abbrev S256x512 : Shape := ⟨2, ![256, 512]⟩
abbrev S1536x128 : Shape := ⟨2, ![1536, 128]⟩
abbrev S1 : Shape := ⟨1, ![1]⟩
abbrev S256x128 : Shape := ⟨2, ![256, 128]⟩
abbrev S1024x128 : Shape := ⟨2, ![1024, 128]⟩
abbrev S1024x256 : Shape := ⟨2, ![1024, 256]⟩
abbrev S1024x1 : Shape := ⟨2, ![1024, 1]⟩
abbrev S1024 : Shape := ⟨1, ![1024]⟩

abbrev nBuf : Space → Nat
  | .hbm => 6
  | .vmem => 8
  | .smem => 3
  | _ => 0

abbrev bufTy : (tb : Table) → Fin (tcTables nBuf tb) → BufTy
  | .hbm, ⟨0, _⟩ => ⟨S4, .i32⟩
  | .hbm, ⟨1, _⟩ => ⟨S8, .f32⟩
  | .hbm, ⟨2, _⟩ => ⟨S8, .f32⟩
  | .hbm, ⟨3, _⟩ => ⟨S1536x4096, .bf16⟩
  | .hbm, ⟨4, _⟩ => ⟨S1536x2048, .fp8e4m3⟩
  | .hbm, ⟨5, _⟩ => ⟨S1536x4096, .f32⟩
  | .local _ .vmem, ⟨0, _⟩ => ⟨S256x512, .bf16⟩
  | .local _ .vmem, ⟨1, _⟩ => ⟨S256x512, .bf16⟩
  | .local _ .vmem, ⟨2, _⟩ => ⟨S1536x128, .fp8e4m3⟩
  | .local _ .vmem, ⟨3, _⟩ => ⟨S1536x128, .fp8e4m3⟩
  | .local _ .vmem, ⟨4, _⟩ => ⟨S1536x128, .fp8e4m3⟩
  | .local _ .vmem, ⟨5, _⟩ => ⟨S1536x128, .fp8e4m3⟩
  | .local _ .vmem, ⟨6, _⟩ => ⟨S256x512, .f32⟩
  | .local _ .vmem, ⟨7, _⟩ => ⟨S256x512, .f32⟩
  | .local _ .smem, ⟨0, _⟩ => ⟨S4, .i32⟩
  | .local _ .smem, ⟨1, _⟩ => ⟨S8, .f32⟩
  | .local _ .smem, ⟨2, _⟩ => ⟨S8, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![6, 8], ![false, false]⟩

def k0_off1 (i : grid0.Coords) : Fin 1 → Nat :=
  let arg1 : BitVec 32 := BitVec.ofNat 32 (i 1).val
  let v0 : Index := Scalar.indexCast arg1
  ![v0.toNat]
def k0_mult1 (i : grid0.Coords) : BitVec 32 :=
  let arg0 : BitVec 32 := BitVec.ofNat 32 (i 0).val
  let c256_i32_23 : BitVec 32 := 256#32
  let v61 : BitVec 32 := Scalar.muli arg0 c256_i32_23
  v61
def k0_off2 (i : grid0.Coords) : Fin 2 → Nat :=
  let arg0 : BitVec 32 := BitVec.ofNat 32 (i 0).val
  let c256_i32_23 : BitVec 32 := 256#32
  let v61 : BitVec 32 := Scalar.muli arg0 c256_i32_23
  let v62 : BitVec 32 := v61
  let v63 : Index := Scalar.indexCast v62
  let c0_24 : Index := 0#32
  ![v63.toNat, 0]
def k0_mult2 (i : grid0.Coords) : BitVec 32 :=
  let arg0 : BitVec 32 := BitVec.ofNat 32 (i 0).val
  let c256_i32_25 : BitVec 32 := 256#32
  let v66 : BitVec 32 := Scalar.muli arg0 c256_i32_25
  v66
@[reducible] def k0_t1_loop (i : grid0.Coords) (v26 : BitVec 32) (v29 : BitVec 32) (v39 : BitVec 32) (v42 : BitVec 32) (v52 : BitVec 32) (v55 : BitVec 32) : Scf.Loop 32 :=
  let arg0 : BitVec 32 := BitVec.ofNat 32 (i 0).val
  let c256_i32_18 : BitVec 32 := 256#32
  let v53 : BitVec 32 := Scalar.muli arg0 c256_i32_18
  let v54 : BitVec 1 := Scalar.cmpi .sle v52 v53
  let c256_i32_14 : BitVec 32 := 256#32
  let v40 : BitVec 32 := Scalar.muli arg0 c256_i32_14
  let v41 : BitVec 1 := Scalar.cmpi .sle v39 v40
  let c256_i32_8 : BitVec 32 := 256#32
  let v27 : BitVec 32 := Scalar.muli arg0 c256_i32_8
  let v28 : BitVec 1 := Scalar.cmpi .sle v26 v27
  let c0_i32_10 : BitVec 32 := 0#32
  let v30 : BitVec 32 := Scalar.maxsi v29 c0_i32_10
  let c0_i32_11 : BitVec 32 := 0#32
  let v31 : BitVec 32 := Scalar.select v28 v30 c0_i32_11
  let v43 : BitVec 32 := Scalar.maxsi v42 v31
  let v44 : BitVec 32 := Scalar.select v41 v43 v31
  let v56 : BitVec 32 := Scalar.maxsi v55 v44
  let v57 : BitVec 32 := Scalar.select v54 v56 v44
  let c256_i32_33 : BitVec 32 := 256#32
  let v102 : BitVec 32 := Scalar.divsi v57 c256_i32_33
  let v103 : BitVec 32 := Scalar.subi arg0 v102
  let c1_i32 : BitVec 32 := 1#32
  let v105 : BitVec 32 := Scalar.divsi v103 c1_i32
  let v106 : BitVec 32 := Scalar.muli v105 c1_i32
  let v107 : BitVec 32 := Scalar.addi v102 v106
  let c1_i32_34 : BitVec 32 := 1#32
  ⟨v102, v107, c1_i32_34⟩

def k0_mult3 (i : grid0.Coords) (v26 : BitVec 32) (v29 : BitVec 32) (v39 : BitVec 32) (v42 : BitVec 32) (v52 : BitVec 32) (v55 : BitVec 32) (k0_t1 : Fin (k0_t1_loop i v26 v29 v39 v42 v52 v55).trips) : BitVec 32 :=
  let arg0 : BitVec 32 := BitVec.ofNat 32 (i 0).val
  let c256_i32_18 : BitVec 32 := 256#32
  let v53 : BitVec 32 := Scalar.muli arg0 c256_i32_18
  let v54 : BitVec 1 := Scalar.cmpi .sle v52 v53
  let c256_i32_14 : BitVec 32 := 256#32
  let v40 : BitVec 32 := Scalar.muli arg0 c256_i32_14
  let v41 : BitVec 1 := Scalar.cmpi .sle v39 v40
  let c256_i32_8 : BitVec 32 := 256#32
  let v27 : BitVec 32 := Scalar.muli arg0 c256_i32_8
  let v28 : BitVec 1 := Scalar.cmpi .sle v26 v27
  let c0_i32_10 : BitVec 32 := 0#32
  let v30 : BitVec 32 := Scalar.maxsi v29 c0_i32_10
  let c0_i32_11 : BitVec 32 := 0#32
  let v31 : BitVec 32 := Scalar.select v28 v30 c0_i32_11
  let v43 : BitVec 32 := Scalar.maxsi v42 v31
  let v44 : BitVec 32 := Scalar.select v41 v43 v31
  let v56 : BitVec 32 := Scalar.maxsi v55 v44
  let v57 : BitVec 32 := Scalar.select v54 v56 v44
  let c256_i32_33 : BitVec 32 := 256#32
  let v102 : BitVec 32 := Scalar.divsi v57 c256_i32_33
  let c1_i32_34 : BitVec 32 := 1#32
  let arg9 : BitVec 32 := Scf.iv v102 c1_i32_34 k0_t1
  let c256_i32_44 : BitVec 32 := 256#32
  let v120 : BitVec 32 := Scalar.muli arg9 c256_i32_44
  v120
def k0_off3 (i : grid0.Coords) (v26 : BitVec 32) (v29 : BitVec 32) (v39 : BitVec 32) (v42 : BitVec 32) (v52 : BitVec 32) (v55 : BitVec 32) (k0_t1 : Fin (k0_t1_loop i v26 v29 v39 v42 v52 v55).trips) : Fin 2 → Nat :=
  let arg0 : BitVec 32 := BitVec.ofNat 32 (i 0).val
  let c256_i32_18 : BitVec 32 := 256#32
  let v53 : BitVec 32 := Scalar.muli arg0 c256_i32_18
  let v54 : BitVec 1 := Scalar.cmpi .sle v52 v53
  let c256_i32_14 : BitVec 32 := 256#32
  let v40 : BitVec 32 := Scalar.muli arg0 c256_i32_14
  let v41 : BitVec 1 := Scalar.cmpi .sle v39 v40
  let c256_i32_8 : BitVec 32 := 256#32
  let v27 : BitVec 32 := Scalar.muli arg0 c256_i32_8
  let v28 : BitVec 1 := Scalar.cmpi .sle v26 v27
  let c0_i32_10 : BitVec 32 := 0#32
  let v30 : BitVec 32 := Scalar.maxsi v29 c0_i32_10
  let c0_i32_11 : BitVec 32 := 0#32
  let v31 : BitVec 32 := Scalar.select v28 v30 c0_i32_11
  let v43 : BitVec 32 := Scalar.maxsi v42 v31
  let v44 : BitVec 32 := Scalar.select v41 v43 v31
  let v56 : BitVec 32 := Scalar.maxsi v55 v44
  let v57 : BitVec 32 := Scalar.select v54 v56 v44
  let c256_i32_33 : BitVec 32 := 256#32
  let v102 : BitVec 32 := Scalar.divsi v57 c256_i32_33
  let c1_i32_34 : BitVec 32 := 1#32
  let arg9 : BitVec 32 := Scf.iv v102 c1_i32_34 k0_t1
  let c256_i32_44 : BitVec 32 := 256#32
  let v120 : BitVec 32 := Scalar.muli arg9 c256_i32_44
  let v121 : BitVec 32 := v120
  let v122 : Index := Scalar.indexCast v121
  let c0_45 : Index := 0#32
  ![v122.toNat, 0]
def k0_mult4 (i : grid0.Coords) (v26 : BitVec 32) (v29 : BitVec 32) (v39 : BitVec 32) (v42 : BitVec 32) (v52 : BitVec 32) (v55 : BitVec 32) (k0_t1 : Fin (k0_t1_loop i v26 v29 v39 v42 v52 v55).trips) : BitVec 32 :=
  let arg0 : BitVec 32 := BitVec.ofNat 32 (i 0).val
  let c256_i32_18 : BitVec 32 := 256#32
  let v53 : BitVec 32 := Scalar.muli arg0 c256_i32_18
  let v54 : BitVec 1 := Scalar.cmpi .sle v52 v53
  let c256_i32_14 : BitVec 32 := 256#32
  let v40 : BitVec 32 := Scalar.muli arg0 c256_i32_14
  let v41 : BitVec 1 := Scalar.cmpi .sle v39 v40
  let c256_i32_8 : BitVec 32 := 256#32
  let v27 : BitVec 32 := Scalar.muli arg0 c256_i32_8
  let v28 : BitVec 1 := Scalar.cmpi .sle v26 v27
  let c0_i32_10 : BitVec 32 := 0#32
  let v30 : BitVec 32 := Scalar.maxsi v29 c0_i32_10
  let c0_i32_11 : BitVec 32 := 0#32
  let v31 : BitVec 32 := Scalar.select v28 v30 c0_i32_11
  let v43 : BitVec 32 := Scalar.maxsi v42 v31
  let v44 : BitVec 32 := Scalar.select v41 v43 v31
  let v56 : BitVec 32 := Scalar.maxsi v55 v44
  let v57 : BitVec 32 := Scalar.select v54 v56 v44
  let c256_i32_33 : BitVec 32 := 256#32
  let v102 : BitVec 32 := Scalar.divsi v57 c256_i32_33
  let c1_i32_34 : BitVec 32 := 1#32
  let arg9 : BitVec 32 := Scf.iv v102 c1_i32_34 k0_t1
  let c256_i32_46 : BitVec 32 := 256#32
  let v125 : BitVec 32 := Scalar.muli arg9 c256_i32_46
  v125
@[reducible] def k0_t2_loop (i : grid0.Coords) (v26 : BitVec 32) (v29 : BitVec 32) (v39 : BitVec 32) (v42 : BitVec 32) (v52 : BitVec 32) (v55 : BitVec 32) : Scf.Loop 32 :=
  let arg0 : BitVec 32 := BitVec.ofNat 32 (i 0).val
  let c256_i32_18 : BitVec 32 := 256#32
  let v53 : BitVec 32 := Scalar.muli arg0 c256_i32_18
  let v54 : BitVec 1 := Scalar.cmpi .sle v52 v53
  let c256_i32_14 : BitVec 32 := 256#32
  let v40 : BitVec 32 := Scalar.muli arg0 c256_i32_14
  let v41 : BitVec 1 := Scalar.cmpi .sle v39 v40
  let c256_i32_8 : BitVec 32 := 256#32
  let v27 : BitVec 32 := Scalar.muli arg0 c256_i32_8
  let v28 : BitVec 1 := Scalar.cmpi .sle v26 v27
  let c0_i32_10 : BitVec 32 := 0#32
  let v30 : BitVec 32 := Scalar.maxsi v29 c0_i32_10
  let c0_i32_11 : BitVec 32 := 0#32
  let v31 : BitVec 32 := Scalar.select v28 v30 c0_i32_11
  let v43 : BitVec 32 := Scalar.maxsi v42 v31
  let v44 : BitVec 32 := Scalar.select v41 v43 v31
  let v56 : BitVec 32 := Scalar.maxsi v55 v44
  let v57 : BitVec 32 := Scalar.select v54 v56 v44
  let c256_i32_33 : BitVec 32 := 256#32
  let v102 : BitVec 32 := Scalar.divsi v57 c256_i32_33
  let v103 : BitVec 32 := Scalar.subi arg0 v102
  let c1_i32 : BitVec 32 := 1#32
  let v105 : BitVec 32 := Scalar.divsi v103 c1_i32
  let v106 : BitVec 32 := Scalar.muli v105 c1_i32
  let v107 : BitVec 32 := Scalar.addi v102 v106
  let v104 : BitVec 32 := Scalar.addi v102 v103
  let c1_i32_35 : BitVec 32 := 1#32
  ⟨v107, v104, c1_i32_35⟩
def k0_mult5 (i : grid0.Coords) (v26 : BitVec 32) (v29 : BitVec 32) (v39 : BitVec 32) (v42 : BitVec 32) (v52 : BitVec 32) (v55 : BitVec 32) (k0_t2 : Fin (k0_t2_loop i v26 v29 v39 v42 v52 v55).trips) : BitVec 32 :=
  let arg0 : BitVec 32 := BitVec.ofNat 32 (i 0).val
  let c256_i32_18 : BitVec 32 := 256#32
  let v53 : BitVec 32 := Scalar.muli arg0 c256_i32_18
  let v54 : BitVec 1 := Scalar.cmpi .sle v52 v53
  let c256_i32_14 : BitVec 32 := 256#32
  let v40 : BitVec 32 := Scalar.muli arg0 c256_i32_14
  let v41 : BitVec 1 := Scalar.cmpi .sle v39 v40
  let c256_i32_8 : BitVec 32 := 256#32
  let v27 : BitVec 32 := Scalar.muli arg0 c256_i32_8
  let v28 : BitVec 1 := Scalar.cmpi .sle v26 v27
  let c0_i32_10 : BitVec 32 := 0#32
  let v30 : BitVec 32 := Scalar.maxsi v29 c0_i32_10
  let c0_i32_11 : BitVec 32 := 0#32
  let v31 : BitVec 32 := Scalar.select v28 v30 c0_i32_11
  let v43 : BitVec 32 := Scalar.maxsi v42 v31
  let v44 : BitVec 32 := Scalar.select v41 v43 v31
  let v56 : BitVec 32 := Scalar.maxsi v55 v44
  let v57 : BitVec 32 := Scalar.select v54 v56 v44
  let c256_i32_33 : BitVec 32 := 256#32
  let v102 : BitVec 32 := Scalar.divsi v57 c256_i32_33
  let v103 : BitVec 32 := Scalar.subi arg0 v102
  let c1_i32 : BitVec 32 := 1#32
  let v105 : BitVec 32 := Scalar.divsi v103 c1_i32
  let v106 : BitVec 32 := Scalar.muli v105 c1_i32
  let v107 : BitVec 32 := Scalar.addi v102 v106
  let c1_i32_35 : BitVec 32 := 1#32
  let arg9 : BitVec 32 := Scf.iv v107 c1_i32_35 k0_t2
  let c256_i32_44 : BitVec 32 := 256#32
  let v120 : BitVec 32 := Scalar.muli arg9 c256_i32_44
  v120
def k0_off4 (i : grid0.Coords) (v26 : BitVec 32) (v29 : BitVec 32) (v39 : BitVec 32) (v42 : BitVec 32) (v52 : BitVec 32) (v55 : BitVec 32) (k0_t2 : Fin (k0_t2_loop i v26 v29 v39 v42 v52 v55).trips) : Fin 2 → Nat :=
  let arg0 : BitVec 32 := BitVec.ofNat 32 (i 0).val
  let c256_i32_18 : BitVec 32 := 256#32
  let v53 : BitVec 32 := Scalar.muli arg0 c256_i32_18
  let v54 : BitVec 1 := Scalar.cmpi .sle v52 v53
  let c256_i32_14 : BitVec 32 := 256#32
  let v40 : BitVec 32 := Scalar.muli arg0 c256_i32_14
  let v41 : BitVec 1 := Scalar.cmpi .sle v39 v40
  let c256_i32_8 : BitVec 32 := 256#32
  let v27 : BitVec 32 := Scalar.muli arg0 c256_i32_8
  let v28 : BitVec 1 := Scalar.cmpi .sle v26 v27
  let c0_i32_10 : BitVec 32 := 0#32
  let v30 : BitVec 32 := Scalar.maxsi v29 c0_i32_10
  let c0_i32_11 : BitVec 32 := 0#32
  let v31 : BitVec 32 := Scalar.select v28 v30 c0_i32_11
  let v43 : BitVec 32 := Scalar.maxsi v42 v31
  let v44 : BitVec 32 := Scalar.select v41 v43 v31
  let v56 : BitVec 32 := Scalar.maxsi v55 v44
  let v57 : BitVec 32 := Scalar.select v54 v56 v44
  let c256_i32_33 : BitVec 32 := 256#32
  let v102 : BitVec 32 := Scalar.divsi v57 c256_i32_33
  let v103 : BitVec 32 := Scalar.subi arg0 v102
  let c1_i32 : BitVec 32 := 1#32
  let v105 : BitVec 32 := Scalar.divsi v103 c1_i32
  let v106 : BitVec 32 := Scalar.muli v105 c1_i32
  let v107 : BitVec 32 := Scalar.addi v102 v106
  let c1_i32_35 : BitVec 32 := 1#32
  let arg9 : BitVec 32 := Scf.iv v107 c1_i32_35 k0_t2
  let c256_i32_44 : BitVec 32 := 256#32
  let v120 : BitVec 32 := Scalar.muli arg9 c256_i32_44
  let v121 : BitVec 32 := v120
  let v122 : Index := Scalar.indexCast v121
  let c0_45 : Index := 0#32
  ![v122.toNat, 0]
def k0_mult6 (i : grid0.Coords) (v26 : BitVec 32) (v29 : BitVec 32) (v39 : BitVec 32) (v42 : BitVec 32) (v52 : BitVec 32) (v55 : BitVec 32) (k0_t2 : Fin (k0_t2_loop i v26 v29 v39 v42 v52 v55).trips) : BitVec 32 :=
  let arg0 : BitVec 32 := BitVec.ofNat 32 (i 0).val
  let c256_i32_18 : BitVec 32 := 256#32
  let v53 : BitVec 32 := Scalar.muli arg0 c256_i32_18
  let v54 : BitVec 1 := Scalar.cmpi .sle v52 v53
  let c256_i32_14 : BitVec 32 := 256#32
  let v40 : BitVec 32 := Scalar.muli arg0 c256_i32_14
  let v41 : BitVec 1 := Scalar.cmpi .sle v39 v40
  let c256_i32_8 : BitVec 32 := 256#32
  let v27 : BitVec 32 := Scalar.muli arg0 c256_i32_8
  let v28 : BitVec 1 := Scalar.cmpi .sle v26 v27
  let c0_i32_10 : BitVec 32 := 0#32
  let v30 : BitVec 32 := Scalar.maxsi v29 c0_i32_10
  let c0_i32_11 : BitVec 32 := 0#32
  let v31 : BitVec 32 := Scalar.select v28 v30 c0_i32_11
  let v43 : BitVec 32 := Scalar.maxsi v42 v31
  let v44 : BitVec 32 := Scalar.select v41 v43 v31
  let v56 : BitVec 32 := Scalar.maxsi v55 v44
  let v57 : BitVec 32 := Scalar.select v54 v56 v44
  let c256_i32_33 : BitVec 32 := 256#32
  let v102 : BitVec 32 := Scalar.divsi v57 c256_i32_33
  let v103 : BitVec 32 := Scalar.subi arg0 v102
  let c1_i32 : BitVec 32 := 1#32
  let v105 : BitVec 32 := Scalar.divsi v103 c1_i32
  let v106 : BitVec 32 := Scalar.muli v105 c1_i32
  let v107 : BitVec 32 := Scalar.addi v102 v106
  let c1_i32_35 : BitVec 32 := 1#32
  let arg9 : BitVec 32 := Scf.iv v107 c1_i32_35 k0_t2
  let c256_i32_46 : BitVec 32 := 256#32
  let v125 : BitVec 32 := Scalar.muli arg9 c256_i32_46
  v125

def k0_chk1 (i : grid0.Coords) (v26 : BitVec 32) (v29 : BitVec 32) (v39 : BitVec 32) (v42 : BitVec 32) (v52 : BitVec 32) (v55 : BitVec 32) : Prop :=
  ((k0_t1_loop i v26 v29 v39 v42 v52 v55).OK) ∧
  (∀ k0_t1 : Fin (k0_t1_loop i v26 v29 v39 v42 v52 v55).trips, 256 ∣ (k0_mult3 i v26 v29 v39 v42 v52 v55 k0_t1).toNat) ∧
  (∀ k0_t1 : Fin (k0_t1_loop i v26 v29 v39 v42 v52 v55).trips, ∀ a, (k0_off3 i v26 v29 v39 v42 v52 v55 k0_t1) a + S256x128.size a ≤ S1536x128.size a) ∧
  (∀ k0_t1 : Fin (k0_t1_loop i v26 v29 v39 v42 v52 v55).trips, 256 ∣ (k0_mult4 i v26 v29 v39 v42 v52 v55 k0_t1).toNat) ∧
  ((k0_t2_loop i v26 v29 v39 v42 v52 v55).OK) ∧
  (∀ k0_t2 : Fin (k0_t2_loop i v26 v29 v39 v42 v52 v55).trips, 256 ∣ (k0_mult5 i v26 v29 v39 v42 v52 v55 k0_t2).toNat) ∧
  (∀ k0_t2 : Fin (k0_t2_loop i v26 v29 v39 v42 v52 v55).trips, ∀ a, (k0_off4 i v26 v29 v39 v42 v52 v55 k0_t2) a + S256x128.size a ≤ S1536x128.size a) ∧
  (∀ k0_t2 : Fin (k0_t2_loop i v26 v29 v39 v42 v52 v55).trips, 256 ∣ (k0_mult6 i v26 v29 v39 v42 v52 v55 k0_t2).toNat)
theorem k0_t1_ok : ∀ (i : grid0.Coords) (v26 : BitVec 32) (v29 : BitVec 32) (v39 : BitVec 32) (v42 : BitVec 32) (v52 : BitVec 32) (v55 : BitVec 32) (k0_hw1 : k0_chk1 i v26 v29 v39 v42 v52 v55), (k0_t1_loop i v26 v29 v39 v42 v52 v55).OK := fun i v26 v29 v39 v42 v52 v55 k0_hw1 => k0_hw1.1
theorem k0_mult3_dvd : ∀ (i : grid0.Coords) (v26 : BitVec 32) (v29 : BitVec 32) (v39 : BitVec 32) (v42 : BitVec 32) (v52 : BitVec 32) (v55 : BitVec 32) (k0_hw1 : k0_chk1 i v26 v29 v39 v42 v52 v55) (k0_t1 : Fin (k0_t1_loop i v26 v29 v39 v42 v52 v55).trips), 256 ∣ (k0_mult3 i v26 v29 v39 v42 v52 v55 k0_t1).toNat := fun i v26 v29 v39 v42 v52 v55 k0_hw1 k0_t1 => k0_hw1.2.1 k0_t1
theorem k0_off3_inb : ∀ (i : grid0.Coords) (v26 : BitVec 32) (v29 : BitVec 32) (v39 : BitVec 32) (v42 : BitVec 32) (v52 : BitVec 32) (v55 : BitVec 32) (k0_hw1 : k0_chk1 i v26 v29 v39 v42 v52 v55) (k0_t1 : Fin (k0_t1_loop i v26 v29 v39 v42 v52 v55).trips), ∀ a, (k0_off3 i v26 v29 v39 v42 v52 v55 k0_t1) a + S256x128.size a ≤ S1536x128.size a := fun i v26 v29 v39 v42 v52 v55 k0_hw1 k0_t1 => k0_hw1.2.2.1 k0_t1
theorem k0_mult4_dvd : ∀ (i : grid0.Coords) (v26 : BitVec 32) (v29 : BitVec 32) (v39 : BitVec 32) (v42 : BitVec 32) (v52 : BitVec 32) (v55 : BitVec 32) (k0_hw1 : k0_chk1 i v26 v29 v39 v42 v52 v55) (k0_t1 : Fin (k0_t1_loop i v26 v29 v39 v42 v52 v55).trips), 256 ∣ (k0_mult4 i v26 v29 v39 v42 v52 v55 k0_t1).toNat := fun i v26 v29 v39 v42 v52 v55 k0_hw1 k0_t1 => k0_hw1.2.2.2.1 k0_t1
theorem k0_t2_ok : ∀ (i : grid0.Coords) (v26 : BitVec 32) (v29 : BitVec 32) (v39 : BitVec 32) (v42 : BitVec 32) (v52 : BitVec 32) (v55 : BitVec 32) (k0_hw1 : k0_chk1 i v26 v29 v39 v42 v52 v55), (k0_t2_loop i v26 v29 v39 v42 v52 v55).OK := fun i v26 v29 v39 v42 v52 v55 k0_hw1 => k0_hw1.2.2.2.2.1
theorem k0_mult5_dvd : ∀ (i : grid0.Coords) (v26 : BitVec 32) (v29 : BitVec 32) (v39 : BitVec 32) (v42 : BitVec 32) (v52 : BitVec 32) (v55 : BitVec 32) (k0_hw1 : k0_chk1 i v26 v29 v39 v42 v52 v55) (k0_t2 : Fin (k0_t2_loop i v26 v29 v39 v42 v52 v55).trips), 256 ∣ (k0_mult5 i v26 v29 v39 v42 v52 v55 k0_t2).toNat := fun i v26 v29 v39 v42 v52 v55 k0_hw1 k0_t2 => k0_hw1.2.2.2.2.2.1 k0_t2
theorem k0_off4_inb : ∀ (i : grid0.Coords) (v26 : BitVec 32) (v29 : BitVec 32) (v39 : BitVec 32) (v42 : BitVec 32) (v52 : BitVec 32) (v55 : BitVec 32) (k0_hw1 : k0_chk1 i v26 v29 v39 v42 v52 v55) (k0_t2 : Fin (k0_t2_loop i v26 v29 v39 v42 v52 v55).trips), ∀ a, (k0_off4 i v26 v29 v39 v42 v52 v55 k0_t2) a + S256x128.size a ≤ S1536x128.size a := fun i v26 v29 v39 v42 v52 v55 k0_hw1 k0_t2 => k0_hw1.2.2.2.2.2.2.1 k0_t2
theorem k0_mult6_dvd : ∀ (i : grid0.Coords) (v26 : BitVec 32) (v29 : BitVec 32) (v39 : BitVec 32) (v42 : BitVec 32) (v52 : BitVec 32) (v55 : BitVec 32) (k0_hw1 : k0_chk1 i v26 v29 v39 v42 v52 v55) (k0_t2 : Fin (k0_t2_loop i v26 v29 v39 v42 v52 v55).trips), 256 ∣ (k0_mult6 i v26 v29 v39 v42 v52 v55 k0_t2).toNat := fun i v26 v29 v39 v42 v52 v55 k0_hw1 k0_t2 => k0_hw1.2.2.2.2.2.2.2 k0_t2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1536x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "mask" => some ⊥
  | _ => none
-- ==== AttnReferenceIdeal.lean ====
abbrev S4 : Shape := ⟨1, ![4]⟩
abbrev S8 : Shape := ⟨1, ![8]⟩
abbrev S1536x4096 : Shape := ⟨2, ![1536, 4096]⟩
abbrev S1536x2048 : Shape := ⟨2, ![1536, 2048]⟩
abbrev S1536x1024 : Shape := ⟨2, ![1536, 1024]⟩
abbrev S1536x8x128 : Shape := ⟨3, ![1536, 8, 128]⟩
abbrev S1x1536 : Shape := ⟨2, ![1, 1536]⟩
abbrev S1536 : Shape := ⟨1, ![1536]⟩
abbrev S1536x1 : Shape := ⟨2, ![1536, 1]⟩
abbrev S3 : Shape := ⟨1, ![3]⟩
abbrev S1x3 : Shape := ⟨2, ![1, 3]⟩
abbrev S1536x3 : Shape := ⟨2, ![1536, 3]⟩
abbrev S1536x1536 : Shape := ⟨2, ![1536, 1536]⟩
abbrev S1536x8x4x128 : Shape := ⟨4, ![1536, 8, 4, 128]⟩
abbrev S8x1536x1536x4 : Shape := ⟨4, ![8, 1536, 1536, 4]⟩
abbrev S8x4x1536x1536 : Shape := ⟨4, ![8, 4, 1536, 1536]⟩
abbrev S8x1x1x1 : Shape := ⟨4, ![8, 1, 1, 1]⟩
abbrev S1x1x1536x1536 : Shape := ⟨4, ![1, 1, 1536, 1536]⟩
abbrev S8x4x1536 : Shape := ⟨3, ![8, 4, 1536]⟩
abbrev S8x4x1536x1 : Shape := ⟨4, ![8, 4, 1536, 1]⟩
abbrev S8x128x4x1536 : Shape := ⟨4, ![8, 128, 4, 1536]⟩
abbrev S1536x8x4 : Shape := ⟨3, ![1536, 8, 4]⟩
abbrev S1536x8x4x1 : Shape := ⟨4, ![1536, 8, 4, 1]⟩

abbrev nBuf : Space → Nat
  | .hbm => 6
  | .vmem => 6
  | .smem => 0
  | _ => 0

abbrev bufTy : (tb : Table) → Fin (tcTables nBuf tb) → BufTy
  | .hbm, ⟨0, _⟩ => ⟨S4, .i32⟩
  | .hbm, ⟨1, _⟩ => ⟨S8, .f32⟩
  | .hbm, ⟨2, _⟩ => ⟨S8, .f32⟩
  | .hbm, ⟨3, _⟩ => ⟨S1536x4096, .bf16⟩
  | .hbm, ⟨4, _⟩ => ⟨S1536x2048, .fp8e4m3⟩
  | .hbm, ⟨5, _⟩ => ⟨S1536x4096, .f32⟩
  | .local _ .vmem, ⟨0, _⟩ => ⟨S4, .i32⟩
  | .local _ .vmem, ⟨1, _⟩ => ⟨S8, .f32⟩
  | .local _ .vmem, ⟨2, _⟩ => ⟨S8, .f32⟩
  | .local _ .vmem, ⟨3, _⟩ => ⟨S1536x4096, .bf16⟩
  | .local _ .vmem, ⟨4, _⟩ => ⟨S1536x2048, .fp8e4m3⟩
  | .local _ .vmem, ⟨5, _⟩ => ⟨S1536x4096, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Value.Run.lean ====
/- The run of the kernel with every buffer's final contents: each unscoped buffer ends at the last boundary's contents
   `Gen.W8`, a fold of the host stretches and the regions from the launch memory. -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of @main ends, and each unscoped buffer then holds what the fold says. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.KernelIdeal.Value
-- ==== Proof.Value.Forms.lean ====
/- The scalar forms of the row quantiser: every payload that scales or codes a row is read at an index as one of these. -/
module

public import Idealize.ShloMosaic.Lib.Pipeline.ValueKit
public import Idealize.ShloMosaic.Lib.Pointwise

@[expose] public section

set_option maxRecDepth 16384

noncomputable section

namespace Cert.Value

open Idealize.ShloMosaic Idealize.ShloMosaic.TcCoe Idealize.SL.Sem

/-- The scale of a row whose largest magnitude is `a`. -/
def scaleOf (a : EReal) : EReal := if a = 0 then 1 else Ideal.div a (Ideal.ofBits .f32 0x43E00000#32)

/-- The code of `y` in a row of scale `s`. -/
def codeOf (y s : EReal) : EReal :=
  min (Ideal.ofBits .f32 0x43E00000#32) (max (Ideal.ofBits .f32 0xC3E00000#32) (Ideal.div y s))

/-- The largest magnitude of a family. -/
def amaxOf {n : ℕ} (y : Fin n → EReal) : EReal :=
  Finset.fold max (Ideal.ofBits .f32 0xFF800000#32) (fun k => FloatOps.absf (F := Ideal) (φ := .f32) (y k)) Finset.univ

/-- The one row of a `1 × n` array. -/
abbrev row {n : ℕ} (a : (⟨2, ![1, n]⟩ : Shape).Idx → EReal) : (⟨1, ![n]⟩ : Shape).Idx → EReal := fun j => a (ix2 0 (j 0))

/-- A product of row codes with a weight matrix, scaled back by the rows' and the columns' scales. -/
def proj {n : ℕ} (c : Fin n → EReal) (w : Fin n → EReal) (s ws : EReal) : EReal := (∑ k : Fin n, c k * w k) * s * ws

/-- The gated product `silu g · u`. -/
def gated (g u : EReal) : EReal := g * Ideal.logistic g * u

end Cert.Value
-- ==== Proof.Value.LnQuant.lean ====
/- Region 0 of the kernel: layer norm and row quantisation of the input, block by block of 256 rows. Its two arrays are
   the reference's codes and scales of the same input. -/
module

public import proofs.«01_k».proof.Proof.Gen.KernelIdeal.Frame
public import proofs.«01_k».proof.Proof.Gen.ReferenceIdeal.Skeleton
public import proofs.«01_k».proof.Proof.Value.Forms
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

open Cert.Value

theorem code_rows256 (y : FVec Ideal S256x4096 .f32) (z : FVec Ideal S256x1 .f32) (r : Fin 256) (l : Fin 4096) :
    (truncf .fp8e4m3 (minimumf (broadcast S256x4096 (Scalar.ofBits .f32 0x43E00000#32))
      (maximumf (broadcast S256x4096 (Scalar.ofBits .f32 0xC3E00000#32))
        (divf y (broadcastTo S256x4096 z broadcasts_S256x1_S256x4096)))) bitsLt_fp8e4m3_f32
      : FVec Ideal S256x4096 .fp8e4m3) (ix2 r l) = codeOf (y (ix2 r l)) (z (ix2 r 0)) := by
  pointwise [codeOf]

theorem scale_of_max256 (a : FVec Ideal S256 .f32) (r : Fin 256) :
    (select (cmpf .oeq (shapeCast S256x1 a shapeCasts_S256_S256x1) (broadcast S256x1 (Scalar.ofBits .f32 0x00000000#32)))
      (broadcast S256x1 (Scalar.ofBits .f32 0x3F800000#32))
      (divf (shapeCast S256x1 a shapeCasts_S256_S256x1) (broadcast S256x1 (Scalar.ofBits .f32 0x43E00000#32)))
      : FVec Ideal S256x1 .f32) (ix2 r 0) = scaleOf (a (ix1 r)) := by
  pointwise [scaleOf]

theorem max_rows256 (y : FVec Ideal S256x4096 .f32) (r : Fin 256) :
    (multiReduction .maximumf [1] S256 (absf y) 0xFF800000#32 reduces_S256x4096_S256 (.inl rfl) rfl
      : FVec Ideal S256 .f32) (ix1 r) = amaxOf fun k => y (ix2 r k) := by
  pointwise [amaxOf]

theorem scale_rows256 (y : FVec Ideal S256x4096 .f32) (r : Fin 256) :
    (select (cmpf .oeq (shapeCast S256x1 (multiReduction .maximumf [1] S256 (absf y) 0xFF800000#32 reduces_S256x4096_S256 (.inl rfl) rfl) shapeCasts_S256_S256x1)
        (broadcast S256x1 (Scalar.ofBits .f32 0x00000000#32)))
      (broadcast S256x1 (Scalar.ofBits .f32 0x3F800000#32))
      (divf (shapeCast S256x1 (multiReduction .maximumf [1] S256 (absf y) 0xFF800000#32 reduces_S256x4096_S256 (.inl rfl) rfl) shapeCasts_S256_S256x1)
        (broadcast S256x1 (Scalar.ofBits .f32 0x43E00000#32)))
      : FVec Ideal S256x1 .f32) (ix2 r 0) = scaleOf (amaxOf fun k => y (ix2 r k)) :=
  (scale_of_max256 _ r).trans (congrArg scaleOf (max_rows256 y r))

theorem code_rows1536 (y : FVec Ideal Cert.ReferenceIdeal.S1536x4096 .f32) (z : FVec Ideal Cert.ReferenceIdeal.S1536x1 .f32) (r : Fin 1536) (l : Fin 4096) :
    (truncf .fp8e4m3 (minimumf (broadcast Cert.ReferenceIdeal.S1536x4096 (Scalar.ofBits .f32 0x43E00000#32))
      (maximumf (broadcast Cert.ReferenceIdeal.S1536x4096 (Scalar.ofBits .f32 0xC3E00000#32))
        (divf y (broadcastTo Cert.ReferenceIdeal.S1536x4096 z Cert.ReferenceIdeal.Gen.broadcasts_S1536x1_S1536x4096)))) Cert.ReferenceIdeal.Gen.bitsLt_fp8e4m3_f32
      : FVec Ideal Cert.ReferenceIdeal.S1536x4096 .fp8e4m3) (ix2 r l) = codeOf (y (ix2 r l)) (z (ix2 r 0)) := by
  pointwise [codeOf]

theorem scale_of_max1536 (a : FVec Ideal Cert.ReferenceIdeal.S1536 .f32) (r : Fin 1536) :
    (select (cmpf .oeq (shapeCast Cert.ReferenceIdeal.S1536x1 a Cert.ReferenceIdeal.Gen.shapeCasts_S1536_S1536x1) (broadcast Cert.ReferenceIdeal.S1536x1 (Scalar.ofBits .f32 0x00000000#32)))
      (broadcast Cert.ReferenceIdeal.S1536x1 (Scalar.ofBits .f32 0x3F800000#32))
      (divf (shapeCast Cert.ReferenceIdeal.S1536x1 a Cert.ReferenceIdeal.Gen.shapeCasts_S1536_S1536x1) (broadcast Cert.ReferenceIdeal.S1536x1 (Scalar.ofBits .f32 0x43E00000#32)))
      : FVec Ideal Cert.ReferenceIdeal.S1536x1 .f32) (ix2 r 0) = scaleOf (a (ix1 r)) := by
  pointwise [scaleOf]

theorem max_rows1536 (y : FVec Ideal Cert.ReferenceIdeal.S1536x4096 .f32) (r : Fin 1536) :
    (multiReduction .maximumf [1] Cert.ReferenceIdeal.S1536 (absf y) 0xFF800000#32 Cert.ReferenceIdeal.Gen.reduces_S1536x4096_S1536 (.inl rfl) rfl
      : FVec Ideal Cert.ReferenceIdeal.S1536 .f32) (ix1 r) = amaxOf fun k => y (ix2 r k) := by
  pointwise [amaxOf]

theorem scale_rows1536 (y : FVec Ideal Cert.ReferenceIdeal.S1536x4096 .f32) (r : Fin 1536) :
    (select (cmpf .oeq (shapeCast Cert.ReferenceIdeal.S1536x1 (multiReduction .maximumf [1] Cert.ReferenceIdeal.S1536 (absf y) 0xFF800000#32 Cert.ReferenceIdeal.Gen.reduces_S1536x4096_S1536 (.inl rfl) rfl) Cert.ReferenceIdeal.Gen.shapeCasts_S1536_S1536x1)
        (broadcast Cert.ReferenceIdeal.S1536x1 (Scalar.ofBits .f32 0x00000000#32)))
      (broadcast Cert.ReferenceIdeal.S1536x1 (Scalar.ofBits .f32 0x3F800000#32))
      (divf (shapeCast Cert.ReferenceIdeal.S1536x1 (multiReduction .maximumf [1] Cert.ReferenceIdeal.S1536 (absf y) 0xFF800000#32 Cert.ReferenceIdeal.Gen.reduces_S1536x4096_S1536 (.inl rfl) rfl) Cert.ReferenceIdeal.Gen.shapeCasts_S1536_S1536x1)
        (broadcast Cert.ReferenceIdeal.S1536x1 (Scalar.ofBits .f32 0x43E00000#32)))
      : FVec Ideal Cert.ReferenceIdeal.S1536x1 .f32) (ix2 r 0) = scaleOf (amaxOf fun k => y (ix2 r k)) :=
  (scale_of_max1536 _ r).trans (congrArg scaleOf (max_rows1536 y r))

section Rows
variable (x : FVec Ideal S256x4096 .bf16) (g : FVec Ideal S1x4096 .f32)
  (X : FVec Ideal Cert.ReferenceIdeal.S1536x4096 .bf16) (G : FVec Ideal Cert.ReferenceIdeal.S4096 .f32)
  (r : Fin 256) (R : Fin 1536)

theorem ln_scale_form : k0_pay2 (F := Ideal) x g (ix2 r 0) = scaleOf (amaxOf fun k => k0_pay1 (F := Ideal) x g (ix2 r k)) := by
  delta k0_pay2
  exact scale_rows256 _ r

theorem ln_code_form (l : Fin 4096) : k0_pay3 (F := Ideal) x g (ix2 r l)
    = codeOf (k0_pay1 (F := Ideal) x g (ix2 r l)) (k0_pay2 (F := Ideal) x g (ix2 r 0)) := by
  delta k0_pay3
  exact code_rows256 _ _ r l

theorem ref_ln_scale_form : Cert.ReferenceIdeal.Gen.k0_pay8 (F := Ideal) X G (ix2 R 0)
    = scaleOf (amaxOf fun k => Cert.ReferenceIdeal.Gen.k0_pay7 (F := Ideal) X G (ix2 R k)) := by
  delta Cert.ReferenceIdeal.Gen.k0_pay8
  exact scale_rows1536 _ R

theorem ref_ln_code_form (l : Fin 4096) : Cert.ReferenceIdeal.Gen.k0_pay9 (F := Ideal) X G (ix2 R l)
    = codeOf (Cert.ReferenceIdeal.Gen.k0_pay7 (F := Ideal) X G (ix2 R l)) (Cert.ReferenceIdeal.Gen.k0_pay8 (F := Ideal) X G (ix2 R 0)) := by
  delta Cert.ReferenceIdeal.Gen.k0_pay9
  exact code_rows1536 _ _ R l

variable (hx : ∀ l : Fin 4096, x (ix2 r l) = X (ix2 R l)) (hg : ∀ l : Fin 4096, g (ix2 0 l) = G (ix1 l))
include hx hg

theorem ln_y (l : Fin 4096) : k0_pay1 (F := Ideal) x g (ix2 r l) = Cert.ReferenceIdeal.Gen.k0_pay7 (F := Ideal) X G (ix2 R l) := by
  pointwise [k0_pay1, Cert.ReferenceIdeal.Gen.k0_pay7, Cert.ReferenceIdeal.Gen.k0_pay6]
  simp only [hx, hg]

theorem ln_scale : k0_pay2 (F := Ideal) x g (ix2 r 0) = Cert.ReferenceIdeal.Gen.k0_pay8 (F := Ideal) X G (ix2 R 0) := by
  simp only [ln_scale_form, ref_ln_scale_form, ln_y x g X G r R hx hg]

theorem ln_code (l : Fin 4096) : k0_pay3 (F := Ideal) x g (ix2 r l) = Cert.ReferenceIdeal.Gen.k0_pay9 (F := Ideal) X G (ix2 R l) := by
  simp only [ln_code_form, ref_ln_code_form, ln_y x g X G r R hx hg, ln_scale x g X G r R hx hg]

end Rows

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem ln_codes (c : Dev nD) : (dat0 V c).arrAt 2 cfg0.N
    = Cert.ReferenceIdeal.Gen.k0_pay9 (F := Ideal) (V c (Pipeline.arrRef spec0 0)) (row (V c (Pipeline.arrRef spec0 1))) := by
  refine (dat0 V c).arrAt_eq_of_covers 2 _ (by decide +kernel) fun t _ y => ?_
  have ht : t.val < 6 := t.isLt
  blk_simp
  rw [after0_2]
  frame_out
  idx_vars y
  refine (ln_code _ _ (V c (Pipeline.arrRef spec0 0)) (row (V c (Pipeline.arrRef spec0 1))) y0
    ⟨t.val * 256 + y0.val, by omega⟩ (fun l => ?_) (fun l => ?_) y1).trans (congrArg _ ?_)
  all_goals blk_point [iblk0, idx0 t]

theorem ln_scales (c : Dev nD) : (dat0 V c).arrAt 3 cfg0.N
    = Cert.ReferenceIdeal.Gen.k0_pay8 (F := Ideal) (V c (Pipeline.arrRef spec0 0)) (row (V c (Pipeline.arrRef spec0 1))) := by
  refine (dat0 V c).arrAt_eq_of_covers 3 _ (by decide +kernel) fun t _ y => ?_
  have ht : t.val < 6 := t.isLt
  blk_simp
  rw [after0_3]
  frame_out
  idx_vars y
  obtain rfl : y1 = 0 := Subsingleton.elim _ _
  refine (ln_scale _ _ (V c (Pipeline.arrRef spec0 0)) (row (V c (Pipeline.arrRef spec0 1))) y0
    ⟨t.val * 256 + y0.val, by omega⟩ (fun l => ?_) (fun l => ?_)).trans (congrArg _ ?_)
  all_goals blk_point [iblk0, idx0 t]

end Cert.KernelIdeal.Value
-- ==== Proof.Value.OQuant.lean ====
/- Region 1: row quantisation of the attention output, 256 rows at a time, read at an index. -/
module

public import proofs.«01_k».proof.Proof.Gen.KernelIdeal.Frame
public import proofs.«01_k».proof.Proof.Value.LnQuant
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

open Cert.Value

theorem o_scale_form (x : FVec Ideal S256x4096 .f32) (r : Fin 256) : k1_pay1 (F := Ideal) x (ix2 r 0)
    = scaleOf (amaxOf fun k : Fin 4096 => x (ix2 r k)) := by
  delta k1_pay1
  exact scale_rows256 _ r

theorem o_code_form (x : FVec Ideal S256x4096 .f32) (r : Fin 256) (l : Fin 4096) : k1_pay2 (F := Ideal) x (ix2 r l)
    = codeOf (x (ix2 r l)) (k1_pay1 (F := Ideal) x (ix2 r 0)) := by
  delta k1_pay2
  exact code_rows256 _ _ r l

variable (V : (c : Dev nD) → (b : Ref sig .tc) → Buf (Elt Ideal) ((c : Thread nD τ).loc b))

theorem idx1 : ∀ t : Fin cfg1.N, win1_0.index t = ![t.val, 0] ∧ win1_1.index t = ![t.val, 0] ∧ win1_2.index t = ![t.val, 0] :=
  (by decide +kernel : ∀ t : Fin grid1.N, _)

/-- Row `R` of the input at block `t`. -/
theorem o_block (c : Dev nD) (t : Fin cfg1.N) (y : Fin 256) (h : t.val * 256 + y.val < 1536) (l : Fin 4096) :
    (iblk1 V c 0 t : FVec Ideal S256x4096 .f32) (ix2 y l) = (V c (Pipeline.arrRef spec1 0) : FVec Ideal S1536x4096 .f32) (ix2 ⟨t.val * 256 + y.val, h⟩ l) := by
  blk_point [iblk1, idx1 t]

/-- The scale column. -/
def rowScales (a : FVec Ideal S1536x4096 .f32) : FVec Ideal S1536x1 .f32 := fun i => scaleOf (amaxOf fun k : Fin 4096 => a (ix2 (i 0) k))

/-- The codes. -/
def rowCodes (a : FVec Ideal S1536x4096 .f32) : FVec Ideal S1536x4096 .fp8e4m3 := fun i => codeOf (a i) (rowScales a (ix2 (i 0) 0))

theorem o_codes (c : Dev nD) : (dat1 V c).arrAt 1 cfg1.N = rowCodes (V c (Pipeline.arrRef spec1 0)) := by
  refine (dat1 V c).arrAt_eq_of_covers 1 _ (by decide +kernel) fun t _ y => ?_
  have ht : t.val < 6 := t.isLt
  blk_simp
  rw [after1_1]
  frame_out
  idx_vars y
  have hR : t.val * 256 + y0.val < 1536 := by omega
  refine Eq.trans (b := rowCodes (V c (Pipeline.arrRef spec1 0)) (ix2 ⟨t.val * 256 + y0.val, hR⟩ y1)) ?_ (congrArg _ ?_)
  · refine (o_code_form _ y0 y1).trans ?_
    rw [o_scale_form, o_block V c t y0 hR]
    simp only [o_block V c t y0 hR]
    rfl
  · blk_point [iblk1, idx1 t]

theorem o_scales (c : Dev nD) : (dat1 V c).arrAt 2 cfg1.N = rowScales (V c (Pipeline.arrRef spec1 0)) := by
  refine (dat1 V c).arrAt_eq_of_covers 2 _ (by decide +kernel) fun t _ y => ?_
  have ht : t.val < 6 := t.isLt
  blk_simp
  rw [after1_2]
  frame_out
  idx_vars y
  obtain rfl : y1 = 0 := Subsingleton.elim _ _
  have hR : t.val * 256 + y0.val < 1536 := by omega
  refine Eq.trans (b := rowScales (V c (Pipeline.arrRef spec1 0)) (ix2 ⟨t.val * 256 + y0.val, hR⟩ 0)) ?_ (congrArg _ ?_)
  · refine (o_scale_form _ y0).trans ?_
    simp only [o_block V c t y0 hR]
    rfl
  · blk_point [iblk1, idx1 t]

end Cert.KernelIdeal.Value
-- ==== Proof.Value.GateUp.lean ====
/- Region 2: the gate and up projections and their gated product, one block of 256 columns per grid point, read at an index. -/
module

public import proofs.«01_k».proof.Proof.Gen.KernelIdeal.Frame
public import proofs.«01_k».proof.Proof.Value.Forms
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

open Cert.Value

/-- The three stores of a point hold the same 512-row form; the program spells the three differently. -/
def rows512 (z : FVec Ideal S512x1 .f32) (c : FVec Ideal S512x4096 .fp8e4m3) (g u : FVec Ideal S4096x256 .fp8e4m3)
    (gs us : FVec Ideal S1x256 .f32) (r : Fin 512) (j : Fin 256) : EReal :=
  gated (proj (fun k : Fin 4096 => c (ix2 r k)) (fun k => g (ix2 k j)) (z (ix2 r 0)) (gs (ix2 0 j)))
          (proj (fun k : Fin 4096 => c (ix2 r k)) (fun k => u (ix2 k j)) (z (ix2 r 0)) (us (ix2 0 j)))

theorem rows_first (z : FVec Ideal S512x1 .f32) (c : FVec Ideal S512x4096 .fp8e4m3) (g u : FVec Ideal S4096x256 .fp8e4m3)
    (gs us : FVec Ideal S1x256 .f32) (r : Fin 512) (j : Fin 256) :
    k2_pay2 (F := Ideal) z c g gs c u us (ix2 r j) = rows512 z c g u gs us r j := by
  generalize hE : rows512 z c g u gs us r j = E
  pointwise [k2_pay2]
  exact hE

theorem rows_second (z : FVec Ideal S512x1 .f32) (c : FVec Ideal S512x4096 .fp8e4m3) (g u : FVec Ideal S4096x256 .fp8e4m3)
    (gs us : FVec Ideal S1x256 .f32) (r : Fin 512) (j : Fin 256) :
    k2_pay6 (F := Ideal) (k2_pay3 z) (k2_pay4 c g) (k2_pay5 z) gs c u us (ix2 r j) = rows512 z c g u gs us r j := by
  generalize hE : rows512 z c g u gs us r j = E
  pointwise [k2_pay6, k2_pay5, k2_pay4, k2_pay3]
  exact hE

theorem rows_third (z : FVec Ideal S512x1 .f32) (c : FVec Ideal S512x4096 .fp8e4m3) (g u : FVec Ideal S4096x256 .fp8e4m3)
    (gs us : FVec Ideal S1x256 .f32) (r : Fin 512) (j : Fin 256) :
    k2_pay1 (F := Ideal) (k2_pay7 z) (k2_pay8 z c g gs) (k2_pay9 c) u (constant S512x256 .f32 0x00000000#32) us (ix2 r j) = rows512 z c g u gs us r j := by
  generalize hE : rows512 z c g u gs us r j = E
  pointwise [k2_pay1, k2_pay7, k2_pay8, k2_pay9]
  exact hE

variable (V : (c : Dev nD) → (b : Ref sig .tc) → Buf (Elt Ideal) ((c : Thread nD τ).loc b))

theorem idx2 : ∀ t : Fin cfg2.N, win2_0.index t = ![0, 0] ∧ win2_1.index t = ![0, 0] ∧ win2_2.index t = ![0, t.val + 24]
    ∧ win2_3.index t = ![0, t.val + 80] ∧ win2_4.index t = ![0, t.val + 24] ∧ win2_5.index t = ![0, t.val + 80] ∧ win2_6.index t = ![0, t.val] :=
  (by decide +kernel : ∀ t : Fin grid2.N, _)

/-- The gated product of the two projections of row `i 0`. -/
def hidden (c : FVec Ideal S1536x4096 .fp8e4m3) (s : FVec Ideal S1536x1 .f32) (w : FVec Ideal S4096x34816 .fp8e4m3) (ws : FVec Ideal S1x34816 .f32) :
    FVec Ideal S1536x14336 .f32 := fun i =>
  have h : (i 1).val < 14336 := (i 1).isLt
  gated (proj (fun k : Fin 4096 => c (ix2 (i 0) k)) (fun k => w (ix2 k ⟨6144 + (i 1).val, by omega⟩)) (s (ix2 (i 0) 0)) (ws (ix2 0 ⟨6144 + (i 1).val, by omega⟩)))
    (proj (fun k : Fin 4096 => c (ix2 (i 0) k)) (fun k => w (ix2 k ⟨20480 + (i 1).val, by omega⟩)) (s (ix2 (i 0) 0)) (ws (ix2 0 ⟨20480 + (i 1).val, by omega⟩)))

/-- The block's own form of it. -/
def tile (c : FVec Ideal S1536x4096 .fp8e4m3) (s : FVec Ideal S1536x1 .f32) (g u : FVec Ideal S4096x256 .fp8e4m3) (gs us : FVec Ideal S1x256 .f32)
    (r : Fin 1536) (j : Fin 256) : EReal :=
  gated (proj (fun k : Fin 4096 => c (ix2 r k)) (fun k => g (ix2 k j)) (s (ix2 r 0)) (gs (ix2 0 j)))
    (proj (fun k : Fin 4096 => c (ix2 r k)) (fun k => u (ix2 k j)) (s (ix2 r 0)) (us (ix2 0 j)))

/-- What a point stores, read at an index of its block. -/
theorem stored_tile (b0 : FVec Ideal S1536x4096 .fp8e4m3) (b1 : FVec Ideal S1536x1 .f32) (b2 b3 : FVec Ideal S4096x256 .fp8e4m3)
    (b4 b5 : FVec Ideal S1x256 .f32) (y0 : Fin 1536) (y1 : Fin 256) :
    out2_6 (F := Ideal) b0 b1 b2 b3 b4 b5 (ix2 y0 y1) = tile b0 b1 b2 b3 b4 b5 y0 y1 := by
  generalize hE : tile b0 b1 b2 b3 b4 b5 y0 y1 = E
  delta out2_6
  canon_tiles x h
  all_goals
    idx_vars x
    obtain rfl : y1 = x1 := Fin.ext h1
  · obtain rfl : y0 = ⟨1024 + x0.val, Nat.add_lt_add_left x0_lt 1024⟩ := Fin.ext h0
    refine (rows_third _ _ _ _ _ _ x0 y1).trans ?_
    unfold rows512
    pointwise
    exact hE
  · obtain rfl : y0 = ⟨512 + x0.val, lt_of_lt_of_le (Nat.add_lt_add_left x0_lt 512) (by decide)⟩ := Fin.ext h0
    refine (rows_second _ _ _ _ _ _ x0 y1).trans ?_
    unfold rows512
    pointwise
    exact hE
  · obtain rfl : y0 = ⟨x0.val, lt_trans x0_lt (by decide)⟩ := Fin.ext h0
    refine (rows_first _ _ _ _ _ _ x0 y1).trans ?_
    unfold rows512
    pointwise
    exact hE

theorem hidden_array (c : Dev nD) : (dat2 V c).arrAt 6 cfg2.N
    = hidden (V c (Pipeline.arrRef spec2 0)) (V c (Pipeline.arrRef spec2 1)) (V c (Pipeline.arrRef spec2 2)) (V c (Pipeline.arrRef spec2 4)) := by
  refine (dat2 V c).arrAt_eq_of_covers 6 _ (by decide +kernel) fun t _ y => ?_
  have ht : t.val < 56 := t.isLt
  blk_simp
  rw [after2_6]
  refine Eq.trans (b := tile (iblk2 V c 0 t) (iblk2 V c 1 t) (iblk2 V c 2 t) (iblk2 V c 3 t) (iblk2 V c 4 t) (iblk2 V c 5 t) (y 0) (y 1)) ?_ ?_
  · idx_vars y
    exact stored_tile _ _ _ _ _ _ y0 y1
  · idx_vars y
    obtain ⟨i, hi⟩ : ∃ i, i = (win2_6.blk t).view.emb (ix2 y0 y1) := ⟨_, rfl⟩
    rw [← hi]
    obtain rfl : i = ix2 y0 ⟨t.val * 256 + y1.val, by omega⟩ := by rw [hi]; blk_point [idx2 t]
    unfold tile hidden
    blk_point [iblk2, idx2 t]

end Cert.KernelIdeal.Value
-- ==== Proof.Value.HQuant.lean ====
/- Region 3: row quantisation of the gated hidden layer, 128 rows at a time, read at an index. -/
module

public import proofs.«01_k».proof.Proof.Gen.KernelIdeal.Frame
public import proofs.«01_k».proof.Proof.Value.Forms
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

open Cert.Value

theorem h_code_rows (y : FVec Ideal S128x14336 .f32) (z : FVec Ideal S128x1 .f32) (r : Fin 128) (l : Fin 14336) :
    (truncf .fp8e4m3 (minimumf (broadcast S128x14336 (Scalar.ofBits .f32 0x43E00000#32))
      (maximumf (broadcast S128x14336 (Scalar.ofBits .f32 0xC3E00000#32))
        (divf y (broadcastTo S128x14336 z broadcasts_S128x1_S128x14336)))) bitsLt_fp8e4m3_f32
      : FVec Ideal S128x14336 .fp8e4m3) (ix2 r l) = codeOf (y (ix2 r l)) (z (ix2 r 0)) := by
  pointwise [codeOf]

theorem h_scale_of_max (a : FVec Ideal S128 .f32) (r : Fin 128) :
    (select (cmpf .oeq (shapeCast S128x1 a shapeCasts_S128_S128x1) (broadcast S128x1 (Scalar.ofBits .f32 0x00000000#32)))
      (broadcast S128x1 (Scalar.ofBits .f32 0x3F800000#32))
      (divf (shapeCast S128x1 a shapeCasts_S128_S128x1) (broadcast S128x1 (Scalar.ofBits .f32 0x43E00000#32)))
      : FVec Ideal S128x1 .f32) (ix2 r 0) = scaleOf (a (ix1 r)) := by
  pointwise [scaleOf]

theorem h_max_rows (y : FVec Ideal S128x14336 .f32) (r : Fin 128) :
    (multiReduction .maximumf [1] S128 (absf y) 0xFF800000#32 reduces_S128x14336_S128 (.inl rfl) rfl
      : FVec Ideal S128 .f32) (ix1 r) = amaxOf fun k => y (ix2 r k) := by
  pointwise [amaxOf]

theorem h_same (y : FVec Ideal S128x14336 .f32) : k3_pay1 (F := Ideal) y = y := by
  funext i
  idx_vars i
  pointwise [k3_pay1]

theorem h_scale_form (x : FVec Ideal S128x14336 .f32) (r : Fin 128) : k3_pay2 (F := Ideal) x (ix2 r 0)
    = scaleOf (amaxOf fun k : Fin 14336 => x (ix2 r k)) := by
  delta k3_pay2
  rw [h_same]
  exact (h_scale_of_max _ r).trans (congrArg scaleOf (h_max_rows x r))

theorem h_code_form (x : FVec Ideal S128x14336 .f32) (r : Fin 128) (l : Fin 14336) : k3_pay3 (F := Ideal) x (ix2 r l)
    = codeOf (x (ix2 r l)) (k3_pay2 (F := Ideal) x (ix2 r 0)) := by
  delta k3_pay3
  rw [h_same]
  exact h_code_rows _ _ r l

variable (V : (c : Dev nD) → (b : Ref sig .tc) → Buf (Elt Ideal) ((c : Thread nD τ).loc b))

theorem idx3 : ∀ t : Fin cfg3.N, win3_0.index t = ![t.val, 0] ∧ win3_1.index t = ![t.val, 0] ∧ win3_2.index t = ![t.val, 0] :=
  (by decide +kernel : ∀ t : Fin grid3.N, _)

theorem h_block (c : Dev nD) (t : Fin cfg3.N) (y : Fin 128) (h : t.val * 128 + y.val < 1536) (l : Fin 14336) :
    (iblk3 V c 0 t : FVec Ideal S128x14336 .f32) (ix2 y l) = (V c (Pipeline.arrRef spec3 0) : FVec Ideal S1536x14336 .f32) (ix2 ⟨t.val * 128 + y.val, h⟩ l) := by
  blk_point [iblk3, idx3 t]

/-- The scale column. -/
def hidScales (a : FVec Ideal S1536x14336 .f32) : FVec Ideal S1536x1 .f32 := fun i => scaleOf (amaxOf fun k : Fin 14336 => a (ix2 (i 0) k))

/-- The codes. -/
def hidCodes (a : FVec Ideal S1536x14336 .f32) : FVec Ideal S1536x14336 .fp8e4m3 := fun i => codeOf (a i) (hidScales a (ix2 (i 0) 0))

theorem h_codes (c : Dev nD) : (dat3 V c).arrAt 1 cfg3.N = hidCodes (V c (Pipeline.arrRef spec3 0)) := by
  refine (dat3 V c).arrAt_eq_of_covers 1 _ (by decide +kernel) fun t _ y => ?_
  have ht : t.val < 12 := t.isLt
  blk_simp
  rw [after3_1]
  frame_out
  idx_vars y
  have hR : t.val * 128 + y0.val < 1536 := by omega
  refine Eq.trans (b := hidCodes (V c (Pipeline.arrRef spec3 0)) (ix2 ⟨t.val * 128 + y0.val, hR⟩ y1)) ?_ (congrArg _ ?_)
  · refine (h_code_form _ y0 y1).trans ?_
    rw [h_scale_form, h_block V c t y0 hR]
    simp only [h_block V c t y0 hR]
    rfl
  · blk_point [iblk3, idx3 t]

theorem h_scales (c : Dev nD) : (dat3 V c).arrAt 2 cfg3.N = hidScales (V c (Pipeline.arrRef spec3 0)) := by
  refine (dat3 V c).arrAt_eq_of_covers 2 _ (by decide +kernel) fun t _ y => ?_
  have ht : t.val < 12 := t.isLt
  blk_simp
  rw [after3_2]
  frame_out
  idx_vars y
  obtain rfl : y1 = 0 := Subsingleton.elim _ _
  have hR : t.val * 128 + y0.val < 1536 := by omega
  refine Eq.trans (b := hidScales (V c (Pipeline.arrRef spec3 0)) (ix2 ⟨t.val * 128 + y0.val, hR⟩ 0)) ?_ (congrArg _ ?_)
  · refine (h_scale_form _ y0).trans ?_
    simp only [h_block V c t y0 hR]
    rfl
  · blk_point [iblk3, idx3 t]

end Cert.KernelIdeal.Value
-- ==== Proof.Value.OutProj.lean ====
/- Region 4: the two output projections and the residual, one block of 256 columns per grid point, read at an index. -/
module

public import proofs.«01_k».proof.Proof.Gen.KernelIdeal.Frame
public import proofs.«01_k».proof.Proof.Value.Forms
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

open Cert.Value

/-- The three stores of a point hold the same 512-row form; the program spells the three differently. -/
def outRows512 (oc : FVec Ideal S512x4096 .fp8e4m3) (os : FVec Ideal S512x1 .f32) (hc : FVec Ideal S512x14336 .fp8e4m3) (hs : FVec Ideal S512x1 .f32)
    (wo : FVec Ideal S4096x256 .fp8e4m3) (wd : FVec Ideal S14336x256 .fp8e4m3) (wos wds : FVec Ideal S1x256 .f32) (x : FVec Ideal S512x256 .bf16)
    (r : Fin 512) (j : Fin 256) : EReal :=
  proj (fun k : Fin 4096 => oc (ix2 r k)) (fun k => wo (ix2 k j)) (os (ix2 r 0)) (wos (ix2 0 j))
    + proj (fun k : Fin 14336 => hc (ix2 r k)) (fun k => wd (ix2 k j)) (hs (ix2 r 0)) (wds (ix2 0 j)) + x (ix2 r j)

theorem out_first (oc : FVec Ideal S512x4096 .fp8e4m3) (os : FVec Ideal S512x1 .f32) (hc : FVec Ideal S512x14336 .fp8e4m3) (hs : FVec Ideal S512x1 .f32)
    (wo : FVec Ideal S4096x256 .fp8e4m3) (wd : FVec Ideal S14336x256 .fp8e4m3) (wos wds : FVec Ideal S1x256 .f32) (x : FVec Ideal S512x256 .bf16)
    (r : Fin 512) (j : Fin 256) :
    k4_pay2 (F := Ideal) oc wo os wos hc wd hs wds x (ix2 r j) = outRows512 oc os hc hs wo wd wos wds x r j := by
  generalize hE : outRows512 oc os hc hs wo wd wos wds x r j = E
  pointwise [k4_pay2]
  exact hE

theorem out_second (oc : FVec Ideal S512x4096 .fp8e4m3) (os : FVec Ideal S512x1 .f32) (hc : FVec Ideal S512x14336 .fp8e4m3) (hs : FVec Ideal S512x1 .f32)
    (wo : FVec Ideal S4096x256 .fp8e4m3) (wd : FVec Ideal S14336x256 .fp8e4m3) (wos wds : FVec Ideal S1x256 .f32) (x : FVec Ideal S512x256 .bf16)
    (r : Fin 512) (j : Fin 256) :
    k4_pay4 (F := Ideal) (k4_pay3 oc) wo os wos hc wd hs wds x (ix2 r j) = outRows512 oc os hc hs wo wd wos wds x r j := by
  generalize hE : outRows512 oc os hc hs wo wd wos wds x r j = E
  pointwise [k4_pay4, k4_pay3]
  exact hE

theorem out_third (oc : FVec Ideal S512x4096 .fp8e4m3) (os : FVec Ideal S512x1 .f32) (hc : FVec Ideal S512x14336 .fp8e4m3) (hs : FVec Ideal S512x1 .f32)
    (wo : FVec Ideal S4096x256 .fp8e4m3) (wd : FVec Ideal S14336x256 .fp8e4m3) (wos wds : FVec Ideal S1x256 .f32) (x : FVec Ideal S512x256 .bf16)
    (r : Fin 512) (j : Fin 256) :
    k4_pay1 (F := Ideal) (k4_pay5 oc wo) os wos hc wd hs wds x (ix2 r j) = outRows512 oc os hc hs wo wd wos wds x r j := by
  generalize hE : outRows512 oc os hc hs wo wd wos wds x r j = E
  pointwise [k4_pay1, k4_pay5]
  exact hE

variable (V : (c : Dev nD) → (b : Ref sig .tc) → Buf (Elt Ideal) ((c : Thread nD τ).loc b))

theorem idx4 : ∀ t : Fin cfg4.N, win4_0.index t = ![0, 0] ∧ win4_1.index t = ![0, 0] ∧ win4_2.index t = ![0, 0] ∧ win4_3.index t = ![0, 0]
    ∧ win4_4.index t = ![0, t.val] ∧ win4_5.index t = ![0, t.val] ∧ win4_6.index t = ![0, t.val] ∧ win4_7.index t = ![0, t.val]
    ∧ win4_8.index t = ![0, t.val] ∧ win4_9.index t = ![0, t.val] :=
  (by decide +kernel : ∀ t : Fin grid4.N, _)

/-- The two projections scaled back, and the residual. -/
def output (oc : FVec Ideal S1536x4096 .fp8e4m3) (os : FVec Ideal S1536x1 .f32) (hc : FVec Ideal S1536x14336 .fp8e4m3) (hs : FVec Ideal S1536x1 .f32)
    (wo : FVec Ideal S4096x4096 .fp8e4m3) (wd : FVec Ideal S14336x4096 .fp8e4m3) (wos wds : FVec Ideal S1x4096 .f32) (x : FVec Ideal S1536x4096 .bf16) :
    FVec Ideal S1536x4096 .bf16 := fun i =>
  proj (fun k : Fin 4096 => oc (ix2 (i 0) k)) (fun k => wo (ix2 k (i 1))) (os (ix2 (i 0) 0)) (wos (ix2 0 (i 1)))
    + proj (fun k : Fin 14336 => hc (ix2 (i 0) k)) (fun k => wd (ix2 k (i 1))) (hs (ix2 (i 0) 0)) (wds (ix2 0 (i 1))) + x i

/-- The block's own form of it. -/
def outTile (oc : FVec Ideal S1536x4096 .fp8e4m3) (os : FVec Ideal S1536x1 .f32) (hc : FVec Ideal S1536x14336 .fp8e4m3) (hs : FVec Ideal S1536x1 .f32)
    (wo : FVec Ideal S4096x256 .fp8e4m3) (wd : FVec Ideal S14336x256 .fp8e4m3) (wos wds : FVec Ideal S1x256 .f32) (x : FVec Ideal S1536x256 .bf16)
    (r : Fin 1536) (j : Fin 256) : EReal :=
  proj (fun k : Fin 4096 => oc (ix2 r k)) (fun k => wo (ix2 k j)) (os (ix2 r 0)) (wos (ix2 0 j))
    + proj (fun k : Fin 14336 => hc (ix2 r k)) (fun k => wd (ix2 k j)) (hs (ix2 r 0)) (wds (ix2 0 j)) + x (ix2 r j)

/-- What a point stores, read at an index of its block. -/
theorem stored_out (b0 : FVec Ideal S1536x4096 .fp8e4m3) (b1 : FVec Ideal S1536x1 .f32) (b2 : FVec Ideal S1536x14336 .fp8e4m3)
    (b3 : FVec Ideal S1536x1 .f32) (b4 : FVec Ideal S4096x256 .fp8e4m3) (b5 : FVec Ideal S14336x256 .fp8e4m3) (b6 b7 : FVec Ideal S1x256 .f32)
    (b8 : FVec Ideal S1536x256 .bf16) (y0 : Fin 1536) (y1 : Fin 256) :
    out4_9 (F := Ideal) b0 b1 b2 b3 b4 b5 b6 b7 b8 (ix2 y0 y1) = outTile b0 b1 b2 b3 b4 b5 b6 b7 b8 y0 y1 := by
  generalize hE : outTile b0 b1 b2 b3 b4 b5 b6 b7 b8 y0 y1 = E
  delta out4_9
  canon_tiles x h
  all_goals
    idx_vars x
    obtain rfl : y1 = x1 := Fin.ext h1
  · obtain rfl : y0 = ⟨1024 + x0.val, Nat.add_lt_add_left x0_lt 1024⟩ := Fin.ext h0
    refine (out_third _ _ _ _ _ _ _ _ _ x0 y1).trans ?_
    unfold outRows512
    pointwise
    exact hE
  · obtain rfl : y0 = ⟨512 + x0.val, lt_of_lt_of_le (Nat.add_lt_add_left x0_lt 512) (by decide)⟩ := Fin.ext h0
    refine (out_second _ _ _ _ _ _ _ _ _ x0 y1).trans ?_
    unfold outRows512
    pointwise
    exact hE
  · obtain rfl : y0 = ⟨x0.val, lt_trans x0_lt (by decide)⟩ := Fin.ext h0
    refine (out_first _ _ _ _ _ _ _ _ _ x0 y1).trans ?_
    unfold outRows512
    pointwise
    exact hE

theorem output_array (c : Dev nD) : (dat4 V c).arrAt 9 cfg4.N
    = output (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8)) := by
  refine (dat4 V c).arrAt_eq_of_covers 9 _ (by decide +kernel) fun t _ y => ?_
  have ht : t.val < 16 := t.isLt
  blk_simp
  rw [after4_9]
  refine Eq.trans (b := outTile (iblk4 V c 0 t) (iblk4 V c 1 t) (iblk4 V c 2 t) (iblk4 V c 3 t) (iblk4 V c 4 t) (iblk4 V c 5 t) (iblk4 V c 6 t) (iblk4 V c 7 t) (iblk4 V c 8 t) (y 0) (y 1)) ?_ ?_
  · idx_vars y
    exact stored_out _ _ _ _ _ _ _ _ _ y0 y1
  · idx_vars y
    obtain ⟨i, hi⟩ : ∃ i, i = (win4_9.blk t).view.emb (ix2 y0 y1) := ⟨_, rfl⟩
    rw [← hi]
    obtain rfl : i = ix2 y0 ⟨t.val * 256 + y1.val, by omega⟩ := by rw [hi]; blk_point [idx4 t]
    unfold outTile output
    blk_point [iblk4, idx4 t]

end Cert.KernelIdeal.Value
-- ==== Proof.Value.RefForms.lean ====
/- The reference's values read at an index. -/
module

public import proofs.«01_k».proof.Proof.Gen.ReferenceIdeal.Skeleton
public import proofs.«01_k».proof.Proof.Value.Forms
public import Idealize.ShloMosaic.Lib.Pipeline.ValueKit
public import Idealize.ShloMosaic.Lib.Pointwise

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

open Cert.Value

/-- Column `h * 128 + d` of a flat row of 32 heads of 128. -/
abbrev flat (h : Fin 32) (d : Fin 128) : Fin 4096 := ⟨h.val * 128 + d.val, by omega⟩

theorem proj_form (z : FVec Ideal S1536x1 .f32) (c : FVec Ideal S1536x4096 .fp8e4m3) (w : FVec Ideal S4096x34816 .fp8e4m3) (ws : FVec Ideal S34816 .f32)
    (r : Fin 1536) (j : Fin 34816) : k0_pay11 (F := Ideal) z c w ws (ix2 r j)
      = proj (fun k : Fin 4096 => c (ix2 r k)) (fun k => w (ix2 k j)) (z (ix2 r 0)) (ws (ix1 j)) := by
  generalize hE : proj _ _ _ _ = E
  pointwise [k0_pay11]
  exact hE

theorem slice_gate (v : FVec Ideal S1536x34816 .f32) (r : Fin 1536) (j : Fin 14336) :
    (extractStridedSlice S1536x14336 ![0, 6144] v slices_S1536x34816_o0_6144_S1536x14336 : FVec Ideal S1536x14336 .f32) (ix2 r j)
      = v (ix2 r ⟨6144 + j.val, by omega⟩) := by
  pointwise

theorem slice_up (v : FVec Ideal S1536x34816 .f32) (r : Fin 1536) (j : Fin 14336) :
    (extractStridedSlice S1536x14336 ![0, 20480] v slices_S1536x34816_o0_20480_S1536x14336 : FVec Ideal S1536x14336 .f32) (ix2 r j)
      = v (ix2 r ⟨20480 + j.val, by omega⟩) := by
  pointwise

theorem gated_form (g u : FVec Ideal S1536x14336 .f32) (r : Fin 1536) (j : Fin 14336) :
    k0_pay1 (F := Ideal) g u (ix2 r j) = gated (g (ix2 r j)) (u (ix2 r j)) := by
  generalize hE : gated _ _ = E
  pointwise [k0_pay1]
  exact hE

theorem heads_form (a : FVec Ideal S1536x4096 .f32) (r : Fin 1536) (h : Fin 32) (d : Fin 128) :
    k0_pay14 (F := Ideal) a (ix3 r h d) = a (ix2 r (flat h d)) := by
  generalize hE : a (ix2 r (flat h d)) = E
  pointwise [k0_pay14]
  exact hE

theorem max_heads (y : FVec Ideal S1536x32x128 .f32) (r : Fin 1536) :
    (multiReduction .maximumf [1, 2] S1536 (absf y) 0xFF800000#32 reduces_S1536x32x128_S1536 (.inl rfl) rfl : FVec Ideal S1536 .f32) (ix1 r)
      = amaxOf fun k : Fin 4096 => y (ix3 r ⟨k.val / 128, by omega⟩ ⟨k.val % 128, by omega⟩) := by
  generalize hE : amaxOf _ = E
  pointwise
  rw [← hE]
  unfold amaxOf
  rw [← Finset.map_univ_equiv (finProdFinEquiv : Fin 32 × Fin 128 ≃ Fin 4096), Finset.fold_map]
  refine Finset.fold_congr fun q _ => ?_
  have hq := q.2.isLt
  refine congrArg (fun i => FloatOps.absf (F := Ideal) (φ := .f32) (y i)) ?_
  refine (ix3_inj ..).2 ⟨rfl, Fin.ext ?_, Fin.ext ?_⟩
  · show q.1.val = (q.2.val + 128 * q.1.val) / 128
    omega
  · show q.2.val = (q.2.val + 128 * q.1.val) % 128
    omega

theorem out_form (x o : FVec Ideal S1536x4096 .f32) (hc : FVec Ideal S1536x14336 .fp8e4m3) (hs : FVec Ideal S1536x1 .f32)
   (os : FVec Ideal S4096 .f32) (w : FVec Ideal S14336x4096 .fp8e4m3) (ws : FVec Ideal S4096 .f32) (r : Fin 1536) (j : Fin 4096) :
   (truncf .bf16 (addf (addf (mulf o (broadcastTo S1536x4096 (shapeCast S1x4096 os shapeCasts_S4096_S1x4096) broadcasts_S1x4096_S1536x4096))
      (mulf (mulf (matmul dot_S1536x14336_S14336x4096_S1536x4096_1_0_0_1_n_n none hc w (constant S1536x4096 .f32 0x00000000#32)) (broadcastTo S1536x4096 hs broadcasts_S1536x1_S1536x4096))
        (broadcastTo S1536x4096 (shapeCast S1x4096 ws shapeCasts_S4096_S1x4096) broadcasts_S1x4096_S1536x4096))) x) bitsLt_bf16_f32 : FVec Ideal S1536x4096 .bf16) (ix2 r j)
    = o (ix2 r j) * os (ix1 j) + proj (fun k : Fin 14336 => hc (ix2 r k)) (fun k => w (ix2 k j)) (hs (ix2 r 0)) (ws (ix1 j)) + x (ix2 r j) := by
  generalize hE : o (ix2 r j) * os (ix1 j) + _ + _ = E
  pointwise
  exact hE

theorem o_form (c : FVec Ideal S1536x32x128 .fp8e4m3) (w : FVec Ideal S32x128x4096 .fp8e4m3) (s : FVec Ideal S1536 .f32) (r : Fin 1536) (j : Fin 4096) :
   (mulf (matmul dot_S1536x32x128_S32x128x4096_S1536x4096_21_10_0_2_n_n none c w (constant S1536x4096 .f32 0x00000000#32))
     (broadcastTo S1536x4096 (shapeCast S1536x1 s shapeCasts_S1536_S1536x1) broadcasts_S1536x1_S1536x4096) : FVec Ideal S1536x4096 .f32) (ix2 r j)
    = (∑ k : Fin 4096, c (ix3 r ⟨k.val / 128, by omega⟩ ⟨k.val % 128, by omega⟩) * w (ix3 ⟨k.val / 128, by omega⟩ ⟨k.val % 128, by omega⟩ j))
        * s (ix1 r) := by
  generalize hE : (∑ k : Fin 4096, (_ : EReal)) * (_ : EReal) = E
  pointwise
  rw [← hE, Finset.sum_comm]
  refine Ideal.mul_congr ?_ rfl
  rw [Fin.sum_univ_tiles 32 128 rfl]
  refine Finset.sum_congr rfl fun a _ => Finset.sum_congr rfl fun b _ => ?_
  have ha : (a.val * 128 + b.val) / 128 = a.val := by omega
  have hb : (a.val * 128 + b.val) % 128 = b.val := by omega
  simp only [ha, hb]

theorem o_code (y : FVec Ideal S1536x32x128 .f32) (s : FVec Ideal S1536 .f32) (r : Fin 1536) (h : Fin 32) (d : Fin 128) :
   (truncf .fp8e4m3 (minimumf (broadcast S1536x32x128 (Scalar.ofBits .f32 0x43E00000#32)) (maximumf (broadcast S1536x32x128 (Scalar.ofBits .f32 0xC3E00000#32))
     (divf y (broadcastTo S1536x32x128 (shapeCast S1536x1x1 s shapeCasts_S1536_S1536x1x1) broadcasts_S1536x1x1_S1536x32x128)))) bitsLt_fp8e4m3_f32 : FVec Ideal S1536x32x128 .fp8e4m3) (ix3 r h d)
     = codeOf (y (ix3 r h d)) (s (ix1 r)) := by
  generalize hE : codeOf _ _ = E
  pointwise
  exact hE

theorem o_scale (a : FVec Ideal S1536 .f32) (r : Fin 1536) :
    (select (cmpf .oeq a (broadcast S1536 (Scalar.ofBits .f32 0x00000000#32)))
      (broadcast S1536 (Scalar.ofBits .f32 0x3F800000#32))
      (divf a (broadcast S1536 (Scalar.ofBits .f32 0x43E00000#32))) : FVec Ideal S1536 .f32) (ix1 r) = scaleOf (a (ix1 r)) := by
  generalize hE : scaleOf _ = E
  pointwise
  exact hE

theorem drop_form (a : FVec Ideal S1536x1 .f32) (r : Fin 1536) : (shapeCast S1536 a shapeCasts_S1536x1_S1536 : FVec Ideal S1536 .f32) (ix1 r) = a (ix2 r 0) := by
  pointwise

theorem silu_code (y : FVec Ideal S1536x14336 .f32) (z : FVec Ideal S1536x1 .f32) (r : Fin 1536) (l : Fin 14336) :
    (truncf .fp8e4m3 (minimumf (broadcast S1536x14336 (Scalar.ofBits .f32 0x43E00000#32))
      (maximumf (broadcast S1536x14336 (Scalar.ofBits .f32 0xC3E00000#32))
        (divf y (broadcastTo S1536x14336 z broadcasts_S1536x1_S1536x14336)))) bitsLt_fp8e4m3_f32
      : FVec Ideal S1536x14336 .fp8e4m3) (ix2 r l) = codeOf (y (ix2 r l)) (z (ix2 r 0)) := by
  pointwise [codeOf]

theorem silu_max (y : FVec Ideal S1536x14336 .f32) (r : Fin 1536) :
    (multiReduction .maximumf [1] S1536 (absf y) 0xFF800000#32 reduces_S1536x14336_S1536 (.inl rfl) rfl
      : FVec Ideal S1536 .f32) (ix1 r) = amaxOf fun k : Fin 14336 => y (ix2 r k) := by
  pointwise [amaxOf]

end Cert.ReferenceIdeal.Value
-- ==== Proof.Value.Bridge.lean ====
/- What the kernel's regions compute, equated with the reference's values. -/
module

public import proofs.«01_k».proof.Proof.Value.LnQuant
public import proofs.«01_k».proof.Proof.Value.OQuant
public import proofs.«01_k».proof.Proof.Value.GateUp
public import proofs.«01_k».proof.Proof.Value.HQuant
public import proofs.«01_k».proof.Proof.Value.OutProj
public import proofs.«01_k».proof.Proof.Value.RefForms

@[expose] public section

set_option maxRecDepth 16384

noncomputable section

namespace Cert.KernelIdeal.Value

open Idealize.ShloMosaic Idealize.ShloMosaic.TcCoe Idealize.SL.Sem
open Cert.KernelIdeal Cert.KernelIdeal.Gen Cert.Value
open Cert.ReferenceIdeal.Value (flat proj_form slice_gate slice_up gated_form heads_form max_heads out_form o_form o_code o_scale drop_form silu_code silu_max)

/-! ## Host reshapes read at an index -/

theorem reshape_gain (a : FVec Ideal S4096 .f32) : row (shapeCast S1x4096 a shapeCasts_S4096_S1x4096 : FVec Ideal S1x4096 .f32) = a := by
  funext i
  idx_vars i
  show (shapeCast S1x4096 a shapeCasts_S4096_S1x4096 : FVec Ideal S1x4096 .f32) (ix2 0 i0) = _
  pointwise

theorem reshape_row (a : FVec Ideal S4096 .f32) (j : Fin 4096) : (shapeCast S1x4096 a shapeCasts_S4096_S1x4096 : FVec Ideal S1x4096 .f32) (ix2 0 j) = a (ix1 j) := by
  pointwise

theorem reshape_columns (a : FVec Ideal S34816 .f32) (j : Fin 34816) : (shapeCast S1x34816 a shapeCasts_S34816_S1x34816 : FVec Ideal S1x34816 .f32) (ix2 0 j) = a (ix1 j) := by
  pointwise

theorem reshape_heads (a : FVec Ideal S1536x4096 .fp8e4m3) (r : Fin 1536) (h : Fin 32) (d : Fin 128) :
    (shapeCast S1536x32x128 a shapeCasts_S1536x4096_S1536x32x128 : FVec Ideal S1536x32x128 .fp8e4m3) (ix3 r h d) = a (ix2 r (flat h d)) := by
  pointwise

theorem reshape_weight (a : FVec Ideal S32x128x4096 .fp8e4m3) (k j : Fin 4096) :
    (shapeCast S4096x4096 a shapeCasts_S32x128x4096_S4096x4096 : FVec Ideal S4096x4096 .fp8e4m3) (ix2 k j)
      = a (ix3 ⟨k.val / 128, by omega⟩ ⟨k.val % 128, by omega⟩ j) := by
  pointwise

theorem flat_split (k : Fin 4096) : flat ⟨k.val / 128, by omega⟩ ⟨k.val % 128, by omega⟩ = k := Fin.ext (by show k.val / 128 * 128 + k.val % 128 = k.val; omega)

/-! ## The hidden layer -/

section Hidden
variable (s : FVec Ideal S1536x1 .f32) (c : FVec Ideal S1536x4096 .fp8e4m3) (w : FVec Ideal S4096x34816 .fp8e4m3) (ws : FVec Ideal S34816 .f32)

theorem gate_read (r : Fin 1536) (j : Fin 14336) : Cert.ReferenceIdeal.Gen.k0_pay12 (F := Ideal) s c w ws (ix2 r j)
    = proj (fun k : Fin 4096 => c (ix2 r k)) (fun k => w (ix2 k ⟨6144 + j.val, by omega⟩)) (s (ix2 r 0)) (ws (ix1 ⟨6144 + j.val, by omega⟩)) := by
  delta Cert.ReferenceIdeal.Gen.k0_pay12
  exact (slice_gate _ r j).trans (proj_form s c w ws r _)

theorem up_read (r : Fin 1536) (j : Fin 14336) : Cert.ReferenceIdeal.Gen.k0_pay13 (F := Ideal) s c w ws (ix2 r j)
    = proj (fun k : Fin 4096 => c (ix2 r k)) (fun k => w (ix2 k ⟨20480 + j.val, by omega⟩)) (s (ix2 r 0)) (ws (ix1 ⟨20480 + j.val, by omega⟩)) := by
  delta Cert.ReferenceIdeal.Gen.k0_pay13
  exact (slice_up _ r j).trans (proj_form s c w ws r _)

theorem hidden_eq : hidden c s w (shapeCast S1x34816 ws shapeCasts_S34816_S1x34816)
    = Cert.ReferenceIdeal.Gen.k0_pay1 (F := Ideal) (Cert.ReferenceIdeal.Gen.k0_pay12 s c w ws) (Cert.ReferenceIdeal.Gen.k0_pay13 s c w ws) := by
  funext i
  idx_vars i
  refine Eq.trans ?_ (gated_form _ _ i0 i1).symm
  rw [gate_read, up_read]
  delta hidden
  exact congrArg₂ gated (congrArg _ (reshape_columns ws _)) (congrArg _ (reshape_columns ws _))

end Hidden

section HiddenCodes
variable (g u : FVec Ideal Cert.ReferenceIdeal.S1536x14336 .f32)

theorem hid_scale_read (r : Fin 1536) : Cert.ReferenceIdeal.Gen.k0_pay2 (F := Ideal) g u (ix2 r 0)
    = hidScales (Cert.ReferenceIdeal.Gen.k0_pay1 (F := Ideal) g u) (ix2 r 0) := by
  delta Cert.ReferenceIdeal.Gen.k0_pay2
  exact (scale_of_max1536 _ r).trans (congrArg scaleOf (silu_max _ r))

theorem hidScales_eq : hidScales (Cert.ReferenceIdeal.Gen.k0_pay1 (F := Ideal) g u) = Cert.ReferenceIdeal.Gen.k0_pay2 (F := Ideal) g u := by
  funext i
  idx_vars i
  obtain rfl : i1 = 0 := Subsingleton.elim _ _
  exact (hid_scale_read g u i0).symm

theorem hidCodes_eq : hidCodes (Cert.ReferenceIdeal.Gen.k0_pay1 (F := Ideal) g u) = Cert.ReferenceIdeal.Gen.k0_pay3 (F := Ideal) g u := by
  funext i
  idx_vars i
  delta Cert.ReferenceIdeal.Gen.k0_pay3
  exact ((silu_code _ _ i0 i1).trans (congrArg _ (hid_scale_read g u i0))).symm

theorem hid_scale_drop : (shapeCast S1536 (Cert.ReferenceIdeal.Gen.k0_pay2 (F := Ideal) g u) shapeCasts_S1536x1_S1536 : FVec Ideal S1536 .f32)
    = Cert.ReferenceIdeal.Gen.k0_pay4 (F := Ideal) g u := rfl

end HiddenCodes

/-! ## The attention output's codes -/

section Attn
variable (a : FVec Ideal S1536x4096 .f32)

theorem attn_scale_read (r : Fin 1536) : Cert.ReferenceIdeal.Gen.k0_pay15 (F := Ideal) a (ix1 r) = rowScales a (ix2 r 0) := by
  delta Cert.ReferenceIdeal.Gen.k0_pay15
  refine ((o_scale _ r).trans (congrArg scaleOf (max_heads _ r))).trans (congrArg scaleOf (congrArg amaxOf (funext fun k => ?_)))
  exact (heads_form a r _ _).trans (congrArg (fun j => a (ix2 r j)) (flat_split k))

theorem attn_code_read (r : Fin 1536) (h : Fin 32) (d : Fin 128) : Cert.ReferenceIdeal.Gen.k0_pay16 (F := Ideal) a (ix3 r h d)
    = rowCodes a (ix2 r (flat h d)) := by
  delta Cert.ReferenceIdeal.Gen.k0_pay16
  exact (o_code _ _ r h d).trans (congrArg₂ codeOf (heads_form a r h d) (attn_scale_read a r))

theorem attn_scales_eq : (shapeCast S1536 (rowScales a) shapeCasts_S1536x1_S1536 : FVec Ideal S1536 .f32) = Cert.ReferenceIdeal.Gen.k0_pay15 (F := Ideal) a := by
  funext i
  idx_vars i
  exact (drop_form _ i0).trans (attn_scale_read a i0).symm

theorem attn_codes_eq : (shapeCast S1536x32x128 (rowCodes a) shapeCasts_S1536x4096_S1536x32x128 : FVec Ideal S1536x32x128 .fp8e4m3)
    = Cert.ReferenceIdeal.Gen.k0_pay16 (F := Ideal) a := by
  funext i
  idx_vars i
  exact (reshape_heads _ i0 i1 i2).trans (attn_code_read a i0 i1 i2).symm

theorem attn_proj_read (w : FVec Ideal S32x128x4096 .fp8e4m3) (r : Fin 1536) (j : Fin 4096) : Cert.ReferenceIdeal.Gen.k0_pay17 (F := Ideal) a w (ix2 r j)
    = (∑ k : Fin 4096, rowCodes a (ix2 r k) * (shapeCast S4096x4096 w shapeCasts_S32x128x4096_S4096x4096 : FVec Ideal S4096x4096 .fp8e4m3) (ix2 k j))
      * rowScales a (ix2 r 0) := by
  delta Cert.ReferenceIdeal.Gen.k0_pay17
  refine (o_form _ w _ r j).trans (congrArg₂ (· * ·) (Finset.sum_congr rfl fun k _ => congrArg₂ (· * ·) ?_ (reshape_weight w k j).symm) (attn_scale_read a r))
  exact (attn_code_read a r _ _).trans (congrArg (fun j => rowCodes a (ix2 r j)) (flat_split k))

end Attn

/-! ## The output -/

theorem output_eq (a : FVec Ideal S1536x4096 .f32) (g u : FVec Ideal Cert.ReferenceIdeal.S1536x14336 .f32) (wo : FVec Ideal S32x128x4096 .fp8e4m3)
    (wos : FVec Ideal S4096 .f32) (wd : FVec Ideal S14336x4096 .fp8e4m3) (wds : FVec Ideal S4096 .f32) (x : FVec Ideal S1536x4096 .bf16) :
    output (rowCodes a) (rowScales a) (Cert.ReferenceIdeal.Gen.k0_pay3 (F := Ideal) g u) (Cert.ReferenceIdeal.Gen.k0_pay2 (F := Ideal) g u)
      (shapeCast S4096x4096 wo shapeCasts_S32x128x4096_S4096x4096) wd (shapeCast S1x4096 wos shapeCasts_S4096_S1x4096)
      (shapeCast S1x4096 wds shapeCasts_S4096_S1x4096) x
    = Cert.ReferenceIdeal.Gen.k0_pay5 (F := Ideal) (Cert.ReferenceIdeal.Gen.k0_pay6 x) g u (Cert.ReferenceIdeal.Gen.k0_pay17 a wo) wos wd wds := by
  funext i
  idx_vars i
  delta Cert.ReferenceIdeal.Gen.k0_pay5
  refine Eq.trans ?_ (out_form _ _ _ _ wos wd wds i0 i1).symm
  rw [attn_proj_read]
  delta output
  exact congrArg₂ (· + ·) (congrArg₂ (· + ·) (congrArg (_ * ·) (reshape_row wos i1)) (congrArg _ (reshape_row wds i1))) rfl

end Cert.KernelIdeal.Value
-- ==== Proof.Value.Chain.lean ====
/- The results at the end of the kernel's run, read back through the regions to the launch memory and equated with the
   reference's values of the arguments. -/
module

public import proofs.«01_k».proof.Proof.Value.Bridge
public import Idealize.ShloMosaic.Lib.Claim

@[expose] public section

set_option maxRecDepth 16384

noncomputable section

namespace Cert.KernelIdeal.Value

open Idealize.ShloMosaic Idealize.ShloMosaic.TcCoe Idealize.SL.Sem
open Cert.KernelIdeal Cert.KernelIdeal.Gen Cert.Value

variable (m : (ℓ : Loc nD τ sig) → Buf (Elt Ideal) ℓ) (ρ : Dev nD → PrngReg) (c : Dev nD)

/-! ## What the host stretches leave -/

theorem gain_entry : W1 m ρ c (Proc.devRef .tc main_v1) = shapeCast S1x4096 (m ((c : Thread nD τ).loc main_arg1)) shapeCasts_S4096_S1x4096 := by
  unfold_abbrev_sides
  after_results
  try rfl

theorem columns_entry : W1 m ρ c (Proc.devRef .tc main_v0) = shapeCast S1x34816 (m ((c : Thread nD τ).loc main_arg3)) shapeCasts_S34816_S1x34816 := by
  unfold_abbrev_sides
  after_results
  try rfl

theorem weight_entry : W6 m ρ c (Proc.devRef .tc main_v6) = shapeCast S4096x4096 (m ((c : Thread nD τ).loc main_arg5)) shapeCasts_S32x128x4096_S4096x4096 := by
  rw [← W5_args m ρ c main_arg5 (by decide)]
  unfold_abbrev_sides
  after_results
  try rfl

theorem wos_entry : W6 m ρ c (Proc.devRef .tc main_v7) = shapeCast S1x4096 (m ((c : Thread nD τ).loc main_arg6)) shapeCasts_S4096_S1x4096 := by
  rw [← W5_args m ρ c main_arg6 (by decide)]
  unfold_abbrev_sides
  after_results
  try rfl

theorem wds_entry : W6 m ρ c (Proc.devRef .tc main_v8) = shapeCast S1x4096 (m ((c : Thread nD τ).loc main_arg8)) shapeCasts_S4096_S1x4096 := by
  rw [← W5_args m ρ c main_arg8 (by decide)]
  unfold_abbrev_sides
  after_results
  try rfl

/-! ## The arguments and the reference's values of them -/

/-- Argument `r` at launch. -/
abbrev arg (r : Ref sig .tc) : Buf (Elt Ideal) ((c : Thread nD τ).loc r) := m ((c : Thread nD τ).loc r)

/-- The row scales of the normalised input. -/
abbrev xScales : FVec Ideal S1536x1 .f32 := Cert.ReferenceIdeal.Gen.k0_pay8 (F := Ideal) (arg m c main_arg0) (arg m c main_arg1)
/-- Its row codes. -/
abbrev xCodes : FVec Ideal S1536x4096 .fp8e4m3 := Cert.ReferenceIdeal.Gen.k0_pay9 (F := Ideal) (arg m c main_arg0) (arg m c main_arg1)
/-- The gate projection. -/
abbrev gateV : FVec Ideal S1536x14336 .f32 :=
  Cert.ReferenceIdeal.Gen.k0_pay12 (F := Ideal) (xScales m c) (xCodes m c) (arg m c main_arg2) (arg m c main_arg3)
/-- The up projection. -/
abbrev upV : FVec Ideal S1536x14336 .f32 :=
  Cert.ReferenceIdeal.Gen.k0_pay13 (F := Ideal) (xScales m c) (xCodes m c) (arg m c main_arg2) (arg m c main_arg3)

/-! ## Each region's outputs at its exit -/

theorem xc_made : W2 m ρ c (Proc.devRef .tc main_v2_0) = xCodes m c :=
  (W2_arr m ρ c 2).trans ((ln_codes (V1 m ρ) c).trans (congrArg₂ (Cert.ReferenceIdeal.Gen.k0_pay9 (F := Ideal))
    (W1_args m ρ c main_arg0 (by decide)) ((congrArg row (gain_entry m ρ c)).trans (reshape_gain _))))

theorem xs_made : W2 m ρ c (Proc.devRef .tc main_v2_1) = xScales m c :=
  (W2_arr m ρ c 3).trans ((ln_scales (V1 m ρ) c).trans (congrArg₂ (Cert.ReferenceIdeal.Gen.k0_pay8 (F := Ideal))
    (W1_args m ρ c main_arg0 (by decide)) ((congrArg row (gain_entry m ρ c)).trans (reshape_gain _))))

theorem oc_made : W3 m ρ c (Proc.devRef .tc main_v3_0) = rowCodes (arg m c main_arg4) :=
  (W3_arr m ρ c 1).trans ((o_codes (V2 m ρ) c).trans (congrArg rowCodes (W2_args m ρ c main_arg4 (by decide))))

theorem os_made : W3 m ρ c (Proc.devRef .tc main_v3_1) = rowScales (arg m c main_arg4) :=
  (W3_arr m ρ c 2).trans ((o_scales (V2 m ρ) c).trans (congrArg rowScales (W2_args m ρ c main_arg4 (by decide))))

theorem hidden_made : W4 m ρ c (Proc.devRef .tc main_v4) = Cert.ReferenceIdeal.Gen.k0_pay1 (F := Ideal) (gateV m c) (upV m c) := by
  refine (W4_arr m ρ c 6).trans ((hidden_array (V3 m ρ) c).trans (Eq.trans ?_ (hidden_eq (xScales m c) (xCodes m c) (arg m c main_arg2) (arg m c main_arg3))))
  have h0 : V3 m ρ c (Pipeline.arrRef spec2 0) = xCodes m c := (W3_of m ρ c main_v2_0 (by decide +kernel)).trans (xc_made m ρ c)
  have h1 : V3 m ρ c (Pipeline.arrRef spec2 1) = xScales m c := (W3_of m ρ c main_v2_1 (by decide +kernel)).trans (xs_made m ρ c)
  have h2 : V3 m ρ c (Pipeline.arrRef spec2 2) = arg m c main_arg2 := W3_args m ρ c main_arg2 (by decide)
  have h4 : V3 m ρ c (Pipeline.arrRef spec2 4) = shapeCast S1x34816 (arg m c main_arg3) shapeCasts_S34816_S1x34816 :=
    (W3_of m ρ c main_v0 (by decide +kernel)).trans ((W2_of m ρ c main_v0 (by decide +kernel)).trans (columns_entry m ρ c))
  rw [h0, h1, h2, h4]

theorem hc_made : W5 m ρ c (Proc.devRef .tc main_v5_0) = Cert.ReferenceIdeal.Gen.k0_pay3 (F := Ideal) (gateV m c) (upV m c) :=
  (W5_arr m ρ c 1).trans ((h_codes (V4 m ρ) c).trans ((congrArg hidCodes (hidden_made m ρ c)).trans (hidCodes_eq _ _)))

theorem hs_made : W5 m ρ c (Proc.devRef .tc main_v5_1) = Cert.ReferenceIdeal.Gen.k0_pay2 (F := Ideal) (gateV m c) (upV m c) :=
  (W5_arr m ρ c 2).trans ((h_scales (V4 m ρ) c).trans ((congrArg hidScales (hidden_made m ρ c)).trans (hidScales_eq _ _)))

theorem oc_late : W6 m ρ c (Proc.devRef .tc main_v3_0) = rowCodes (arg m c main_arg4) :=
  (W6_of m ρ c main_v3_0 (by decide)).trans ((W5_of m ρ c main_v3_0 (by decide +kernel)).trans
    ((W4_of m ρ c main_v3_0 (by decide +kernel)).trans (oc_made m ρ c)))

theorem os_late : W6 m ρ c (Proc.devRef .tc main_v3_1) = rowScales (arg m c main_arg4) :=
  (W6_of m ρ c main_v3_1 (by decide)).trans ((W5_of m ρ c main_v3_1 (by decide +kernel)).trans
    ((W4_of m ρ c main_v3_1 (by decide +kernel)).trans (os_made m ρ c)))

theorem hc_late : W6 m ρ c (Proc.devRef .tc main_v5_0) = Cert.ReferenceIdeal.Gen.k0_pay3 (F := Ideal) (gateV m c) (upV m c) :=
  (W6_of m ρ c main_v5_0 (by decide)).trans (hc_made m ρ c)

theorem hs_late : W6 m ρ c (Proc.devRef .tc main_v5_1) = Cert.ReferenceIdeal.Gen.k0_pay2 (F := Ideal) (gateV m c) (upV m c) :=
  (W6_of m ρ c main_v5_1 (by decide)).trans (hs_made m ρ c)

theorem out_made : W7 m ρ c (Proc.devRef .tc main_v9)
    = Cert.ReferenceIdeal.Gen.k0_pay5 (F := Ideal) (Cert.ReferenceIdeal.Gen.k0_pay6 (arg m c main_arg0)) (gateV m c) (upV m c)
        (Cert.ReferenceIdeal.Gen.k0_pay17 (arg m c main_arg4) (arg m c main_arg5)) (arg m c main_arg6) (arg m c main_arg7) (arg m c main_arg8) := by
  refine (W7_arr m ρ c 9).trans ((output_array (V6 m ρ) c).trans (Eq.trans ?_ (output_eq (arg m c main_arg4) (gateV m c) (upV m c) (arg m c main_arg5)
    (arg m c main_arg6) (arg m c main_arg7) (arg m c main_arg8) (arg m c main_arg0))))
  have h0 : V6 m ρ c (Pipeline.arrRef spec4 0) = rowCodes (arg m c main_arg4) := oc_late m ρ c
  have h1 : V6 m ρ c (Pipeline.arrRef spec4 1) = rowScales (arg m c main_arg4) := os_late m ρ c
  have h2 : V6 m ρ c (Pipeline.arrRef spec4 2) = Cert.ReferenceIdeal.Gen.k0_pay3 (F := Ideal) (gateV m c) (upV m c) := hc_late m ρ c
  have h3 : V6 m ρ c (Pipeline.arrRef spec4 3) = Cert.ReferenceIdeal.Gen.k0_pay2 (F := Ideal) (gateV m c) (upV m c) := hs_late m ρ c
  have h4 : V6 m ρ c (Pipeline.arrRef spec4 4) = shapeCast S4096x4096 (arg m c main_arg5) shapeCasts_S32x128x4096_S4096x4096 := weight_entry m ρ c
  have h5 : V6 m ρ c (Pipeline.arrRef spec4 5) = arg m c main_arg7 := W6_args m ρ c main_arg7 (by decide)
  have h6 : V6 m ρ c (Pipeline.arrRef spec4 6) = shapeCast S1x4096 (arg m c main_arg6) shapeCasts_S4096_S1x4096 := wos_entry m ρ c
  have h7 : V6 m ρ c (Pipeline.arrRef spec4 7) = shapeCast S1x4096 (arg m c main_arg8) shapeCasts_S4096_S1x4096 := wds_entry m ρ c
  have h8 : V6 m ρ c (Pipeline.arrRef spec4 8) = arg m c main_arg0 := W6_args m ρ c main_arg0 (by decide)
  rw [h0, h1, h2, h3, h4, h5, h6, h7, h8]

/-! ## The results at the end -/

theorem out_end : W8 m ρ c (Proc.devRef .tc main_v9)
    = Cert.ReferenceIdeal.Gen.k0_pay5 (F := Ideal) (Cert.ReferenceIdeal.Gen.k0_pay6 (arg m c main_arg0)) (gateV m c) (upV m c)
        (Cert.ReferenceIdeal.Gen.k0_pay17 (arg m c main_arg4) (arg m c main_arg5)) (arg m c main_arg6) (arg m c main_arg7) (arg m c main_arg8) :=
  (W8_of m ρ c main_v9 (by decide)).trans (out_made m ρ c)

theorem xc_end : W8 m ρ c (Proc.devRef .tc main_v2_0) = xCodes m c :=
  (W8_of m ρ c main_v2_0 (by decide)).trans ((W7_of m ρ c main_v2_0 (by decide +kernel)).trans ((W6_of m ρ c main_v2_0 (by decide)).trans
    ((W5_of m ρ c main_v2_0 (by decide +kernel)).trans ((W4_of m ρ c main_v2_0 (by decide +kernel)).trans
      ((W3_of m ρ c main_v2_0 (by decide +kernel)).trans (xc_made m ρ c))))))

theorem hc_end : W8 m ρ c (Proc.devRef .tc main_v5_0) = Cert.ReferenceIdeal.Gen.k0_pay3 (F := Ideal) (gateV m c) (upV m c) :=
  (W8_of m ρ c main_v5_0 (by decide)).trans ((W7_of m ρ c main_v5_0 (by decide +kernel)).trans (hc_late m ρ c))

theorem xs_last : W7 m ρ c (Proc.devRef .tc main_v2_1) = xScales m c :=
  (W7_of m ρ c main_v2_1 (by decide +kernel)).trans ((W6_of m ρ c main_v2_1 (by decide)).trans
    ((W5_of m ρ c main_v2_1 (by decide +kernel)).trans ((W4_of m ρ c main_v2_1 (by decide +kernel)).trans
      ((W3_of m ρ c main_v2_1 (by decide +kernel)).trans (xs_made m ρ c)))))

theorem xs_end : W8 m ρ c (Proc.devRef .tc main_v10)
    = Cert.ReferenceIdeal.Gen.k0_pay10 (F := Ideal) (arg m c main_arg0) (arg m c main_arg1) := by
  have h : W8 m ρ c (Proc.devRef .tc main_v10) = shapeCast S1536 (W7 m ρ c (Proc.devRef .tc main_v2_1)) shapeCasts_S1536x1_S1536 := by
    unfold_abbrev_sides
    after_results
    try rfl
  rw [h, xs_last]
  rfl

theorem oc_end : W8 m ρ c (Proc.devRef .tc main_v11) = Cert.ReferenceIdeal.Gen.k0_pay16 (F := Ideal) (arg m c main_arg4) := by
  have h : W8 m ρ c (Proc.devRef .tc main_v11) = shapeCast S1536x32x128 (W7 m ρ c (Proc.devRef .tc main_v3_0)) shapeCasts_S1536x4096_S1536x32x128 := by
    unfold_abbrev_sides
    after_results
    try rfl
  rw [h, W7_of m ρ c main_v3_0 (by decide +kernel), oc_late]
  exact attn_codes_eq _

theorem os_end : W8 m ρ c (Proc.devRef .tc main_v12) = Cert.ReferenceIdeal.Gen.k0_pay15 (F := Ideal) (arg m c main_arg4) := by
  have h : W8 m ρ c (Proc.devRef .tc main_v12) = shapeCast S1536 (W7 m ρ c (Proc.devRef .tc main_v3_1)) shapeCasts_S1536x1_S1536 := by
    unfold_abbrev_sides
    after_results
    try rfl
  rw [h, W7_of m ρ c main_v3_1 (by decide +kernel), os_late]
  exact attn_scales_eq _

theorem hs_end : W8 m ρ c (Proc.devRef .tc main_v13) = Cert.ReferenceIdeal.Gen.k0_pay4 (F := Ideal) (gateV m c) (upV m c) := by
  have h : W8 m ρ c (Proc.devRef .tc main_v13) = shapeCast S1536 (W7 m ρ c (Proc.devRef .tc main_v5_1)) shapeCasts_S1536x1_S1536 := by
    unfold_abbrev_sides
    after_results
    try rfl
  rw [h, W7_of m ρ c main_v5_1 (by decide +kernel), hs_late]
  exact hid_scale_drop _ _

end Cert.KernelIdeal.Value
-- ==== Proof.QkvRun.BitsCases.lean ====
/- The two cases of the body of `Qkv` (q columns, points 0 to 7; k and v columns, points 8 to 11): its branch
   conditions over the points, where the output windows are idle, and the staging memrefs. -/
module

public import proofs.«01_k».proof.Proof.Gen.Qkv.Frame
public import proofs.«01_k».proof.Proof.Gen.Qkv.Skeleton
public import proofs.«01_k».proof.Proof.Gen.Qkv.Points
public import Idealize.ShloMosaic.Lib.Pipeline.TableIdle

@[expose] public section

-- membership in a rectangle of production extents (`View.cover_of_tiled`): the elaborator's structural look
-- recurses once per coordinate of the long axes
set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 8 — decided over the grid. -/
theorem hcond0_0 : ∀ t : Fin cfg0.N, cond0_0 (grid0.coords t) ↔ t.val < 8 :=
  (by decide +kernel : ∀ t : Fin grid0.N, cond0_0 (grid0.coords t) ↔ t.val < 8)

/-- The condition of the body's `scf.if` 1 (`k0_h2`), from the grid coordinates (the skeleton's scalar
    chain substituted). -/
abbrev cond0_1 (i : grid0.Coords) : Prop := k0_cond2 i = 1#1
/-- It holds at the points from point 8 on — decided over the grid. -/
theorem hcond0_1 : ∀ t : Fin cfg0.N, cond0_1 (grid0.coords t) ↔ 8 ≤ t.val :=
  (by decide +kernel : ∀ t : Fin grid0.N, cond0_1 (grid0.coords t) ↔ 8 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 live: the case stores into it. -/
theorem liveAt0_5_A : ∀ t : Fin cfg0.N, cond0_0 (grid0.coords t) → ¬cond0_1 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → cond0_1 (grid0.coords t) → cfg0.idle 5 (grid0.coords t) = true := by decide +kernel
/-- Output 5 is idle only from point 8 on. -/
theorem idle0_5_ge : ∀ t : Fin cfg0.N, cfg0.idle 5 (grid0.coords t) = true → 8 ≤ t.val := by decide +kernel
/-- From point 8 on the staging buffer of output 5 still holds what point 7 stored: it has not been written back. -/
theorem fresh0_5 : ∀ t : Fin cfg0.N, 8 ≤ t.val → cfg0.fresh 5 t.val = false := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 live: the case stores into it. -/
theorem liveAt0_6_B : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1536x512 .bf16 := (Memref.whole cc0_stg5_0 : Memref sig .tc .vmem S1536x512 .bf16).view
/-- One staging buffer of output window 6, through which its contents are stated (`View.read_writes_of_cover`: the
    choice does not matter). -/
abbrev VO0_6 : View sig .tc .vmem S1536x512 .fp8e4m3 := (Memref.whole cc0_stg6_0 : Memref sig .tc .vmem S1536x512 .fp8e4m3).view
/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x4096 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x512 .fp8e4m3 := win0_6.stage (cfg0.slots t 6)
abbrev hs0_6 (t : Fin cfg0.N) : (ms0_6 t).IsWhole := hstage0_6 ((cfg0.slots t 6).cast nbuf0_6)

end Cert.Qkv.Gen

end
-- ==== Proof.QkvRun.BitsRunA.lean ====
/- The run of the body of `Qkv` in case A: its triple, and the pieces that each output buffer ends with. -/
module

public import proofs.«01_k».proof.Proof.QkvRun.BitsCases

@[expose] public section

-- membership in a rectangle of production extents (`View.cover_of_tiled`): the elaborator's structural look
-- recurses once per coordinate of the long axes
set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 1, … 7: 8 of 12), WITH the
    proof that on whole staging memrefs — the inputs' at their contents, the outputs it leaves idle (6: no store, the window idle at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : cond0_0 i) (hc1 : ¬cond0_1 i)
    (x0 : Vec F S16 .f32) (x1 : Vec F S1536x4096 .fp8e4m3) (x2 : Vec F S1536x1 .f32) (x3 : Vec F S4096x512 .fp8e4m3) (x4 : Vec F S1x512 .f32) :
    Σ' (L5 : List (View.Piece (Elt F) S1536x512 .bf16)), { L6 : List (View.Piece (Elt F) S1536x512 .fp8e4m3) //
      ∀ (xi6 : Vec F S1536x512 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6) -∗ K ⟨⟩))
          ⊢ wp frame (wpE (defs₀ (F := F)) Variants.none c none) E (cc0_qkv_proj i arg1 harg1 arg2 harg2 arg3 harg3 arg4 harg4 arg5 harg5 arg6 harg6 arg7 harg7) K } := by
  refine ⟨?_, [], fun xi6 E K => ?run⟩
  case run =>
    simp only [cc0_qkv_proj_eq_skeleton]; unfold cc0_qkv_proj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact H6

end Cert.Qkv.Gen

end
-- ==== Proof.QkvRun.BitsRunB.lean ====
/- The run of the body of `Qkv` in case B: its triple, and the pieces that each output buffer ends with. -/
module

public import proofs.«01_k».proof.Proof.QkvRun.BitsRunA

@[expose] public section

-- membership in a rectangle of production extents (`View.cover_of_tiled`): the elaborator's structural look
-- recurses once per coordinate of the long axes
set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- What the body's stores leave in each output's staging memref, as pieces (last first) IN CASE B (`scf.if` 0 not taken, `scf.if` 1 taken: points 8, 9, 10, 11), WITH the
    proof that on whole staging memrefs — the inputs' at their contents, the outputs it leaves idle (5: no store, the window idle at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : ¬cond0_0 i) (hc1 : cond0_1 i)
    (x0 : Vec F S16 .f32) (x1 : Vec F S1536x4096 .fp8e4m3) (x2 : Vec F S1536x1 .f32) (x3 : Vec F S4096x512 .fp8e4m3) (x4 : Vec F S1x512 .f32) :
    Σ' (L5 : List (View.Piece (Elt F) S1536x512 .bf16)), { L6 : List (View.Piece (Elt F) S1536x512 .fp8e4m3) //
      ∀ (xi5 : Vec F S1536x512 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f L6)) -∗ K ⟨⟩))
          ⊢ wp frame (wpE (defs₀ (F := F)) Variants.none c none) E (cc0_qkv_proj i arg1 harg1 arg2 harg2 arg3 harg3 arg4 harg4 arg5 harg5 arg6 harg6 arg7 harg7) K } := by
  refine ⟨[], ?_, fun xi5 E K => ?run⟩
  case run =>
    simp only [cc0_qkv_proj_eq_skeleton]; unfold cc0_qkv_proj_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.Qkv.Gen

end
-- ==== Proof.QkvRun.BitsFrame.lean ====
/- The frame certificate of `Qkv`. Output 5 (q) is stored into at points 0 to 7 only; its last block is written back
   at point 11, where its buffer still holds what point 7 left, so the proof data carries that through points 8 to 11. -/
module

public import proofs.«01_k».proof.Proof.QkvRun.BitsRunB
public import Idealize.ShloMosaic.Lib.Claim

@[expose] public section

-- membership in a rectangle of production extents (`View.cover_of_tiled`): the elaborator's structural look
-- recurses once per coordinate of the long axes
set_option maxRecDepth 16384

noncomputable section

namespace Cert.Qkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 5 tile its block (3 stores of `S512x512`, checked by the kernel's evaluation: Lib/Ring.lean `Piece.tiledL`, linear in the pieces, through a loop's `@[irreducible]` trip theorem too), so they cover it. -/
theorem cover0_A_5 (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : cond0_0 i) (hc1 : ¬cond0_1 i)
    (x0 : Vec F S16 .f32) (x1 : Vec F S1536x4096 .fp8e4m3) (x2 : Vec F S1536x1 .f32) (x3 : Vec F S4096x512 .fp8e4m3) (x4 : Vec F S1x512 .f32) (y : S1536x512.Idx) :
    ∃ pc ∈ (kernelRun0_A c i arg1 harg1 arg2 harg2 arg3 harg3 arg4 harg4 arg5 harg5 arg6 harg6 arg7 harg7 hc0 hc1 x0 x1 x2 x3 x4).1, y ∈ pc.1.set :=
  View.cover_of_tiledL (kernelRun0_A c i arg1 harg1 arg2 harg2 arg3 harg3 arg4 harg4 arg5 harg5 arg6 harg6 arg7 harg7 hc0 hc1 x0 x1 x2 x3 x4).1 S512x512.size (by sl_kernel_rfl) y

/-- What case A leaves in output 5's staging buffer: its pieces read back over junk. -/
def out0_A_5 (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : cond0_0 i) (hc1 : ¬cond0_1 i)
    (x0 : Vec F S16 .f32) (x1 : Vec F S1536x4096 .fp8e4m3) (x2 : Vec F S1536x1 .f32) (x3 : Vec F S4096x512 .fp8e4m3) (x4 : Vec F S1x512 .f32) : Vec F S1536x512 .bf16 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : cond0_0 i) (hc1 : ¬cond0_1 i)
    (x0 : Vec F S16 .f32) (x1 : Vec F S1536x4096 .fp8e4m3) (x2 : Vec F S1536x1 .f32) (x3 : Vec F S4096x512 .fp8e4m3) (x4 : Vec F S1x512 .f32) : Vec F S1536x512 .fp8e4m3 :=
  VO0_6.read (Elt F) (VO0_6.writes (Elt F) VO0_6.junk (kernelRun0_A c i arg1 harg1 arg2 harg2 arg3 harg3 arg4 harg4 arg5 harg5 arg6 harg6 arg7 harg7 hc0 hc1 x0 x1 x2 x3 x4).2.1)

/-- Case B stores nothing into output 5: no pieces — a placeholder (junk read back) that nothing consults. -/
def out0_B_5 (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : ¬cond0_0 i) (hc1 : cond0_1 i)
    (x0 : Vec F S16 .f32) (x1 : Vec F S1536x4096 .fp8e4m3) (x2 : Vec F S1536x1 .f32) (x3 : Vec F S4096x512 .fp8e4m3) (x4 : Vec F S1x512 .f32) : Vec F S1536x512 .bf16 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4).1)

/-- Case B's pieces for output 6 tile its block (12 stores of `S512x128`, checked by the kernel's evaluation: Lib/Ring.lean `Piece.tiledL`, linear in the pieces, through a loop's `@[irreducible]` trip theorem too), so they cover it. -/
theorem cover0_B_6 (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : ¬cond0_0 i) (hc1 : cond0_1 i)
    (x0 : Vec F S16 .f32) (x1 : Vec F S1536x4096 .fp8e4m3) (x2 : Vec F S1536x1 .f32) (x3 : Vec F S4096x512 .fp8e4m3) (x4 : Vec F S1x512 .f32) (y : S1536x512.Idx) :
    ∃ pc ∈ (kernelRun0_B c i arg1 harg1 arg2 harg2 arg3 harg3 arg4 harg4 arg5 harg5 arg6 harg6 arg7 harg7 hc0 hc1 x0 x1 x2 x3 x4).2.1, y ∈ pc.1.set :=
  View.cover_of_tiledL (kernelRun0_B c i arg1 harg1 arg2 harg2 arg3 harg3 arg4 harg4 arg5 harg5 arg6 harg6 arg7 harg7 hc0 hc1 x0 x1 x2 x3 x4).2.1 S512x128.size (by sl_kernel_rfl) y

/-- What case B leaves in output 6's staging buffer: its pieces read back over junk. -/
def out0_B_6 (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : ¬cond0_0 i) (hc1 : cond0_1 i)
    (x0 : Vec F S16 .f32) (x1 : Vec F S1536x4096 .fp8e4m3) (x2 : Vec F S1536x1 .f32) (x3 : Vec F S4096x512 .fp8e4m3) (x4 : Vec F S1x512 .f32) : Vec F S1536x512 .fp8e4m3 :=
  VO0_6.read (Elt F) (VO0_6.writes (Elt F) VO0_6.junk (kernelRun0_B c i arg1 harg1 arg2 harg2 arg3 harg3 arg4 harg4 arg5 harg5 arg6 harg6 arg7 harg7 hc0 hc1 x0 x1 x2 x3 x4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x512 .bf16 × Vec F S1536x512 .fp8e4m3
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) < 8 then
      if h1 : 8 ≤ (n + 1) then
        False.elim (by have hN : n + 1 < 12 := lt_of_lt_of_eq hn (show cfg0.N = 12 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : 8 ≤ (n + 1) then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        False.elim (by have hN : n + 1 < 12 := lt_of_lt_of_eq hn (show cfg0.N = 12 from N_0); omega)

/-- `outsAt0` at a point of case A: that case's contents. -/
theorem outsAt0_A (c : Dev nD) (t : Fin cfg0.N) (h0 : t.val < 8) (h1 : ¬8 ≤ t.val) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents. -/
theorem outsAt0_B (c : Dev nD) (t : Fin cfg0.N) (h0 : ¬t.val < 8) (h1 : 8 ≤ t.val) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t)) := by
  obtain ⟨n, hn⟩ := t
  cases n with
  | zero => exact (by exfalso; (try dsimp only at h0); exact by omega)
  | succ n => exact (dif_neg h0).trans ((dif_pos h1).trans rfl)

/-! ## The pipeline's proof data -/

/-- The last point up to `t` that stores into output 5: `t` itself before point 8, point 7 from there on. -/
def lastQ (t : Fin cfg0.N) : Fin cfg0.N := ⟨min t.val 7, Nat.lt_of_le_of_lt (Nat.min_le_left _ _) t.isLt⟩
theorem lastQ_of_lt {t : Fin cfg0.N} (h : t.val < 8) : lastQ t = t := Fin.ext (by simp only [lastQ]; omega)
theorem lastQ_of_ge {t : Fin cfg0.N} (h : 8 ≤ t.val) : (lastQ t).val = 7 := by simp only [lastQ]; omega

/-- The proof data of the one pipeline on core `c`: the arrays as the region finds them (`V`); after the body at
    point `t` each input's buffer at its block and the outputs' at `outsAt0` (output 5's at that of the last point that stores into it); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c (lastQ t).val (lastQ t).isLt).1
    | ⟨6, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c (lastQ t).val (lastQ t).isLt).1 := by dsimp only [dats]
theorem after0_6 (c : Dev nD) (t : Fin cfg0.N) : (dats m 0 c).after 6 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- From point 8 on the body finds in output 5's buffer what point 7 left there. -/
theorem before0_5_B (c : Dev nD) (t : Fin cfg0.N) (h : 8 ≤ t.val) (d) : (dats m 0 c).before 5 t d = (dats m 0 c).after 5 t := by
  have hcarry : ∀ (t : Fin cfg0.N) (_ : t.val ≠ 0), cfg0.idle 5 (cfg0.grid.coords t) = true → cfg0.fresh 5 t.val = false →
      (dats m 0 c).after 5 t = (dats m 0 c).after 5 ⟨t.val - 1, by omega⟩ := fun t _ hi _ => by
    have h8 := idle0_5_ge t hi
    have e : lastQ t = lastQ ⟨t.val - 1, by omega⟩ := Fin.ext (by simp only [lastQ]; omega)
    rw [after0_5, after0_5, e]
  rw [(dats m 0 c).before_out_traj 5 rfl (fun _ _ => rfl) hcarry _ t rfl d, fresh0_5 t h, if_neg Bool.false_ne_true]
  have e : lastQ ⟨t.val - 1, by omega⟩ = lastQ t := Fin.ext (by simp only [lastQ]; omega)
  rw [after0_5, after0_5, e]

/-- So at a point of case B the untouched buffer of output 5 is as the pipeline asks, written back there or not. -/
theorem leaves0_5_B (c : Dev nD) (t : Fin cfg0.N) (h0 : ¬t.val < 8) (h1 : 8 ≤ t.val) :
    iprop(∃ d, owns (c : Thread nD τ) (ms0_5 t) fullShare ((dats m 0 c).before 5 t d)) ⊢ ((dats m 0 c).leavesExact 5 t : sProp 𝕄) := by
  unfold Dat.leavesExact
  rw [idleAt0_5_B t (fun h => h0 ((hcond0_0 t).mp h)) ((hcond0_1 t).mpr h1)]
  cases (cfg0.win 5).flush t
  · exact .rfl
  · simp only [before0_5_B m c t h1]
    iintro ⟨%d, H⟩
    iexact H

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 12 := lt_of_lt_of_eq t.isLt (show cfg0.N = 12 from N_0)
  by_cases h0 : t.val < 8
  · by_cases h1 : 8 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h))], after0_5, lastQ_of_lt h0]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [outsAt0_A m c t h0 h1]
      unfold out0_A_5; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      iintro ⟨H0, H1, H2, H3, H4, ⟨%e5, H5⟩, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _)
      iexists _; iexact H6
  · by_cases h1 : 8 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1)], after0_6]
      rw [outsAt0_B m c t h0 h1]
      unfold out0_B_6; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iapply (leaves0_5_B m c t h0 h1); iexists _; iexact H5
      unfold owns; iexists _; isplitr
      swap; · iexact H6
      ipureintro; exact View.read_writes_of_cover _ _ _ _ _ (cover0_B_6 c _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Qkv`'s statement (Defs.lean) at any `F` — Proof.lean cites it at `Bits`:
    `theorem Cert.Proof.claim : Cert.Claim := ⟨Cert.Qkv.Gen.facts, fun m ρ _ => Cert.Qkv.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Qkv.Gen

end
-- ==== Proof.QkvRun.IdealCases.lean ====
/- The two cases of the body of `QkvIdeal` (q columns, points 0 to 7; k and v columns, points 8 to 11): its branch
   conditions over the points, where the output windows are idle, and the staging memrefs. -/
module

public import proofs.«01_k».proof.Proof.Gen.QkvIdeal.Frame
public import proofs.«01_k».proof.Proof.Gen.QkvIdeal.Skeleton
public import proofs.«01_k».proof.Proof.Gen.QkvIdeal.Points
public import Idealize.ShloMosaic.Lib.Pipeline.TableIdle

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 8 — decided over the grid. -/
theorem hcond0_0 : ∀ t : Fin cfg0.N, cond0_0 (grid0.coords t) ↔ t.val < 8 :=
  (by decide +kernel : ∀ t : Fin grid0.N, cond0_0 (grid0.coords t) ↔ t.val < 8)

/-- The condition of the body's `scf.if` 1 (`k0_h2`), from the grid coordinates (the skeleton's scalar
    chain substituted). -/
abbrev cond0_1 (i : grid0.Coords) : Prop := k0_cond2 i = 1#1
/-- It holds at the points from point 8 on — decided over the grid. -/
theorem hcond0_1 : ∀ t : Fin cfg0.N, cond0_1 (grid0.coords t) ↔ 8 ≤ t.val :=
  (by decide +kernel : ∀ t : Fin grid0.N, cond0_1 (grid0.coords t) ↔ 8 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 live: the case stores into it. -/
theorem liveAt0_5_A : ∀ t : Fin cfg0.N, cond0_0 (grid0.coords t) → ¬cond0_1 (grid0.coords t) → cfg0.idle 5 (grid0.coords t) = false := by decide +kernel
/-- At the points of case B the printed configuration (`Cfg.idle`) calls output 5 idle: the case stores nothing into it. -/
theorem idleAt0_5_B : ∀ t : Fin cfg0.N, ¬cond0_0 (grid0.coords t) → cond0_1 (grid0.coords t) → cfg0.idle 5 (grid0.coords t) = true := by decide +kernel
/-- Output 5 is idle only from point 8 on. -/
theorem idle0_5_ge : ∀ t : Fin cfg0.N, cfg0.idle 5 (grid0.coords t) = true → 8 ≤ t.val := by decide +kernel
/-- From point 8 on the staging buffer of output 5 still holds what point 7 stored: it has not been written back. -/
theorem fresh0_5 : ∀ t : Fin cfg0.N, 8 ≤ t.val → cfg0.fresh 5 t.val = false := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 live: the case stores into it. -/
theorem liveAt0_6_B : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1536x512 .bf16 := (Memref.whole cc0_stg5_0 : Memref sig .tc .vmem S1536x512 .bf16).view
/-- One staging buffer of output window 6, through which its contents are stated (`View.read_writes_of_cover`: the
    choice does not matter). -/
abbrev VO0_6 : View sig .tc .vmem S1536x512 .fp8e4m3 := (Memref.whole cc0_stg6_0 : Memref sig .tc .vmem S1536x512 .fp8e4m3).view
/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x4096 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x512 .fp8e4m3 := win0_6.stage (cfg0.slots t 6)
abbrev hs0_6 (t : Fin cfg0.N) : (ms0_6 t).IsWhole := hstage0_6 ((cfg0.slots t 6).cast nbuf0_6)

end Cert.QkvIdeal.Gen

end
-- ==== Proof.QkvRun.IdealRunA.lean ====
/- The run of the body of `QkvIdeal` in case A: its triple, and the pieces that each output buffer ends with. -/
module

public import proofs.«01_k».proof.Proof.QkvRun.IdealCases

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 1, … 7: 8 of 12), WITH the
    proof that on whole staging memrefs — the inputs' at their contents, the outputs it leaves idle (6: no store, the window idle at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : cond0_0 i) (hc1 : ¬cond0_1 i)
    (x0 : Vec F S16 .f32) (x1 : Vec F S1536x4096 .fp8e4m3) (x2 : Vec F S1536x1 .f32) (x3 : Vec F S4096x512 .fp8e4m3) (x4 : Vec F S1x512 .f32) :
    Σ' (L5 : List (View.Piece (Elt F) S1536x512 .bf16)), { L6 : List (View.Piece (Elt F) S1536x512 .fp8e4m3) //
      ∀ (xi6 : Vec F S1536x512 .fp8e4m3) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6) -∗ K ⟨⟩))
          ⊢ wp frame (wpE (defs₀ (F := F)) Variants.none c none) E (cc0_qkv_proj i arg1 harg1 arg2 harg2 arg3 harg3 arg4 harg4 arg5 harg5 arg6 harg6 arg7 harg7) K } := by
  refine ⟨?_, [], fun xi6 E K => ?run⟩
  case run =>
    simp only [cc0_qkv_proj_eq_skeleton]; unfold cc0_qkv_proj_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact H6

end Cert.QkvIdeal.Gen

end
-- ==== Proof.QkvRun.IdealRunB.lean ====
/- The run of the body of `QkvIdeal` in case B: its triple, and the pieces that each output buffer ends with. -/
module

public import proofs.«01_k».proof.Proof.QkvRun.IdealRunA

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- (the run's proof term is large: the definition's epilogue — `abstractNestedProofs` — walks it past the default budget)
set_option maxHeartbeats 1000000 in
/-- What the body's stores leave in each output's staging memref, as pieces (last first) IN CASE B (`scf.if` 0 not taken, `scf.if` 1 taken: points 8, 9, 10, 11), WITH the
    proof that on whole staging memrefs — the inputs' at their contents, the outputs it leaves idle (5: no store, the window idle at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : ¬cond0_0 i) (hc1 : cond0_1 i)
    (x0 : Vec F S16 .f32) (x1 : Vec F S1536x4096 .fp8e4m3) (x2 : Vec F S1536x1 .f32) (x3 : Vec F S4096x512 .fp8e4m3) (x4 : Vec F S1x512 .f32) :
    Σ' (L5 : List (View.Piece (Elt F) S1536x512 .bf16)), { L6 : List (View.Piece (Elt F) S1536x512 .fp8e4m3) //
      ∀ (xi5 : Vec F S1536x512 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f L6)) -∗ K ⟨⟩))
          ⊢ wp frame (wpE (defs₀ (F := F)) Variants.none c none) E (cc0_qkv_proj i arg1 harg1 arg2 harg2 arg3 harg3 arg4 harg4 arg5 harg5 arg6 harg6 arg7 harg7) K } := by
  refine ⟨[], ?_, fun xi5 E K => ?run⟩
  case run =>
    simp only [cc0_qkv_proj_eq_skeleton]; unfold cc0_qkv_proj_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.QkvIdeal.Gen

end
-- ==== Proof.QkvRun.IdealFrame.lean ====
/- The frame certificate of `QkvIdeal`. Output 5 (q) is stored into at points 0 to 7 only; its last block is written back
   at point 11, where its buffer still holds what point 7 left, so the proof data carries that through points 8 to 11. -/
module

public import proofs.«01_k».proof.Proof.QkvRun.IdealRunB
public import Idealize.ShloMosaic.Lib.Claim

@[expose] public section

-- membership in a rectangle of production extents (`View.cover_of_tiled`): the elaborator's structural look
-- recurses once per coordinate of the long axes
set_option maxRecDepth 16384

noncomputable section

namespace Cert.QkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for output 5 tile its block (3 stores of `S512x512`, checked by the kernel's evaluation: Lib/Ring.lean `Piece.tiledL`, linear in the pieces, through a loop's `@[irreducible]` trip theorem too), so they cover it. -/
theorem cover0_A_5 (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : cond0_0 i) (hc1 : ¬cond0_1 i)
    (x0 : Vec F S16 .f32) (x1 : Vec F S1536x4096 .fp8e4m3) (x2 : Vec F S1536x1 .f32) (x3 : Vec F S4096x512 .fp8e4m3) (x4 : Vec F S1x512 .f32) (y : S1536x512.Idx) :
    ∃ pc ∈ (kernelRun0_A c i arg1 harg1 arg2 harg2 arg3 harg3 arg4 harg4 arg5 harg5 arg6 harg6 arg7 harg7 hc0 hc1 x0 x1 x2 x3 x4).1, y ∈ pc.1.set :=
  View.cover_of_tiledL (kernelRun0_A c i arg1 harg1 arg2 harg2 arg3 harg3 arg4 harg4 arg5 harg5 arg6 harg6 arg7 harg7 hc0 hc1 x0 x1 x2 x3 x4).1 S512x512.size (by sl_kernel_rfl) y

/-- What case A leaves in output 5's staging buffer: its pieces read back over junk. -/
def out0_A_5 (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : cond0_0 i) (hc1 : ¬cond0_1 i)
    (x0 : Vec F S16 .f32) (x1 : Vec F S1536x4096 .fp8e4m3) (x2 : Vec F S1536x1 .f32) (x3 : Vec F S4096x512 .fp8e4m3) (x4 : Vec F S1x512 .f32) : Vec F S1536x512 .bf16 :=
  VO0_5.read (Elt F) (VO0_5.writes (Elt F) VO0_5.junk (kernelRun0_A c i arg1 harg1 arg2 harg2 arg3 harg3 arg4 harg4 arg5 harg5 arg6 harg6 arg7 harg7 hc0 hc1 x0 x1 x2 x3 x4).1)

/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : cond0_0 i) (hc1 : ¬cond0_1 i)
    (x0 : Vec F S16 .f32) (x1 : Vec F S1536x4096 .fp8e4m3) (x2 : Vec F S1536x1 .f32) (x3 : Vec F S4096x512 .fp8e4m3) (x4 : Vec F S1x512 .f32) : Vec F S1536x512 .fp8e4m3 :=
  VO0_6.read (Elt F) (VO0_6.writes (Elt F) VO0_6.junk (kernelRun0_A c i arg1 harg1 arg2 harg2 arg3 harg3 arg4 harg4 arg5 harg5 arg6 harg6 arg7 harg7 hc0 hc1 x0 x1 x2 x3 x4).2.1)

/-- Case B stores nothing into output 5: no pieces — a placeholder (junk read back) that nothing consults. -/
def out0_B_5 (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : ¬cond0_0 i) (hc1 : cond0_1 i)
    (x0 : Vec F S16 .f32) (x1 : Vec F S1536x4096 .fp8e4m3) (x2 : Vec F S1536x1 .f32) (x3 : Vec F S4096x512 .fp8e4m3) (x4 : Vec F S1x512 .f32) : Vec F S1536x512 .bf16 :=
  VO0_5.read (Elt F) (VO0_5.writes (Elt F) VO0_5.junk (kernelRun0_B c i arg1 harg1 arg2 harg2 arg3 harg3 arg4 harg4 arg5 harg5 arg6 harg6 arg7 harg7 hc0 hc1 x0 x1 x2 x3 x4).1)

/-- Case B's pieces for output 6 tile its block (12 stores of `S512x128`, checked by the kernel's evaluation: Lib/Ring.lean `Piece.tiledL`, linear in the pieces, through a loop's `@[irreducible]` trip theorem too), so they cover it. -/
theorem cover0_B_6 (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : ¬cond0_0 i) (hc1 : cond0_1 i)
    (x0 : Vec F S16 .f32) (x1 : Vec F S1536x4096 .fp8e4m3) (x2 : Vec F S1536x1 .f32) (x3 : Vec F S4096x512 .fp8e4m3) (x4 : Vec F S1x512 .f32) (y : S1536x512.Idx) :
    ∃ pc ∈ (kernelRun0_B c i arg1 harg1 arg2 harg2 arg3 harg3 arg4 harg4 arg5 harg5 arg6 harg6 arg7 harg7 hc0 hc1 x0 x1 x2 x3 x4).2.1, y ∈ pc.1.set :=
  View.cover_of_tiledL (kernelRun0_B c i arg1 harg1 arg2 harg2 arg3 harg3 arg4 harg4 arg5 harg5 arg6 harg6 arg7 harg7 hc0 hc1 x0 x1 x2 x3 x4).2.1 S512x128.size (by sl_kernel_rfl) y

/-- What case B leaves in output 6's staging buffer: its pieces read back over junk. -/
def out0_B_6 (c : Dev nD) (i : grid0.Coords) (arg1 : Memref sig .tc .smem S16 .f32) (harg1 : arg1.IsWhole) (arg2 : Memref sig .tc .vmem S1536x4096 .fp8e4m3) (harg2 : arg2.IsWhole) (arg3 : Memref sig .tc .vmem S1536x1 .f32) (harg3 : arg3.IsWhole) (arg4 : Memref sig .tc .vmem S4096x512 .fp8e4m3) (harg4 : arg4.IsWhole) (arg5 : Memref sig .tc .vmem S1x512 .f32) (harg5 : arg5.IsWhole) (arg6 : Memref sig .tc .vmem S1536x512 .bf16) (harg6 : arg6.IsWhole) (arg7 : Memref sig .tc .vmem S1536x512 .fp8e4m3) (harg7 : arg7.IsWhole) (hc0 : ¬cond0_0 i) (hc1 : cond0_1 i)
    (x0 : Vec F S16 .f32) (x1 : Vec F S1536x4096 .fp8e4m3) (x2 : Vec F S1536x1 .f32) (x3 : Vec F S4096x512 .fp8e4m3) (x4 : Vec F S1x512 .f32) : Vec F S1536x512 .fp8e4m3 :=
  VO0_6.read (Elt F) (VO0_6.writes (Elt F) VO0_6.junk (kernelRun0_B c i arg1 harg1 arg2 harg2 arg3 harg3 arg4 harg4 arg5 harg5 arg6 harg6 arg7 harg7 hc0 hc1 x0 x1 x2 x3 x4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x512 .bf16 × Vec F S1536x512 .fp8e4m3
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) < 8 then
      if h1 : 8 ≤ (n + 1) then
        False.elim (by have hN : n + 1 < 12 := lt_of_lt_of_eq hn (show cfg0.N = 12 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : 8 ≤ (n + 1) then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        False.elim (by have hN : n + 1 < 12 := lt_of_lt_of_eq hn (show cfg0.N = 12 from N_0); omega)

/-- `outsAt0` at a point of case A: that case's contents. -/
theorem outsAt0_A (c : Dev nD) (t : Fin cfg0.N) (h0 : t.val < 8) (h1 : ¬8 ≤ t.val) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents. -/
theorem outsAt0_B (c : Dev nD) (t : Fin cfg0.N) (h0 : ¬t.val < 8) (h1 : 8 ≤ t.val) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (iblk m c 0 t) (iblk m c 1 t) (iblk m c 2 t) (iblk m c 3 t) (iblk m c 4 t)) := by
  obtain ⟨n, hn⟩ := t
  cases n with
  | zero => exact (by exfalso; (try dsimp only at h0); exact by omega)
  | succ n => exact (dif_neg h0).trans ((dif_pos h1).trans rfl)

/-! ## The pipeline's proof data -/

/-- The last point up to `t` that stores into output 5: `t` itself before point 8, point 7 from there on. -/
def lastQ (t : Fin cfg0.N) : Fin cfg0.N := ⟨min t.val 7, Nat.lt_of_le_of_lt (Nat.min_le_left _ _) t.isLt⟩
theorem lastQ_of_lt {t : Fin cfg0.N} (h : t.val < 8) : lastQ t = t := Fin.ext (by simp only [lastQ]; omega)
theorem lastQ_of_ge {t : Fin cfg0.N} (h : 8 ≤ t.val) : (lastQ t).val = 7 := by simp only [lastQ]; omega

/-- The proof data of the one pipeline on core `c`: the arrays as the region finds them (`V`); after the body at
    point `t` each input's buffer at its block and the outputs' at `outsAt0` (output 5's at that of the last point that stores into it); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c (lastQ t).val (lastQ t).isLt).1
    | ⟨6, _⟩ => (outsAt0 m c t.val t.isLt).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c (lastQ t).val (lastQ t).isLt).1 := by dsimp only [dats]
theorem after0_6 (c : Dev nD) (t : Fin cfg0.N) : (dats m 0 c).after 6 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- From point 8 on the body finds in output 5's buffer what point 7 left there. -/
theorem before0_5_B (c : Dev nD) (t : Fin cfg0.N) (h : 8 ≤ t.val) (d) : (dats m 0 c).before 5 t d = (dats m 0 c).after 5 t := by
  have hcarry : ∀ (t : Fin cfg0.N) (_ : t.val ≠ 0), cfg0.idle 5 (cfg0.grid.coords t) = true → cfg0.fresh 5 t.val = false →
      (dats m 0 c).after 5 t = (dats m 0 c).after 5 ⟨t.val - 1, by omega⟩ := fun t _ hi _ => by
    have h8 := idle0_5_ge t hi
    have e : lastQ t = lastQ ⟨t.val - 1, by omega⟩ := Fin.ext (by simp only [lastQ]; omega)
    rw [after0_5, after0_5, e]
  rw [(dats m 0 c).before_out_traj 5 rfl (fun _ _ => rfl) hcarry _ t rfl d, fresh0_5 t h, if_neg Bool.false_ne_true]
  have e : lastQ ⟨t.val - 1, by omega⟩ = lastQ t := Fin.ext (by simp only [lastQ]; omega)
  rw [after0_5, after0_5, e]

/-- So at a point of case B the untouched buffer of output 5 is as the pipeline asks, written back there or not. -/
theorem leaves0_5_B (c : Dev nD) (t : Fin cfg0.N) (h0 : ¬t.val < 8) (h1 : 8 ≤ t.val) :
    iprop(∃ d, owns (c : Thread nD τ) (ms0_5 t) fullShare ((dats m 0 c).before 5 t d)) ⊢ ((dats m 0 c).leavesExact 5 t : sProp 𝕄) := by
  unfold Dat.leavesExact
  rw [idleAt0_5_B t (fun h => h0 ((hcond0_0 t).mp h)) ((hcond0_1 t).mpr h1)]
  cases (cfg0.win 5).flush t
  · exact .rfl
  · simp only [before0_5_B m c t h1]
    iintro ⟨%d, H⟩
    iexact H

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 12 := lt_of_lt_of_eq t.isLt (show cfg0.N = 12 from N_0)
  by_cases h0 : t.val < 8
  · by_cases h1 : 8 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h))], after0_5, lastQ_of_lt h0]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [outsAt0_A m c t h0 h1]
      unfold out0_A_5; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      iintro ⟨H0, H1, H2, H3, H4, ⟨%e5, H5⟩, H6⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _)
      iexists _; iexact H6
  · by_cases h1 : 8 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 6 t = owns (c : Thread nD τ) (ms0_6 t) fullShare ((dats m 0 c).after 6 t) from by
      unfold Dat.leavesExact; rw [liveAt0_6_B t (fun h => h0 ((hcond0_0 t).mp h)) ((hcond0_1 t).mpr h1)], after0_6]
      rw [outsAt0_B m c t h0 h1]
      unfold out0_B_6; (try dsimp only)
      iintro ⟨HΦ, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iintro ⟨H0, H1, H2, H3, H4, H5, ⟨%e6, H6⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iapply (leaves0_5_B m c t h0 h1); iexists _; iexact H5
      unfold owns; iexists _; isplitr
      swap; · iexact H6
      ipureintro; exact View.read_writes_of_cover _ _ _ _ _ (cover0_B_6 c _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_QkvIdeal`'s statement (Defs.lean) at any `F` — Proof.lean cites it at `Bits`:
    `theorem Cert.Proof.claim : Cert.Claim := ⟨Cert.QkvIdeal.Gen.facts, fun m ρ _ => Cert.QkvIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.QkvIdeal.Gen

end
-- ==== Proof.QkvRun.IdealStored.lean ====
/- What one grid point of the q, k and v projection stores, read at an index of its block. -/
module

public import proofs.«01_k».proof.Proof.QkvRun.IdealFrame
public import proofs.«01_k».proof.Proof.Value.Forms
public import Idealize.ShloMosaic.Lib.Pipeline.ValueKit
public import Idealize.ShloMosaic.Lib.Pointwise

@[expose] public section

set_option maxRecDepth 16384

noncomputable section

namespace Cert.QkvIdeal.Value

open Idealize.ShloMosaic Idealize.ShloMosaic.TcCoe Idealize.SL.Sem
open Cert.QkvIdeal Cert.QkvIdeal.Gen
open Cert.Value

/-- Row `r` of a block of rows against column `j` of a block of columns, scaled back. -/
def rowsDot {a b : ℕ} (z : (⟨2, ![a, 1]⟩ : Shape).Idx → EReal) (c : (⟨2, ![a, 4096]⟩ : Shape).Idx → EReal) (w : (⟨2, ![4096, b]⟩ : Shape).Idx → EReal)
    (ws : (⟨2, ![1, b]⟩ : Shape).Idx → EReal) (r : Fin a) (j : Fin b) : EReal :=
  proj (fun k : Fin 4096 => c (ix2 r k)) (fun k => w (ix2 k j)) (z (ix2 r 0)) (ws (ix2 0 j))

section Blocks
variable (z : FVec Ideal S512x1 .f32) (c : FVec Ideal S512x4096 .fp8e4m3) (w : FVec Ideal S4096x512 .fp8e4m3) (ws : FVec Ideal S1x512 .f32)
  (r : Fin 512) (j : Fin 512)

theorem q_first : k0_pay3 (F := Ideal) c w z ws (ix2 r j) = rowsDot z c w ws r j := by
  generalize hE : rowsDot z c w ws r j = E
  pointwise [k0_pay3]
  exact hE

theorem q_second : k0_pay4 (F := Ideal) c w z ws (ix2 r j) = rowsDot z c w ws r j := q_first z c w ws r j

theorem q_third : k0_pay1 (F := Ideal) (k0_pay5 c w) (k0_pay6 z) ws (ix2 r j) = rowsDot z c w ws r j := q_first z c w ws r j

theorem kv_first : k0_pay7 (F := Ideal) c w z ws (ix2 r j) = rowsDot z c w ws r j := by
  generalize hE : rowsDot z c w ws r j = E
  pointwise [k0_pay7]
  exact hE

theorem kv_second : k0_pay13 (F := Ideal) (k0_pay12 c w z) ws (ix2 r j) = rowsDot z c w ws r j := kv_first z c w ws r j

theorem kv_third : k0_pay20 (F := Ideal) c w z ws (ix2 r j) = rowsDot z c w ws r j := kv_first z c w ws r j

end Blocks

section Codes
variable (y : FVec Ideal S512x512 .f32) (s : Elt Ideal .f32) (r : Fin 512) (d : Fin 128)

theorem code_head0 : k0_pay21 (F := Ideal) y s (ix2 r d) = codeOf (y (ix2 r ⟨d.val, by omega⟩)) s := by
  pointwise [k0_pay21, codeOf]

theorem code_head1 : k0_pay22 (F := Ideal) y s (ix2 r d) = codeOf (y (ix2 r ⟨128 + d.val, by omega⟩)) s := by
  pointwise [k0_pay22, codeOf]

theorem code_head2 : k0_pay23 (F := Ideal) y s (ix2 r d) = codeOf (y (ix2 r ⟨256 + d.val, by omega⟩)) s := by
  pointwise [k0_pay23, codeOf]

theorem code_head3 : k0_pay2 (F := Ideal) y s (ix2 r d) = codeOf (y (ix2 r ⟨384 + d.val, by omega⟩)) s := by
  pointwise [k0_pay2, codeOf]

end Codes

/-! The same payload under the other names that the program's pieces have. -/

section Names
variable (z : FVec Ideal S512x1 .f32) (c : FVec Ideal S512x4096 .fp8e4m3) (w : FVec Ideal S4096x512 .fp8e4m3) (ws : FVec Ideal S1x512 .f32)
  (y : FVec Ideal S512x512 .f32) (s : Elt Ideal .f32)

theorem head8 : k0_pay8 (F := Ideal) c w z ws s = k0_pay21 (k0_pay7 c w z ws) s := rfl
theorem head9 : k0_pay9 (F := Ideal) c w z ws s = k0_pay22 (k0_pay7 c w z ws) s := rfl
theorem head10 : k0_pay10 (F := Ideal) y s = k0_pay23 y s := rfl
theorem head11 : k0_pay11 (F := Ideal) y s = k0_pay2 y s := rfl
theorem head14 : k0_pay14 (F := Ideal) y ws s = k0_pay21 (k0_pay13 y ws) s := rfl
theorem head15 : k0_pay15 (F := Ideal) y ws s = k0_pay22 (k0_pay13 y ws) s := rfl
theorem head18 : k0_pay18 (F := Ideal) (k0_pay16 y ws) (k0_pay17 s) = k0_pay23 (k0_pay13 y ws) s := rfl
theorem head19 : k0_pay19 (F := Ideal) y s = k0_pay2 y s := rfl

end Names

variable (m : (ℓ : Loc nD τ sig) → Buf (Elt Ideal) ℓ)

/-- What a point before point 8 stores into the q block. -/
theorem stored_q (c : Dev nD) (t : Fin cfg0.N) (h : t.val < 8) (y0 : Fin 1536) (y1 : Fin 512) :
    (outsAt0 m c t.val t.isLt).1 (ix2 y0 y1) = rowsDot (iblk m c 2 t) (iblk m c 1 t) (iblk m c 3 t) (iblk m c 4 t) y0 y1 := by
  rw [outsAt0_A m c t h (by omega)]
  generalize iblk m c 0 t = b0, iblk m c 1 t = b1, iblk m c 2 t = b2, iblk m c 3 t = b3, iblk m c 4 t = b4
  generalize hE : rowsDot b2 b1 b3 b4 y0 y1 = E
  frame_out
  canon_tiles x h
  all_goals
    idx_vars x
    obtain rfl : y1 = x1 := Fin.ext h1
  · obtain rfl : y0 = ⟨1024 + x0.val, Nat.add_lt_add_left x0_lt 1024⟩ := Fin.ext h0
    refine (q_third _ _ _ _ x0 y1).trans ?_
    unfold rowsDot
    pointwise
    exact hE
  · obtain rfl : y0 = ⟨512 + x0.val, lt_of_lt_of_le (Nat.add_lt_add_left x0_lt 512) (by decide)⟩ := Fin.ext h0
    refine (q_second _ _ _ _ x0 y1).trans ?_
    unfold rowsDot
    pointwise
    exact hE
  · obtain rfl : y0 = ⟨x0.val, lt_trans x0_lt (by decide)⟩ := Fin.ext h0
    refine (q_first _ _ _ _ x0 y1).trans ?_
    unfold rowsDot
    pointwise
    exact hE

/-- Where a point from point 8 on reads the scale of its head `k`. -/
theorem scale_off : ∀ (t : Fin grid0.N) (k : Fin 4), 8 ≤ t.val → k0_off1 (grid0.coords t) (BitVec.ofNat 32 k.val) 0 = (t.val - 8) * 4 + k.val := by
  decide +kernel

theorem scale_lt (t : Fin grid0.N) (k : Fin 4) : (t.val - 8) * 4 + k.val < 16 := by
  have : t.val < 12 := t.isLt
  omega

theorem scale_read (b : FVec Ideal S16 .f32) (t : Fin grid0.N) (k : Fin 4) (h : 8 ≤ t.val)
    (inb : ∀ a, k0_off1 (grid0.coords t) (BitVec.ofNat 32 k.val) a + S1.size a ≤ S16.size a) (i) :
    View.ld (Val := Elt Ideal) (e' := .f32) b (Rect.unit (s := S16) (k0_off1 (grid0.coords t) (BitVec.ofNat 32 k.val)) S1.size inb) i = b (ix1 ⟨(t.val - 8) * 4 + k.val, scale_lt t k⟩) := by
  rw [View.ld_unit]
  refine congrArg b (funext fun a => Fin.ext ?_)
  obtain rfl : a = 0 := Subsingleton.elim _ _
  have hi : (i 0).val = 0 := Nat.lt_one_iff.mp (i 0).isLt
  show k0_off1 (grid0.coords t) (BitVec.ofNat 32 k.val) 0 + (i 0).val = (t.val - 8) * 4 + k.val
  rw [scale_off t k h, hi, Nat.add_zero]

theorem rows_ld (o : ℕ) (b1 : FVec Ideal S1536x4096 .fp8e4m3) (b2 : FVec Ideal S1536x1 .f32) (w : FVec Ideal S4096x512 .fp8e4m3) (ws : FVec Ideal S1x512 .f32)
    (inb1 : ∀ a, (![o, 0] : Fin 2 → ℕ) a + S512x4096.size a ≤ S1536x4096.size a) (inb2 : ∀ a, (![o, 0] : Fin 2 → ℕ) a + S512x1.size a ≤ S1536x1.size a)
    (r : Fin 512) (h : o + r.val < 1536) (j : Fin 512) :
    rowsDot (View.ld (Val := Elt Ideal) (e' := .f32) b2 (Rect.unit (s := S1536x1) ![o, 0] S512x1.size inb2)) (View.ld (Val := Elt Ideal) (e' := .fp8e4m3) b1 (Rect.unit (s := S1536x4096) ![o, 0] S512x4096.size inb1)) w ws r j
      = rowsDot b2 b1 w ws ⟨o + r.val, h⟩ j := by
  have e1 : ∀ k : Fin 4096, View.ld (Val := Elt Ideal) (e' := .fp8e4m3) b1 (Rect.unit (s := S1536x4096) ![o, 0] S512x4096.size inb1) (ix2 r k) = b1 (ix2 ⟨o + r.val, h⟩ k) := fun k => by
    rw [View.ld_unit]
    refine congrArg b1 (funext fun a => Fin.ext ?_)
    fin_cases a
    · rfl
    · exact Nat.zero_add _
  have e2 : View.ld (Val := Elt Ideal) (e' := .f32) b2 (Rect.unit (s := S1536x1) ![o, 0] S512x1.size inb2) (ix2 r 0) = b2 (ix2 ⟨o + r.val, h⟩ 0) := by
    rw [View.ld_unit]
    refine congrArg b2 (funext fun a => Fin.ext ?_)
    fin_cases a
    · rfl
    · exact Nat.zero_add _
  unfold rowsDot
  rw [e2, funext e1]

/-- What a point from point 8 on stores into the k and v block. -/
theorem stored_kv (c : Dev nD) (t : Fin cfg0.N) (h : 8 ≤ t.val) (y0 : Fin 1536) (y1 : Fin 512) :
    (outsAt0 m c t.val t.isLt).2 (ix2 y0 y1) = codeOf (rowsDot (iblk m c 2 t) (iblk m c 1 t) (iblk m c 3 t) (iblk m c 4 t) y0 y1)
      (iblk m c 0 t (ix1 ⟨(t.val - 8) * 4 + y1.val / 128, scale_lt t ⟨y1.val / 128, by omega⟩⟩)) := by
  rw [outsAt0_B m c t (by omega) h]
  generalize iblk m c 0 t = b0, iblk m c 1 t = b1, iblk m c 2 t = b2, iblk m c 3 t = b3, iblk m c 4 t = b4
  have hs : ∀ (k : Fin 4) (inb i), y1.val / 128 = k.val →
      View.ld (Val := Elt Ideal) (e' := .f32) b0 (Rect.unit (s := S16) (k0_off1 (grid0.coords t) (BitVec.ofNat 32 k.val)) S1.size inb) i
        = b0 (ix1 ⟨(t.val - 8) * 4 + y1.val / 128, scale_lt t ⟨y1.val / 128, by omega⟩⟩) := fun k inb i e => by
    refine (scale_read b0 t k h inb i).trans (congrArg b0 (congrArg ix1 (Fin.ext ?_)))
    show (t.val - 8) * 4 + k.val = (t.val - 8) * 4 + y1.val / 128
    rw [e]
  have hr : ∀ (o : ℕ) (inb1 inb2) (x0 : Fin 512) (j : Fin 512), y0.val = o + x0.val → y1.val = j.val →
      rowsDot (View.ld (Val := Elt Ideal) (e' := .f32) b2 (Rect.unit (s := S1536x1) ![o, 0] S512x1.size inb2)) (View.ld (Val := Elt Ideal) (e' := .fp8e4m3) b1 (Rect.unit (s := S1536x4096) ![o, 0] S512x4096.size inb1)) b3 b4 x0 j
      = rowsDot b2 b1 b3 b4 y0 y1 := fun o inb1 inb2 x0 j e0 e1 => by
    obtain rfl : y1 = j := Fin.ext e1
    refine (rows_ld o b1 b2 b3 b4 inb1 inb2 x0 (e0 ▸ y0.isLt) y1).trans ?_
    exact congrArg (fun r => rowsDot b2 b1 b3 b4 r y1) (Fin.ext e0.symm)
  frame_out
  canon_tiles x h
  all_goals
    idx_vars x
    replace h0 : y0.val = _ := h0
    replace h1 : y1.val = _ := h1
  · refine (code_head3 _ _ x0 x1).trans (congrArg₂ codeOf ((kv_third _ _ _ _ x0 _).trans ?_) (hs 3 _ _ (by omega))); exact hr 1024 _ _ x0 _ h0 h1
  · refine (code_head2 _ _ x0 x1).trans (congrArg₂ codeOf ((kv_third _ _ _ _ x0 _).trans ?_) (hs 2 _ _ (by omega))); exact hr 1024 _ _ x0 _ h0 h1
  · refine (code_head1 _ _ x0 x1).trans (congrArg₂ codeOf ((kv_third _ _ _ _ x0 _).trans ?_) (hs 1 _ _ (by omega))); exact hr 1024 _ _ x0 _ h0 h1
  · refine (code_head0 _ _ x0 x1).trans (congrArg₂ codeOf ((kv_third _ _ _ _ x0 _).trans ?_) (hs 0 _ _ (by omega))); exact hr 1024 _ _ x0 _ h0 h1
  · rw [head19]; refine (code_head3 _ _ x0 x1).trans (congrArg₂ codeOf ((kv_second _ _ _ _ x0 _).trans ?_) (hs 3 _ _ (by omega))); exact hr 512 _ _ x0 _ h0 h1
  · rw [head18]; refine (code_head2 _ _ x0 x1).trans (congrArg₂ codeOf ((kv_second _ _ _ _ x0 _).trans ?_) (hs 2 _ _ (by omega))); exact hr 512 _ _ x0 _ h0 h1
  · rw [head15]; refine (code_head1 _ _ x0 x1).trans (congrArg₂ codeOf ((kv_second _ _ _ _ x0 _).trans ?_) (hs 1 _ _ (by omega))); exact hr 512 _ _ x0 _ h0 h1
  · rw [head14]; refine (code_head0 _ _ x0 x1).trans (congrArg₂ codeOf ((kv_second _ _ _ _ x0 _).trans ?_) (hs 0 _ _ (by omega))); exact hr 512 _ _ x0 _ h0 h1
  · rw [head11]; refine (code_head3 _ _ x0 x1).trans (congrArg₂ codeOf ((kv_first _ _ _ _ x0 _).trans ?_) (hs 3 _ _ (by omega))); exact hr 0 _ _ x0 _ (h0.trans (Nat.zero_add _).symm) h1
  · rw [head10]; refine (code_head2 _ _ x0 x1).trans (congrArg₂ codeOf ((kv_first _ _ _ _ x0 _).trans ?_) (hs 2 _ _ (by omega))); exact hr 0 _ _ x0 _ (h0.trans (Nat.zero_add _).symm) h1
  · rw [head9]; refine (code_head1 _ _ x0 x1).trans (congrArg₂ codeOf ((kv_first _ _ _ _ x0 _).trans ?_) (hs 1 _ _ (by omega))); exact hr 0 _ _ x0 _ (h0.trans (Nat.zero_add _).symm) h1
  · rw [head8]; refine (code_head0 _ _ x0 x1).trans (congrArg₂ codeOf ((kv_first _ _ _ _ x0 _).trans ?_) (hs 0 _ _ (by omega))); exact hr 0 _ _ x0 _ (h0.trans (Nat.zero_add _).symm) h1

end Cert.QkvIdeal.Value
-- ==== Proof.QkvRun.IdealArrays.lean ====
/- The q array and the k and v array that the q, k and v projection leaves, each as one function of the arrays it reads. -/
module

public import proofs.«01_k».proof.Proof.QkvRun.IdealStored

@[expose] public section

set_option maxRecDepth 16384

noncomputable section

namespace Cert.QkvIdeal.Value

open Idealize.ShloMosaic Idealize.ShloMosaic.TcCoe Idealize.SL.Sem
open Cert.QkvIdeal Cert.QkvIdeal.Gen
open Cert.Value

theorem idx : ∀ t : Fin cfg0.N, win0_0.index t = ![0] ∧ win0_1.index t = ![0, 0] ∧ win0_2.index t = ![0, 0] ∧ win0_3.index t = ![0, t.val]
    ∧ win0_4.index t = ![0, t.val] ∧ win0_5.index t = ![0, min t.val 7] ∧ win0_6.index t = ![0, t.val - 8] :=
  (by decide +kernel : ∀ t : Fin grid0.N, _)

/-- The q array: the first 4096 columns of the projection. -/
def qArray (c : FVec Ideal S1536x4096 .fp8e4m3) (s : FVec Ideal S1536x1 .f32) (w : FVec Ideal S4096x34816 .fp8e4m3) (ws : FVec Ideal S1x34816 .f32) :
    FVec Ideal S1536x4096 .bf16 := fun i =>
  have h : (i 1).val < 4096 := (i 1).isLt
  rowsDot s c w ws (i 0) ⟨(i 1).val, by omega⟩

/-- The k and v array: the codes of the next 2048 columns, each head of 128 columns in its own scale. -/
def kvArray (kvs : FVec Ideal S16 .f32) (c : FVec Ideal S1536x4096 .fp8e4m3) (s : FVec Ideal S1536x1 .f32) (w : FVec Ideal S4096x34816 .fp8e4m3)
    (ws : FVec Ideal S1x34816 .f32) : FVec Ideal S1536x2048 .fp8e4m3 := fun i =>
  have h : (i 1).val < 2048 := (i 1).isLt
  codeOf (rowsDot s c w ws (i 0) ⟨4096 + (i 1).val, by omega⟩) (kvs (ix1 ⟨(i 1).val / 128, by omega⟩))

variable (m : (ℓ : Loc nD τ sig) → Buf (Elt Ideal) ℓ)

theorem q_array (c : Dev nD) : (dats m 0 c).arrAt 5 cfg0.N
    = qArray (V m c (Pipeline.arrRef spec0 1)) (V m c (Pipeline.arrRef spec0 2)) (V m c (Pipeline.arrRef spec0 3)) (V m c (Pipeline.arrRef spec0 4)) := by
  refine (dats m 0 c).arrAt_eq_of_covers 5 _ (by decide +kernel) fun t _ y => ?_
  have ht : t.val < 12 := t.isLt
  have hT : (lastQ t).val < 8 := by simp only [lastQ]; omega
  blk_simp
  rw [after0_5]
  idx_vars y
  have hb : min t.val 7 * 512 + y1.val < 4096 := by clear hT; omega
  refine (stored_q m c (lastQ t) hT y0 y1).trans ?_
  have hT' : (lastQ t).val = min t.val 7 := rfl
  obtain ⟨i, hi⟩ : ∃ i, i = (win0_5.blk t).view.emb (ix2 y0 y1) := ⟨_, rfl⟩
  rw [← hi]
  obtain rfl : i = ix2 y0 ⟨min t.val 7 * 512 + y1.val, hb⟩ := by rw [hi]; blk_point [idx t]
  unfold rowsDot qArray rowsDot
  clear hi hT
  generalize lastQ t = T at hT' ⊢
  obtain ⟨T, hTN⟩ := T
  obtain rfl : T = min t.val 7 := hT'
  blk_point [iblk, idx ⟨min t.val 7, hTN⟩]

theorem late : ∀ t : Fin cfg0.N, (cfg0.win 6).flush t → 8 ≤ t.val := (by decide +kernel : ∀ t : Fin grid0.N, _)

theorem kv_array (c : Dev nD) : (dats m 0 c).arrAt 6 cfg0.N
    = kvArray (V m c (Pipeline.arrRef spec0 0)) (V m c (Pipeline.arrRef spec0 1)) (V m c (Pipeline.arrRef spec0 2)) (V m c (Pipeline.arrRef spec0 3))
        (V m c (Pipeline.arrRef spec0 4)) := by
  refine (dats m 0 c).arrAt_eq_of_covers 6 _ (by decide +kernel) fun t hf y => ?_
  have ht : t.val < 12 := t.isLt
  have h8 : 8 ≤ t.val := late t hf
  blk_simp
  rw [after0_6]
  idx_vars y
  refine (stored_kv m c t h8 y0 y1).trans ?_
  obtain ⟨i, hi⟩ : ∃ i, i = (win0_6.blk t).view.emb (ix2 y0 y1) := ⟨_, rfl⟩
  rw [← hi]
  obtain rfl : i = ix2 y0 ⟨(t.val - 8) * 512 + y1.val, by omega⟩ := by rw [hi]; blk_point [idx t]
  unfold kvArray rowsDot
  blk_point [iblk, idx t]

end Cert.QkvIdeal.Value
-- ==== Proof.QkvRun.IdealEnds.lean ====
/- The three results at the end of the projection's run, as functions of the launch memory: the host lines before the
   call put the scales side by side and the column scales in a row, those after it cut the k and v array into heads. -/
module

public import proofs.«01_k».proof.Proof.QkvRun.IdealArrays
public import Idealize.ShloMosaic.Lib.Claim

@[expose] public section

set_option maxRecDepth 16384

noncomputable section

namespace Cert.QkvIdeal.Value

open Idealize.ShloMosaic Idealize.ShloMosaic.TcCoe Idealize.SL.Sem
open Cert.QkvIdeal Cert.QkvIdeal.Gen
open Cert.Value

variable (m : (ℓ : Loc nD τ sig) → Buf (Elt Ideal) ℓ) (c : Dev nD)

/-- Argument `r` at launch. -/
abbrev arg (r : Ref sig .tc) : Buf (Elt Ideal) ((c : Thread nD τ).loc r) := m ((c : Thread nD τ).loc r)

theorem columns_entry : V m c main_v0 = shapeCast S1x34816 (arg m c main_arg3) shapeCasts_S34816_S1x34816 := by
  show StableHlo.after hostOps0 (fun b => m (c, b)) (Proc.devRef .tc main_v0) = _
  unfold hostOps0
  after_results
  try rfl

theorem scales_entry : V m c main_v1 = concatenate S16 0 [⟨S8, arg m c main_arg4⟩, ⟨S8, arg m c main_arg5⟩] concatenates_S8_S8_S16_d0 := by
  show StableHlo.after hostOps0 (fun b => m (c, b)) (Proc.devRef .tc main_v1) = _
  unfold hostOps0
  after_results
  try rfl

/-- The k and v array as the lines after the call find it. -/
theorem kv_exit : Pipeline.withArrays spec0 c (V0 m c) (fun w => (dats m 0 c).arrAt w cfg0.N) (Proc.devRef .tc main_v2_1) = (dats m 0 c).arrAt 6 cfg0.N :=
  Pipeline.withArrays_arr spec0 launch0.win.arr_inj c _ _ 6

theorem k_end : Pipeline.afterTail₀ cfgs (dats m) 0 (V0 m) [hostOps1] c main_v4
    = shapeCast S1536x8x128 (extractStridedSlice S1536x1024 ![0, 0] ((dats m 0 c).arrAt 6 cfg0.N : FVec Ideal S1536x2048 .fp8e4m3) slices_S1536x2048_S1536x1024_0_0)
        shapeCasts_S1536x1024_S1536x8x128 := by
  rw [← kv_exit]
  show StableHlo.after hostOps1 (Pipeline.withArrays spec0 c (V0 m c) (fun w => (dats m 0 c).arrAt w cfg0.N)) (Proc.devRef .tc main_v4) = _
  generalize Pipeline.withArrays spec0 c (V0 m c) (fun w => (dats m 0 c).arrAt w cfg0.N) = X
  unfold hostOps1
  after_results
  try rfl

theorem v_end : Pipeline.afterTail₀ cfgs (dats m) 0 (V0 m) [hostOps1] c main_v6
    = shapeCast S1536x8x128 (extractStridedSlice S1536x1024 ![0, 1024] ((dats m 0 c).arrAt 6 cfg0.N : FVec Ideal S1536x2048 .fp8e4m3) slices_S1536x2048_S1536x1024_0_1024)
        shapeCasts_S1536x1024_S1536x8x128 := by
  rw [← kv_exit]
  show StableHlo.after hostOps1 (Pipeline.withArrays spec0 c (V0 m c) (fun w => (dats m 0 c).arrAt w cfg0.N)) (Proc.devRef .tc main_v6) = _
  generalize Pipeline.withArrays spec0 c (V0 m c) (fun w => (dats m 0 c).arrAt w cfg0.N) = X
  unfold hostOps1
  after_results
  try rfl

end Cert.QkvIdeal.Value
-- ==== Proof.QkvRun.Reference.lean ====
/- The projection's reference: its three result arrays as functions of the arguments, and each of them read at an index. -/
module

public import proofs.«01_k».proof.Proof.Gen.QkvReferenceIdeal.Frame
public import proofs.«01_k».proof.Proof.Value.Forms
public import Idealize.ShloMosaic.Lib.Pipeline.ValueKit
public import Idealize.ShloMosaic.Lib.Pointwise
public import Idealize.ShloMosaic.Lib.Claim

@[expose] public section

set_option maxRecDepth 16384

noncomputable section

namespace Cert.QkvReferenceIdeal.Value

open Idealize.ShloMosaic Idealize.ShloMosaic.TcCoe Idealize.SL.Sem
open Cert.QkvReferenceIdeal Cert.QkvReferenceIdeal.Gen
open Cert.Value

section Arrays
variable (m : (ℓ : Loc nD τ sig) → Buf (Elt Ideal) ℓ)

/-- Every window's one block starts at the array's origin. -/
theorem idx : ∀ t : Fin cfg0.N, win0_0.index t = ![0, 0] ∧ win0_1.index t = ![0, 0] ∧ win0_2.index t = ![0, 0]
    ∧ win0_3.index t = ![0] ∧ win0_4.index t = ![0] ∧ win0_5.index t = ![0] ∧ win0_6.index t = ![0, 0]
    ∧ win0_7.index t = ![0, 0, 0] ∧ win0_8.index t = ![0, 0, 0] :=
  (by decide +kernel : ∀ t : Fin grid0.N, _)

/-- The q result. -/
theorem final6 (c : Dev nD) : (dats m 0 c).arrAt 6 (cfgs 0).N
    = k0_pay2 (m ((c : Thread nD τ).loc main_arg0)) (m ((c : Thread nD τ).loc main_arg2)) (m ((c : Thread nD τ).loc main_arg1)) (m ((c : Thread nD τ).loc main_arg3)) := by
  refine (dats m 0 c).arrAt_eq_of_after_last 6 t0_0 (by decide +kernel) _ fun j => ?_
  blk_simp
  rw [after0_6]
  frame_out
  blk_point [iblk, V, idx t0_0]

/-- The k codes. -/
theorem final7 (c : Dev nD) : (dats m 0 c).arrAt 7 (cfgs 0).N
    = k0_pay3 (m ((c : Thread nD τ).loc main_arg0)) (m ((c : Thread nD τ).loc main_arg2)) (m ((c : Thread nD τ).loc main_arg1)) (m ((c : Thread nD τ).loc main_arg3))
        (m ((c : Thread nD τ).loc main_arg4)) := by
  refine (dats m 0 c).arrAt_eq_of_after_last 7 t0_0 (by decide +kernel) _ fun j => ?_
  blk_simp
  rw [after0_7]
  frame_out
  blk_point [iblk, V, idx t0_0]

/-- The v codes. -/
theorem final8 (c : Dev nD) : (dats m 0 c).arrAt 8 (cfgs 0).N
    = k0_pay4 (m ((c : Thread nD τ).loc main_arg0)) (m ((c : Thread nD τ).loc main_arg2)) (m ((c : Thread nD τ).loc main_arg1)) (m ((c : Thread nD τ).loc main_arg3))
        (m ((c : Thread nD τ).loc main_arg5)) := by
  refine (dats m 0 c).arrAt_eq_of_after_last 8 t0_0 (by decide +kernel) _ fun j => ?_
  blk_simp
  rw [after0_8]
  frame_out
  blk_point [iblk, V, idx t0_0]

end Arrays

section Forms
variable (c : FVec Ideal S1536x4096 .fp8e4m3) (w : FVec Ideal S4096x34816 .fp8e4m3) (z : FVec Ideal S1536x1 .f32) (ws : FVec Ideal S34816 .f32)
  (s : FVec Ideal S8 .f32) (r : Fin 1536) (h : Fin 8) (d : Fin 128)

theorem proj_form (j : Fin 34816) : k0_pay1 (F := Ideal) c w z ws (ix2 r j)
    = proj (fun k : Fin 4096 => c (ix2 r k)) (fun k => w (ix2 k j)) (z (ix2 r 0)) (ws (ix1 j)) := by
  generalize hE : proj _ _ _ _ = E
  pointwise [k0_pay1]
  exact hE

theorem slice_q (v : FVec Ideal S1536x34816 .f32) (j : Fin 4096) :
    (truncf .bf16 (extractStridedSlice S1536x4096 ![0, 0] v slices_S1536x34816_o0_0_S1536x4096 : FVec Ideal S1536x4096 .f32) bitsLt_bf16_f32 : FVec Ideal S1536x4096 .bf16) (ix2 r j)
      = v (ix2 r ⟨j.val, by omega⟩) := by
  pointwise

theorem slice_k (v : FVec Ideal S1536x34816 .f32) (j : Fin 1024) :
    (extractStridedSlice S1536x1024 ![0, 4096] v slices_S1536x34816_o0_4096_S1536x1024 : FVec Ideal S1536x1024 .f32) (ix2 r j)
      = v (ix2 r ⟨4096 + j.val, by omega⟩) := by
  pointwise

theorem slice_v (v : FVec Ideal S1536x34816 .f32) (j : Fin 1024) :
    (extractStridedSlice S1536x1024 ![0, 5120] v slices_S1536x34816_o0_5120_S1536x1024 : FVec Ideal S1536x1024 .f32) (ix2 r j)
      = v (ix2 r ⟨5120 + j.val, by omega⟩) := by
  pointwise

theorem code_form (y : FVec Ideal S1536x1024 .f32) :
    (truncf .fp8e4m3 (minimumf (broadcast S1536x8x128 (Scalar.ofBits .f32 0x43E00000#32)) (maximumf (broadcast S1536x8x128 (Scalar.ofBits .f32 0xC3E00000#32))
      (divf (shapeCast S1536x8x128 y shapeCasts_S1536x1024_S1536x8x128) (broadcastTo S1536x8x128 (shapeCast S1x8x1 s shapeCasts_S8_S1x8x1) broadcasts_S1x8x1_S1536x8x128))))
        bitsLt_fp8e4m3_f32 : FVec Ideal S1536x8x128 .fp8e4m3) (ix3 r h d)
      = codeOf (y (ix2 r ⟨h.val * 128 + d.val, by omega⟩)) (s (ix1 h)) := by
  generalize hE : codeOf _ _ = E
  pointwise
  exact hE

theorem q_form (j : Fin 4096) : k0_pay2 (F := Ideal) c w z ws (ix2 r j)
    = proj (fun k : Fin 4096 => c (ix2 r k)) (fun k => w (ix2 k ⟨j.val, by omega⟩)) (z (ix2 r 0)) (ws (ix1 ⟨j.val, by omega⟩)) := by
  delta k0_pay2
  exact (slice_q r _ j).trans (proj_form c w z ws r _)

theorem k_form : k0_pay3 (F := Ideal) c w z ws s (ix3 r h d)
    = codeOf (proj (fun k : Fin 4096 => c (ix2 r k)) (fun k => w (ix2 k ⟨4096 + (h.val * 128 + d.val), by omega⟩)) (z (ix2 r 0)) (ws (ix1 ⟨4096 + (h.val * 128 + d.val), by omega⟩)))
        (s (ix1 h)) := by
  delta k0_pay3
  exact (code_form s r h d _).trans (congrArg (codeOf · _) ((slice_k r _ _).trans (proj_form c w z ws r _)))

theorem v_form : k0_pay4 (F := Ideal) c w z ws s (ix3 r h d)
    = codeOf (proj (fun k : Fin 4096 => c (ix2 r k)) (fun k => w (ix2 k ⟨5120 + (h.val * 128 + d.val), by omega⟩)) (z (ix2 r 0)) (ws (ix1 ⟨5120 + (h.val * 128 + d.val), by omega⟩)))
        (s (ix1 h)) := by
  delta k0_pay4
  exact (code_form s r h d _).trans (congrArg (codeOf · _) ((slice_v r _ _).trans (proj_form c w z ws r _)))

end Forms

end Cert.QkvReferenceIdeal.Value
-- ==== Proof.QkvRun.Bridge.lean ====
/- The projection's three results, equated with the reference's values of the arguments. -/
module

public import proofs.«01_k».proof.Proof.QkvRun.IdealEnds
public import proofs.«01_k».proof.Proof.QkvRun.Reference

@[expose] public section

set_option maxRecDepth 16384

noncomputable section

namespace Cert.QkvIdeal.Value

open Idealize.ShloMosaic Idealize.ShloMosaic.TcCoe Idealize.SL.Sem
open Cert.QkvIdeal Cert.QkvIdeal.Gen
open Cert.Value

section Reads
variable (r : Fin 1536) (h : Fin 8) (d : Fin 128)

theorem reshape_columns (a : FVec Ideal S34816 .f32) (j : Fin 34816) : (shapeCast S1x34816 a shapeCasts_S34816_S1x34816 : FVec Ideal S1x34816 .f32) (ix2 0 j) = a (ix1 j) := by
  pointwise

theorem heads_k (a : FVec Ideal S1536x2048 .fp8e4m3) :
    (shapeCast S1536x8x128 (extractStridedSlice S1536x1024 ![0, 0] a slices_S1536x2048_S1536x1024_0_0) shapeCasts_S1536x1024_S1536x8x128 : FVec Ideal S1536x8x128 .fp8e4m3) (ix3 r h d)
      = a (ix2 r ⟨h.val * 128 + d.val, by omega⟩) := by
  pointwise

theorem heads_v (a : FVec Ideal S1536x2048 .fp8e4m3) :
    (shapeCast S1536x8x128 (extractStridedSlice S1536x1024 ![0, 1024] a slices_S1536x2048_S1536x1024_0_1024) shapeCasts_S1536x1024_S1536x8x128 : FVec Ideal S1536x8x128 .fp8e4m3) (ix3 r h d)
      = a (ix2 r ⟨1024 + (h.val * 128 + d.val), by omega⟩) := by
  pointwise

theorem scales_k (a b : FVec Ideal S8 .f32) :
    (concatenate S16 0 [⟨S8, a⟩, ⟨S8, b⟩] concatenates_S8_S8_S16_d0 : FVec Ideal S16 .f32) (ix1 ⟨h.val, by omega⟩) = a (ix1 h) := by
  pointwise

theorem scales_v (a b : FVec Ideal S8 .f32) :
    (concatenate S16 0 [⟨S8, a⟩, ⟨S8, b⟩] concatenates_S8_S8_S16_d0 : FVec Ideal S16 .f32) (ix1 ⟨8 + h.val, by omega⟩) = b (ix1 h) := by
  pointwise

end Reads

section Equations
variable (c : FVec Ideal S1536x4096 .fp8e4m3) (s : FVec Ideal S1536x1 .f32) (w : FVec Ideal S4096x34816 .fp8e4m3) (ws : FVec Ideal S34816 .f32) (ks vs : FVec Ideal S8 .f32)

theorem q_eq : qArray c s w (shapeCast S1x34816 ws shapeCasts_S34816_S1x34816) = Cert.QkvReferenceIdeal.Gen.k0_pay2 (F := Ideal) c w s ws := by
  funext i
  idx_vars i
  refine Eq.trans ?_ (Cert.QkvReferenceIdeal.Value.q_form c w s ws i0 i1).symm
  exact congrArg (proj _ _ _) (reshape_columns ws _)

/-- The k and v array at the scales put side by side and the column scales put in a row. -/
abbrev kvOf : FVec Ideal S1536x2048 .fp8e4m3 :=
  kvArray (concatenate S16 0 [⟨S8, ks⟩, ⟨S8, vs⟩] concatenates_S8_S8_S16_d0) c s w (shapeCast S1x34816 ws shapeCasts_S34816_S1x34816)

theorem k_eq : (shapeCast S1536x8x128 (extractStridedSlice S1536x1024 ![0, 0] (kvOf c s w ws ks vs) slices_S1536x2048_S1536x1024_0_0) shapeCasts_S1536x1024_S1536x8x128 : FVec Ideal S1536x8x128 .fp8e4m3)
    = Cert.QkvReferenceIdeal.Gen.k0_pay3 (F := Ideal) c w s ws ks := by
  funext i
  idx_vars i
  refine (heads_k i0 i1 i2 _).trans (Eq.trans ?_ (Cert.QkvReferenceIdeal.Value.k_form c w s ws ks i0 i1 i2).symm)
  refine congrArg₂ codeOf (congrArg (proj _ _ _) (reshape_columns ws _)) (Eq.trans (congrArg _ (congrArg ix1 (Fin.ext ?_))) (scales_k i1 ks vs))
  show (i1.val * 128 + i2.val) / 128 = i1.val
  omega

theorem v_eq : (shapeCast S1536x8x128 (extractStridedSlice S1536x1024 ![0, 1024] (kvOf c s w ws ks vs) slices_S1536x2048_S1536x1024_0_1024) shapeCasts_S1536x1024_S1536x8x128 : FVec Ideal S1536x8x128 .fp8e4m3)
    = Cert.QkvReferenceIdeal.Gen.k0_pay4 (F := Ideal) c w s ws vs := by
  funext i
  idx_vars i
  refine (heads_v i0 i1 i2 _).trans (Eq.trans ?_ (Cert.QkvReferenceIdeal.Value.v_form c w s ws vs i0 i1 i2).symm)
  have e : ∀ j : Fin 34816, j.val = 4096 + (1024 + (i1.val * 128 + i2.val)) → j = ⟨5120 + (i1.val * 128 + i2.val), by omega⟩ := fun j hj => Fin.ext (hj.trans (by show _ = 5120 + (i1.val * 128 + i2.val); omega))
  refine congrArg₂ codeOf ?_ (Eq.trans (congrArg _ (congrArg ix1 (Fin.ext ?_))) (scales_v i1 ks vs))
  · unfold rowsDot
    rw [reshape_columns]
    refine congrArg₂ (fun a b => proj _ a _ b) (funext fun k => ?_) ?_
    · exact congrArg (fun j => w (ix2 k j)) (e _ rfl)
    · exact congrArg (fun j => ws (ix1 j)) (e _ rfl)
  · show (1024 + (i1.val * 128 + i2.val)) / 128 = 8 + i1.val
    omega

end Equations

variable (m : (ℓ : Loc nD τ sig) → Buf (Elt Ideal) ℓ) (c : Dev nD)

theorem q_value : (dats m 0 c).arrAt 5 cfg0.N
    = Cert.QkvReferenceIdeal.Gen.k0_pay2 (F := Ideal) (arg m c main_arg0) (arg m c main_arg2) (arg m c main_arg1) (arg m c main_arg3) := by
  refine (q_array m c).trans (Eq.trans ?_ (q_eq _ _ _ _))
  have h1 : V m c (Pipeline.arrRef spec0 1) = arg m c main_arg0 := V_main_arg0 m c
  have h2 : V m c (Pipeline.arrRef spec0 2) = arg m c main_arg1 := V_main_arg1 m c
  have h3 : V m c (Pipeline.arrRef spec0 3) = arg m c main_arg2 := V_main_arg2 m c
  have h4 : V m c (Pipeline.arrRef spec0 4) = shapeCast S1x34816 (arg m c main_arg3) shapeCasts_S34816_S1x34816 := columns_entry m c
  rw [h1, h2, h3, h4]

theorem kv_value : (dats m 0 c).arrAt 6 cfg0.N
    = kvOf (arg m c main_arg0) (arg m c main_arg1) (arg m c main_arg2) (arg m c main_arg3) (arg m c main_arg4) (arg m c main_arg5) := by
  refine (kv_array m c).trans ?_
  have h0 : V m c (Pipeline.arrRef spec0 0) = concatenate S16 0 [⟨S8, arg m c main_arg4⟩, ⟨S8, arg m c main_arg5⟩] concatenates_S8_S8_S16_d0 := scales_entry m c
  have h1 : V m c (Pipeline.arrRef spec0 1) = arg m c main_arg0 := V_main_arg0 m c
  have h2 : V m c (Pipeline.arrRef spec0 2) = arg m c main_arg1 := V_main_arg1 m c
  have h3 : V m c (Pipeline.arrRef spec0 3) = arg m c main_arg2 := V_main_arg2 m c
  have h4 : V m c (Pipeline.arrRef spec0 4) = shapeCast S1x34816 (arg m c main_arg3) shapeCasts_S34816_S1x34816 := columns_entry m c
  rw [h0, h1, h2, h3, h4]

theorem k_value : Pipeline.afterTail₀ cfgs (dats m) 0 (V0 m) [hostOps1] c main_v4
    = Cert.QkvReferenceIdeal.Gen.k0_pay3 (F := Ideal) (arg m c main_arg0) (arg m c main_arg2) (arg m c main_arg1) (arg m c main_arg3) (arg m c main_arg4) := by
  rw [k_end, kv_value]
  exact k_eq _ _ _ _ _ _

theorem v_value : Pipeline.afterTail₀ cfgs (dats m) 0 (V0 m) [hostOps1] c main_v6
    = Cert.QkvReferenceIdeal.Gen.k0_pay4 (F := Ideal) (arg m c main_arg0) (arg m c main_arg2) (arg m c main_arg1) (arg m c main_arg3) (arg m c main_arg5) := by
  rw [v_end, kv_value]
  exact v_eq _ _ _ _ _ _

end Cert.QkvIdeal.Value
-- ==== Proof.AttnRun.Words.lean ====
/- The words of the attention call: the first visible key of a row, the first block of a block of rows, and the trips of the loop over the blocks. -/
module

public import Idealize.ShloMosaic.Lib.Scf
public import Idealize.ShloMosaic.Lib.WordCmp

@[expose] public section

namespace Cert.AttnWords

open Idealize.ShloMosaic

/-- One step of the search for a sequence's start: `a` if it is past `s` and not past `w`, else `s`. -/
def later (w a s : BitVec 32) : BitVec 32 := Scalar.select (Scalar.cmpi .sle a w) (Scalar.maxsi a s) s

/-- The last of the three bounds not past the word `w`, or zero. -/
def startAt (w a b c : BitVec 32) : BitVec 32 := later w c (later w b (later w a 0#32))

theorem later_toInt (w a s : BitVec 32) :
    (later w a s).toInt = if a.toInt ≤ w.toInt then max a.toInt s.toInt else s.toInt := by
  unfold later Scalar.select Scalar.cmpi Scalar.maxsi IntOp.cmpi IntOp.maxsi
  by_cases h : a.toInt ≤ w.toInt
  · by_cases h2 : s.toInt < a.toInt
    · simp [h, BitVec.sle, BitVec.slt, h2]; omega
    · simp [h, BitVec.sle, BitVec.slt, h2]; omega
  · simp [h, BitVec.sle]

theorem startAt_bounds (w a b c : BitVec 32) (hw : 0 ≤ w.toInt) :
    0 ≤ (startAt w a b c).toInt ∧ (startAt w a b c).toInt ≤ w.toInt := by
  unfold startAt
  rw [later_toInt, later_toInt, later_toInt]
  simp only [BitVec.toInt_zero]
  split_ifs <;> omega

/-- A key is past the start of a row exactly when no bound lies between the key and the row. -/
theorem le_startAt (w k a b c : BitVec 32) (hk : 0 ≤ k.toInt) (hkw : k.toInt ≤ w.toInt) :
    (startAt w a b c).toInt ≤ k.toInt ↔ (a.toInt ≤ w.toInt → a.toInt ≤ k.toInt) ∧ (b.toInt ≤ w.toInt → b.toInt ≤ k.toInt)
      ∧ (c.toInt ≤ w.toInt → c.toInt ≤ k.toInt) := by
  unfold startAt
  rw [later_toInt, later_toInt, later_toInt]
  simp only [BitVec.toInt_zero]
  split_ifs <;> omega

/-- The start grows with the row. -/
theorem startAt_mono (w w' a b c : BitVec 32) (h : w.toInt ≤ w'.toInt) :
    (startAt w a b c).toInt ≤ (startAt w' a b c).toInt := by
  unfold startAt
  simp only [later_toInt, BitVec.toInt_zero]
  split_ifs <;> omega

/-- The row block's first key as a word. -/
theorem base_toInt {n : Nat} (hn : n < 6) : (Scalar.muli (BitVec.ofNat 32 n) 256#32).toInt = 256 * n := by
  have : n = 0 ∨ n = 1 ∨ n = 2 ∨ n = 3 ∨ n = 4 ∨ n = 5 := by omega
  rcases this with rfl | rfl | rfl | rfl | rfl | rfl <;> decide

/-- The first block a block of rows visits. -/
def firstBlock (n : Nat) (a b c : BitVec 32) : BitVec 32 :=
  Scalar.divsi (startAt (Scalar.muli (BitVec.ofNat 32 n) 256#32) a b c) 256#32

/-- The quotient by 256 of a word that is not negative. -/
theorem div256 (x : BitVec 32) (h0 : 0 ≤ x.toInt) : (Scalar.divsi x 256#32).toInt = x.toInt / 256 := by
  unfold Scalar.divsi IntOp.divsi
  rw [if_neg (by unfold IntOp.SDivCorner; simp)]
  rw [BitVec.toInt_sdiv]
  have : (256#32 : BitVec 32).toInt = 256 := by decide
  rw [this, Int.tdiv_eq_ediv_of_nonneg h0]
  have h1 := BitVec.toInt_lt (x := x)
  rw [Int.bmod_eq_of_le (by omega) (by omega)]

theorem firstBlock_bounds {n : Nat} (hn : n < 6) (a b c : BitVec 32) :
    0 ≤ (firstBlock n a b c).toInt ∧ (firstBlock n a b c).toInt ≤ n
      ∧ 256 * (firstBlock n a b c).toInt ≤ (startAt (Scalar.muli (BitVec.ofNat 32 n) 256#32) a b c).toInt := by
  have hb := base_toInt hn
  have h := startAt_bounds (Scalar.muli (BitVec.ofNat 32 n) 256#32) a b c (by omega)
  unfold firstBlock
  rw [div256 _ h.1]
  omega

/-- The first block as a number. -/
def firstNat (n : Nat) (a b c : BitVec 32) : Nat := (firstBlock n a b c).toNat

theorem firstBlock_eq {n : Nat} (hn : n < 6) (a b c : BitVec 32) :
    firstBlock n a b c = BitVec.ofNat 32 (firstNat n a b c) ∧ firstNat n a b c ≤ n := by
  have h := firstBlock_bounds hn a b c
  refine ⟨(BitVec.ofNat_toNat _ _).symm ▸ (by simp), ?_⟩
  unfold firstNat
  have := BitVec.toInt_eq_toNat_cond (firstBlock n a b c)
  have := (firstBlock n a b c).isLt
  split at * <;> omega

/-- The first block's first key is not past the start of any row of the block. -/
theorem firstNat_le {n : Nat} (hn : n < 6) (a b c : BitVec 32) :
    256 * (firstNat n a b c : Int) ≤ (startAt (Scalar.muli (BitVec.ofNat 32 n) 256#32) a b c).toInt := by
  have h := firstBlock_bounds hn a b c
  unfold firstNat
  have := BitVec.toInt_eq_toNat_cond (firstBlock n a b c)
  have := (firstBlock n a b c).isLt
  split at * <;> omega

/-- The loop over the earlier blocks, its bounds as the kernel computes them from the first block. -/
def loop1 (n : Nat) (v102 : BitVec 32) : Scf.Loop 32 :=
  ⟨v102, Scalar.addi v102 (Scalar.muli (Scalar.divsi (Scalar.subi (BitVec.ofNat 32 n) v102) 1#32) 1#32), 1#32⟩
/-- The loop left over after it, which has no trips. -/
def loop2 (n : Nat) (v102 : BitVec 32) : Scf.Loop 32 :=
  ⟨Scalar.addi v102 (Scalar.muli (Scalar.divsi (Scalar.subi (BitVec.ofNat 32 n) v102) 1#32) 1#32), Scalar.addi v102 (Scalar.subi (BitVec.ofNat 32 n) v102), 1#32⟩

theorem loops : ∀ n : Fin 6, ∀ f : Fin 6, f.val ≤ n.val → (loop1 n.val (BitVec.ofNat 32 f.val)).OK ∧ (loop2 n.val (BitVec.ofNat 32 f.val)).OK
    ∧ (loop1 n.val (BitVec.ofNat 32 f.val)).trips = n.val - f.val ∧ (loop2 n.val (BitVec.ofNat 32 f.val)).trips = 0 := by
  decide

/-- The block of a trip as a word. -/
theorem trip_word (f k : Nat) : Scf.iv (BitVec.ofNat 32 f) 1#32 k = BitVec.ofNat 32 (f + k) := by
  unfold Scf.iv
  rw [BitVec.mul_one, ← BitVec.ofNat_add]

theorem trip_base {f k : Nat} (h : f + k < 6) :
    Scalar.muli (Scf.iv (BitVec.ofNat 32 f) 1#32 k) 256#32 = BitVec.ofNat 32 (256 * (f + k)) := by
  rw [trip_word]
  unfold Scalar.muli IntOp.muli
  rw [← BitVec.ofNat_mul, Nat.mul_comm]

end Cert.AttnWords
-- ==== Proof.AttnRun.Trip.lean ====
/- The attention call's run: what one trip of the loop over the blocks yields, and the carried value after any number of trips. -/
module

public import proofs.«01_k».proof.Proof.Gen.AttnIdeal.Frame
public import proofs.«01_k».proof.Proof.AttnRun.Words

@[expose] public section

set_option maxRecDepth 16384

noncomputable section

namespace Cert.AttnIdeal.Value

open Idealize.ShloMosaic Idealize.ShloMosaic.TcCoe Idealize.SL.Sem
open Cert.AttnIdeal Cert.AttnIdeal.Gen

/-- The carried values: the running maximum, the running sum and the running product. -/
abbrev Carry := FVec Ideal S1024x1 .f32 × FVec Ideal S1024x1 .f32 × FVec Ideal S1024x128 .f32

/-- Which keys of the block starting at key `w` the rows see. -/
def maskAt (v16 v17 v51 : IVec S1024x256 32) (w : BitVec 32) : IVec S1024x256 1 :=
  andi (cmpi .sle (addi v17 (broadcast S1024x256 w)) v16) (cmpi .sge (addi v17 (broadcast S1024x256 w)) v51)

/-- One block of keys taken into the carried values. -/
def blockStep (v3 v5 : EReal) (q : FVec Ideal S1024x128 .bf16) (mask : IVec S1024x256 1) (kb vb : FVec Ideal S256x128 .fp8e4m3) (x : Carry) : Carry :=
  (k0_pay14 (F := Ideal) v3 x.1 (k0_pay11 (F := Ideal) q kb) mask, k0_pay17 (F := Ideal) v3 x.1 x.2.1 (k0_pay11 (F := Ideal) q kb) mask,
    k0_pay18 (F := Ideal) v3 v5 x.1 x.2.2 (k0_pay10 (F := Ideal) vb) (k0_pay11 (F := Ideal) q kb) mask)

theorem tripR_eq (𝒱 : Variants) (c : Dev nD) (bd : Option 𝒱.V) (i : grid0.Coords) (arg2 : Memref sig .tc .smem S4 .i32) (harg2 : arg2.IsWhole) (arg3 : Memref sig .tc .smem S8 .f32) (harg3 : arg3.IsWhole) (arg4 : Memref sig .tc .smem S8 .f32) (harg4 : arg4.IsWhole) (arg5 : Memref sig .tc .vmem S256x512 .bf16) (harg5 : arg5.IsWhole) (arg6 : Memref sig .tc .vmem S1536x128 .fp8e4m3) (harg6 : arg6.IsWhole) (arg7 : Memref sig .tc .vmem S1536x128 .fp8e4m3) (harg7 : arg7.IsWhole) (arg8 : Memref sig .tc .vmem S256x512 .f32) (harg8 : arg8.IsWhole) (arg0 : BitVec 32) (v3 : Ideal .f32) (v5 : Elt Ideal .f32) (v10 : FVec Ideal S1024x128 .bf16) (v16 : IVec S1024x256 32) (v17 : IVec S1024x256 32) (v26 : Elt Ideal .i32) (v29 : Elt Ideal .i32) (v39 : Elt Ideal .i32) (v42 : Elt Ideal .i32) (v51 : IVec S1024x256 32) (v52 : Elt Ideal .i32) (v55 : Elt Ideal .i32) (k0_hw1 : k0_chk1 i v26 v29 v39 v42 v52 v55) (v57 : BitVec 32) (v58 : FVec Ideal S1024x1 .f32) (v59 : FVec Ideal S1024x1 .f32) (v60 : FVec Ideal S1024x128 .f32) (v70 : FVec Ideal S256x128 .bf16) (v71 : FVec Ideal S1024x256 .f32) (v77 : IVec S1024x256 1) (X_arg6 : BufTy.Contents (Elt Ideal) arg6.view.ty) (X_arg7 : BufTy.Contents (Elt Ideal) arg7.view.ty) (k : Fin (k0_t1_loop i v26 v29 v39 v42 v52 v55).trips) (acc : FVec Ideal S1024x1 .f32 × FVec Ideal S1024x1 .f32 × FVec Ideal S1024x128 .f32) :
    tripR_k0_t1 (F := Ideal) 𝒱 c bd i arg2 harg2 arg3 harg3 arg4 harg4 arg5 harg5 arg6 harg6 arg7 harg7 arg8 harg8 arg0 v3 v5 v10 v16 v17 v26 v29 v39 v42 v51 v52 v55 k0_hw1 v57 v58 v59 v60 v70 v71 v77 X_arg6 X_arg7 k acc
      = blockStep v3 v5 v10 (maskAt v16 v17 v51 (Scalar.muli (Scf.iv (Scalar.divsi v57 256#32) 1#32 k) 256#32))
          (arg6.view.readAt (Elt Ideal) (Rect.unit (s := S1536x128) (k0_off3 i v26 v29 v39 v42 v52 v55 k) S256x128.size (k0_off3_inb i v26 v29 v39 v42 v52 v55 k0_hw1 k)).toLoadRect X_arg6)
          (arg7.view.readAt (Elt Ideal) (Rect.unit (s := S1536x128) (k0_off3 i v26 v29 v39 v42 v52 v55 k) S256x128.size (k0_off3_inb i v26 v29 v39 v42 v52 v55 k0_hw1 k)).toLoadRect X_arg7) acc := by
  unfold tripR_k0_t1 trip_k0_t1
  rfl

end Cert.AttnIdeal.Value
-- ==== Proof.AttnRun.AttnIdealHyps.lean ====
/- The side conditions the attention call assumes of the bounds it reads hold whatever the bounds are (AttnIdeal). -/
module

public import proofs.«01_k».proof.Proof.Gen.AttnIdeal.Frame
public import proofs.«01_k».proof.Proof.AttnRun.Words

@[expose] public section

set_option maxRecDepth 16384

noncomputable section

namespace Cert.AttnIdeal.Value

open Idealize.ShloMosaic Idealize.ShloMosaic.TcCoe Idealize.SL.Sem
open Cert.AttnIdeal Cert.AttnIdeal.Gen Cert.AttnWords

theorem loop1_eq (i : grid0.Coords) (a b c : BitVec 32) :
    k0_t1_loop i a a b b c c = loop1 (i 0).val (firstBlock (i 0).val a b c) := rfl

theorem loop2_eq (i : grid0.Coords) (a b c : BitVec 32) :
    k0_t2_loop i a a b b c c = loop2 (i 0).val (firstBlock (i 0).val a b c) := rfl

theorem lt6 (i : grid0.Coords) : (i 0).val < 6 := (i 0).isLt

theorem loops_at (i : grid0.Coords) (a b c : BitVec 32) :
    (k0_t1_loop i a a b b c c).OK ∧ (k0_t2_loop i a a b b c c).OK
      ∧ (k0_t1_loop i a a b b c c).trips = (i 0).val - firstNat (i 0).val a b c ∧ (k0_t2_loop i a a b b c c).trips = 0 := by
  rw [loop1_eq, loop2_eq]
  have h := firstBlock_eq (lt6 i) a b c
  have h6 := lt6 i
  rw [h.1]
  exact loops ⟨(i 0).val, h6⟩ ⟨firstNat (i 0).val a b c, by omega⟩ h.2

/-- The first key of the block a trip visits. -/
theorem mult3_eq (i : grid0.Coords) (a b c : BitVec 32) (k : Fin (k0_t1_loop i a a b b c c).trips) :
    k0_mult3 i a a b b c c k = BitVec.ofNat 32 (256 * (firstNat (i 0).val a b c + k.val))
      ∧ firstNat (i 0).val a b c + k.val < (i 0).val := by
  have hk := k.isLt
  have ht := (loops_at i a b c).2.2.1
  have h := firstBlock_eq (lt6 i) a b c
  have h6 := lt6 i
  refine ⟨?_, by omega⟩
  show Scalar.muli (Scf.iv (firstBlock (i 0).val a b c) 1#32 k.val) 256#32 = _
  rw [h.1]
  exact trip_base (by omega)

theorem off3_eq (i : grid0.Coords) (a b c : BitVec 32) (k : Fin (k0_t1_loop i a a b b c c).trips) :
    k0_off3 i a a b b c c k = ![256 * (firstNat (i 0).val a b c + k.val), 0] := by
  have h := mult3_eq i a b c k
  have h6 := lt6 i
  show ![(k0_mult3 i a a b b c c k).toNat, 0] = _
  rw [h.1, BitVec.toNat_ofNat, Nat.mod_eq_of_lt (by omega)]

theorem chk (i : grid0.Coords) (a b c : BitVec 32) : k0_chk1 i a a b b c c := by
  have hl := loops_at i a b c
  have h6 := lt6 i
  have hd : ∀ k : Fin (k0_t1_loop i a a b b c c).trips, 256 ∣ (k0_mult3 i a a b b c c k).toNat := fun k => by
    have h := mult3_eq i a b c k
    rw [h.1, BitVec.toNat_ofNat, Nat.mod_eq_of_lt (by omega)]
    exact ⟨_, rfl⟩
  have hz : ∀ k : Fin (k0_t2_loop i a a b b c c).trips, False := fun k => by
    have := k.isLt
    have := hl.2.2.2
    omega
  refine ⟨hl.1, hd, fun k a' => ?_, hd, hl.2.1, fun k => (hz k).elim, fun k => (hz k).elim, fun k => (hz k).elim⟩
  have h := mult3_eq i a b c k
  rw [off3_eq i a b c k]
  match a' with
  | ⟨0, _⟩ => show 256 * _ + 256 ≤ 1536; omega
  | ⟨1, _⟩ => show 0 + 128 ≤ 128; omega

variable {F : FTy → Type} [FloatOps F] [Named F]

theorem hyps (m : (ℓ : Loc nD τ sig) → Buf (Elt F) ℓ) : Hyps m := fun c t => chk (grid0.coords t) _ _ _

end Cert.AttnIdeal.Value
-- ==== Proof.AttnRun.Out.lean ====
/- The attention call's run: the output block in terms of the blocks of keys the program visits. -/
module

public import proofs.«01_k».proof.Proof.AttnRun.Trip
public import proofs.«01_k».proof.Proof.AttnRun.AttnIdealHyps
public import Idealize.ShloMosaic.Lib.Pipeline.ValueKit
public import Idealize.ShloMosaic.Lib.WholeRead

@[expose] public section

set_option maxRecDepth 16384

noncomputable section

namespace Cert.AttnIdeal.Value

open Idealize.ShloMosaic Idealize.ShloMosaic.TcCoe Idealize.SL.Sem
open Cert.AttnIdeal Cert.AttnIdeal.Gen Cert.AttnWords

/-- The 256 keys of block `j`. -/
def rowsOf (x : Vec Ideal S1536x128 .fp8e4m3) (j : ℕ) : FVec Ideal S256x128 .fp8e4m3 := fun y =>
  x (ix2 ⟨(256 * j + (y 0).val) % 1536, Nat.mod_lt _ (by decide)⟩ ⟨(y 1).val, (y 1).isLt⟩)

theorem read_rows (m : Memref sig .tc .vmem S1536x128 .fp8e4m3) (hm : m.IsWhole) (x : Vec Ideal S1536x128 .fp8e4m3) (j : ℕ) (hj : j < 6)
    (off : Fin 2 → ℕ) (inb : ∀ a, off a + S256x128.size a ≤ S1536x128.size a) (hoff : off = ![256 * j, 0]) :
    m.view.readAt (Elt Ideal) (Rect.unit (s := S1536x128) off S256x128.size inb).toLoadRect (hm.unread x) = rowsOf x j := by
  subst hoff
  funext y
  refine (Memref.IsWhole.readAt_unread hm x _ y).trans (congrArg x ?_)
  funext a
  have h0 : (y 0).val < 256 := (y 0).isLt
  match a with
  | ⟨0, _⟩ => exact Fin.ext (show 256 * j + 1 * (y 0).val = (256 * j + (y 0).val) % 1536 by omega)
  | ⟨1, _⟩ => exact Fin.ext (show 0 + 1 * (y 1).val = (y 1).val by omega)

/-- The carried values after `k` trips, the trips starting at block `f`. -/
def trips (v3 v5 : EReal) (q : FVec Ideal S1024x128 .bf16) (mask : ℕ → IVec S1024x256 1) (xk xv : Vec Ideal S1536x128 .fp8e4m3) (f : ℕ) (x : Carry) : ℕ → Carry
  | 0 => x
  | k + 1 => blockStep v3 v5 q (mask (f + k)) (rowsOf xk (f + k)) (rowsOf xv (f + k)) (trips v3 v5 q mask xk xv f x k)

theorem st1_eq (𝒱 : Variants) (c : Dev nD) (bd : Option 𝒱.V) (i : grid0.Coords) (arg2 : Memref sig .tc .smem S4 .i32) (harg2 : arg2.IsWhole) (arg3 : Memref sig .tc .smem S8 .f32) (harg3 : arg3.IsWhole) (arg4 : Memref sig .tc .smem S8 .f32) (harg4 : arg4.IsWhole) (arg5 : Memref sig .tc .vmem S256x512 .bf16) (harg5 : arg5.IsWhole) (arg6 : Memref sig .tc .vmem S1536x128 .fp8e4m3) (harg6 : arg6.IsWhole) (arg7 : Memref sig .tc .vmem S1536x128 .fp8e4m3) (harg7 : arg7.IsWhole) (arg8 : Memref sig .tc .vmem S256x512 .f32) (harg8 : arg8.IsWhole) (arg0 : BitVec 32) (v3 : Ideal .f32) (v5 : Elt Ideal .f32) (v10 : FVec Ideal S1024x128 .bf16) (v16 : IVec S1024x256 32) (v17 : IVec S1024x256 32) (v26 : Elt Ideal .i32) (v39 : Elt Ideal .i32) (v51 : IVec S1024x256 32) (v52 : Elt Ideal .i32) (k0_hw1 : k0_chk1 i v26 v26 v39 v39 v52 v52) (v58 : FVec Ideal S1024x1 .f32) (v59 : FVec Ideal S1024x1 .f32) (v60 : FVec Ideal S1024x128 .f32) (v70 : FVec Ideal S256x128 .bf16) (v71 : FVec Ideal S1024x256 .f32) (v77 : IVec S1024x256 1) (x4 : Vec Ideal S1536x128 .fp8e4m3) (x5 : Vec Ideal S1536x128 .fp8e4m3) (init : Carry) :
    ∀ k, k ≤ (k0_t1_loop i v26 v26 v39 v39 v52 v52).trips → st_k0_t1 (F := Ideal) 𝒱 c bd i arg2 harg2 arg3 harg3 arg4 harg4 arg5 harg5 arg6 harg6 arg7 harg7 arg8 harg8 arg0 v3 v5 v10 v16 v17 v26 v26 v39 v39 v51 v52 v52 k0_hw1 (startAt (Scalar.muli (BitVec.ofNat 32 (i 0).val) 256#32) v26 v39 v52) v58 v59 v60 v70 v71 v77 (harg6.unread x4) (harg7.unread x5) init k
      = trips v3 v5 v10 (fun j => maskAt v16 v17 v51 (BitVec.ofNat 32 (256 * j))) x4 x5 (firstNat (i 0).val v26 v39 v52) init k := by
  intro k
  induction k with
  | zero => intro _; rfl
  | succ k ih =>
    intro hk
    have hm := mult3_eq i v26 v39 v52 ⟨k, hk⟩
    have h6 := lt6 i
    refine (st_k0_t1_succ (F := Ideal) 𝒱 c bd i arg2 harg2 arg3 harg3 arg4 harg4 arg5 harg5 arg6 harg6 arg7 harg7 arg8 harg8 arg0 v3 v5 v10 v16 v17 v26 v26 v39 v39 v51 v52 v52 k0_hw1 (startAt (Scalar.muli (BitVec.ofNat 32 (i 0).val) 256#32) v26 v39 v52) v58 v59 v60 v70 v71 v77 (harg6.unread x4) (harg7.unread x5) init ⟨k, hk⟩).trans ?_
    rw [tripR_eq, ih (by omega)]
    have hw : Scalar.muli (Scf.iv (Scalar.divsi (startAt (Scalar.muli (BitVec.ofNat 32 (i 0).val) 256#32) v26 v39 v52) 256#32) 1#32 k) 256#32 = BitVec.ofNat 32 (256 * (firstNat (i 0).val v26 v39 v52 + k)) := hm.1
    have ho := off3_eq i v26 v39 v52 ⟨k, hk⟩
    rw [hw, read_rows arg6 harg6 x4 (firstNat (i 0).val v26 v39 v52 + k) (by have h : firstNat (i 0).val v26 v39 v52 + k < (i 0).val := hm.2; omega) _ _ ho,
      read_rows arg7 harg7 x5 (firstNat (i 0).val v26 v39 v52 + k) (by have h : firstNat (i 0).val v26 v39 v52 + k < (i 0).val := hm.2; omega) _ _ ho]
    rfl

/-- The carried values at the end: the diagonal block first, then the blocks from the first visited one. -/
def carried (i : grid0.Coords) (v3 v5 : EReal) (q : FVec Ideal S1024x128 .bf16) (a b c : BitVec 32) (xk xv : Vec Ideal S1536x128 .fp8e4m3) : Carry :=
  trips v3 v5 q (fun j => maskAt (k0_pay3 i) (iota .tc S1024x256 32 [1] iota_S1024x256_d1_w32) (k0_pay6 (F := Ideal) (k0_pay3 i) (k0_pay4 (F := Ideal) i a a) (k0_pay5 (F := Ideal) i b) b c c) (BitVec.ofNat 32 (256 * j)))
    xk xv (firstNat (i 0).val a b c)
    (blockStep v3 v5 q (maskAt (k0_pay3 i) (iota .tc S1024x256 32 [1] iota_S1024x256_d1_w32) (k0_pay6 (F := Ideal) (k0_pay3 i) (k0_pay4 (F := Ideal) i a a) (k0_pay5 (F := Ideal) i b) b c c) (BitVec.ofNat 32 (256 * (i 0).val)))
      (rowsOf xk (i 0).val) (rowsOf xv (i 0).val) (k0_pay7 (F := Ideal), k0_pay8 (F := Ideal), k0_pay9 (F := Ideal)))
    ((i 0).val - firstNat (i 0).val a b c)

theorem st2_eq (𝒱 : Variants) (c : Dev nD) (bd : Option 𝒱.V) (i : grid0.Coords) (arg2 : Memref sig .tc .smem S4 .i32) (harg2 : arg2.IsWhole) (arg3 : Memref sig .tc .smem S8 .f32) (harg3 : arg3.IsWhole) (arg4 : Memref sig .tc .smem S8 .f32) (harg4 : arg4.IsWhole) (arg5 : Memref sig .tc .vmem S256x512 .bf16) (harg5 : arg5.IsWhole) (arg6 : Memref sig .tc .vmem S1536x128 .fp8e4m3) (harg6 : arg6.IsWhole) (arg7 : Memref sig .tc .vmem S1536x128 .fp8e4m3) (harg7 : arg7.IsWhole) (arg8 : Memref sig .tc .vmem S256x512 .f32) (harg8 : arg8.IsWhole) (arg0 : BitVec 32) (v3 : Ideal .f32) (v5 : Elt Ideal .f32) (v10 : FVec Ideal S1024x128 .bf16) (v16 : IVec S1024x256 32) (v17 : IVec S1024x256 32) (v26 : Elt Ideal .i32) (v39 : Elt Ideal .i32) (v51 : IVec S1024x256 32) (v52 : Elt Ideal .i32) (k0_hw1 : k0_chk1 i v26 v26 v39 v39 v52 v52) (v58 : FVec Ideal S1024x1 .f32) (v59 : FVec Ideal S1024x1 .f32) (v60 : FVec Ideal S1024x128 .f32) (v70 : FVec Ideal S256x128 .bf16) (v71 : FVec Ideal S1024x256 .f32) (v77 : IVec S1024x256 1) (x4 : Vec Ideal S1536x128 .fp8e4m3) (x5 : Vec Ideal S1536x128 .fp8e4m3) (init : Carry) :
    st_k0_t2 (F := Ideal) 𝒱 c bd i arg2 harg2 arg3 harg3 arg4 harg4 arg5 harg5 arg6 harg6 arg7 harg7 arg8 harg8 arg0 v3 v5 v10 v16 v17 v26 v26 v39 v39 v51 v52 v52 k0_hw1 (startAt (Scalar.muli (BitVec.ofNat 32 (i 0).val) 256#32) v26 v39 v52) v58 v59 v60 v70 v71 v77 (harg6.unread x4) (harg7.unread x5) init (k0_t2_loop i v26 v26 v39 v39 v52 v52).trips = init := by
  rw [(loops_at i v26 v39 v52).2.2.2]
  rfl

theorem off2_eq (i : grid0.Coords) : k0_off2 i = ![256 * (i 0).val, 0] := by
  have h6 := lt6 i
  show ![(Scalar.muli (BitVec.ofNat 32 (i 0).val) 256#32).toNat, 0] = _
  have : Scalar.muli (BitVec.ofNat 32 (i 0).val) 256#32 = BitVec.ofNat 32 (256 * (i 0).val) := by
    have h := trip_base (f := 0) (k := (i 0).val) (by omega)
    rw [trip_word, Nat.zero_add] at h
    exact h
  rw [this, BitVec.toNat_ofNat, Nat.mod_eq_of_lt (by omega)]

set_option maxHeartbeats 4000000 in
theorem out_eq (c : Dev nD) (i : grid0.Coords) (arg2 : Memref sig .tc .smem S4 .i32) (harg2 : arg2.IsWhole) (arg3 : Memref sig .tc .smem S8 .f32) (harg3 : arg3.IsWhole) (arg4 : Memref sig .tc .smem S8 .f32) (harg4 : arg4.IsWhole) (arg5 : Memref sig .tc .vmem S256x512 .bf16) (harg5 : arg5.IsWhole) (arg6 : Memref sig .tc .vmem S1536x128 .fp8e4m3) (harg6 : arg6.IsWhole) (arg7 : Memref sig .tc .vmem S1536x128 .fp8e4m3) (harg7 : arg7.IsWhole) (arg8 : Memref sig .tc .vmem S256x512 .f32) (harg8 : arg8.IsWhole)
    (x0 : Vec Ideal S4 .i32) (x1 : Vec Ideal S8 .f32) (x2 : Vec Ideal S8 .f32) (x3 : Vec Ideal S256x512 .bf16) (x4 : Vec Ideal S1536x128 .fp8e4m3) (x5 : Vec Ideal S1536x128 .fp8e4m3)
    (hw : k0_chk1 i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))) (E : Vec Ideal S256x512 .f32)
    (hE : ∀ K : Carry, K = carried i (k0_pay1 (F := Ideal) (arg3.view.readAt (Elt Ideal) (Rect.unit (s := S8) (k0_off1 i) S1.size (k0_off1_inb i)).toLoadRect (harg3.unread x1) (Shape.Idx.first (numel1_S1.symm ▸ Nat.one_pos)))) (arg4.view.readAt (Elt Ideal) (Rect.unit (s := S8) (k0_off1 i) S1.size (k0_off1_inb i)).toLoadRect (harg4.unread x2) (Shape.Idx.first (numel1_S1.symm ▸ Nat.one_pos))) (k0_pay2 (F := Ideal) (arg5.view.readAt (Elt Ideal) (Rect.unit (s := S256x512) ![0, 0] S256x128.size inb_S256x512_S256x128_0_0).toLoadRect (harg5.unread x3)) (arg5.view.readAt (Elt Ideal) (Rect.unit (s := S256x512) ![0, 128] S256x128.size inb_S256x512_S256x128_0_128).toLoadRect (harg5.unread x3)) (arg5.view.readAt (Elt Ideal) (Rect.unit (s := S256x512) ![0, 256] S256x128.size inb_S256x512_S256x128_0_256).toLoadRect (harg5.unread x3)) (arg5.view.readAt (Elt Ideal) (Rect.unit (s := S256x512) ![0, 384] S256x128.size inb_S256x512_S256x128_0_384).toLoadRect (harg5.unread x3))) (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) x4 x5 →
      VO0_6.read (Elt Ideal) (VO0_6.writes (Elt Ideal) VO0_6.junk
        [⟨Rect.unit (s := S256x512) ![0, 384] S256x128.size inb_S256x512_S256x128_0_384, k0_pay35 (F := Ideal) K.2.1 K.2.2⟩,
          ⟨Rect.unit (s := S256x512) ![0, 256] S256x128.size inb_S256x512_S256x128_0_256, k0_pay34 (F := Ideal) K.2.1 K.2.2⟩,
          ⟨Rect.unit (s := S256x512) ![0, 128] S256x128.size inb_S256x512_S256x128_0_128, k0_pay33 (F := Ideal) K.2.1 K.2.2⟩,
          ⟨Rect.unit (s := S256x512) ![0, 0] S256x128.size inb_S256x512_S256x128_0_0, k0_pay32 (F := Ideal) K.2.1 K.2.2⟩]) = E) :
    out0_A_6 (F := Ideal) c i arg2 harg2 arg3 harg3 arg4 harg4 arg5 harg5 arg6 harg6 arg7 harg7 arg8 harg8 x0 x1 x2 x3 x4 x5 hw = E := by
  have ht := (loops_at i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))).2.2.1
  have hk := read_rows arg6 harg6 x4 (i 0).val (lt6 i) (k0_off2 i) (k0_off2_inb i) (off2_eq i)
  have hv := read_rows arg7 harg7 x5 (i 0).val (lt6 i) (k0_off2 i) (k0_off2_inb i) (off2_eq i)
  have hb : Scalar.muli (BitVec.ofNat 32 (i 0).val) 256#32 = BitVec.ofNat 32 (256 * (i 0).val) := by
    have h := trip_base (f := 0) (k := (i 0).val) (by have := lt6 i; omega)
    rw [trip_word, Nat.zero_add] at h
    exact h
  have h1 := st1_eq Variants.none c none i arg2 harg2 arg3 harg3 arg4 harg4 arg5 harg5 arg6 harg6 arg7 harg7 arg8 harg8 (BitVec.ofNat 32 (i 0).val) (k0_pay1 (F := Ideal) (arg3.view.readAt (Elt Ideal) (Rect.unit (s := S8) (k0_off1 i) S1.size (k0_off1_inb i)).toLoadRect (harg3.unread x1) (Shape.Idx.first (numel1_S1.symm ▸ Nat.one_pos)))) (arg4.view.readAt (Elt Ideal) (Rect.unit (s := S8) (k0_off1 i) S1.size (k0_off1_inb i)).toLoadRect (harg4.unread x2) (Shape.Idx.first (numel1_S1.symm ▸ Nat.one_pos))) (k0_pay2 (F := Ideal) (arg5.view.readAt (Elt Ideal) (Rect.unit (s := S256x512) ![0, 0] S256x128.size inb_S256x512_S256x128_0_0).toLoadRect (harg5.unread x3)) (arg5.view.readAt (Elt Ideal) (Rect.unit (s := S256x512) ![0, 128] S256x128.size inb_S256x512_S256x128_0_128).toLoadRect (harg5.unread x3)) (arg5.view.readAt (Elt Ideal) (Rect.unit (s := S256x512) ![0, 256] S256x128.size inb_S256x512_S256x128_0_256).toLoadRect (harg5.unread x3)) (arg5.view.readAt (Elt Ideal) (Rect.unit (s := S256x512) ![0, 384] S256x128.size inb_S256x512_S256x128_0_384).toLoadRect (harg5.unread x3))) (k0_pay3 i) (iota .tc S1024x256 32 [1] iota_S1024x256_d1_w32) (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![2] S1.size inb_S4_S1_2).toLoadRect (harg2.unread x0) (Shape.Idx.first (numel1_S1.symm ▸ Nat.one_pos))) (k0_pay6 (F := Ideal) (k0_pay3 i) (k0_pay4 (F := Ideal) i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos)))) (k0_pay5 (F := Ideal) i (arg2.view.readAt (Elt Ideal) (Rect.unit (s := S4) ![2] S1.size inb_S4_S1_2).toLoadRect (harg2.unread x0) (Shape.Idx.first (numel1_S1.symm ▸ Nat.one_pos)))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))) (arg2.view.readAt (Elt Ideal) (Rect.unit (s := S4) ![3] S1.size inb_S4_S1_3).toLoadRect (harg2.unread x0) (Shape.Idx.first (numel1_S1.symm ▸ Nat.one_pos))) hw (k0_pay7 (F := Ideal)) (k0_pay8 (F := Ideal)) (k0_pay9 (F := Ideal)) (k0_pay10 (F := Ideal) (arg7.view.readAt (Elt Ideal) (Rect.unit (s := S1536x128) (k0_off2 i) S256x128.size (k0_off2_inb i)).toLoadRect (harg7.unread x5))) (k0_pay11 (F := Ideal) (k0_pay2 (F := Ideal) (arg5.view.readAt (Elt Ideal) (Rect.unit (s := S256x512) ![0, 0] S256x128.size inb_S256x512_S256x128_0_0).toLoadRect (harg5.unread x3)) (arg5.view.readAt (Elt Ideal) (Rect.unit (s := S256x512) ![0, 128] S256x128.size inb_S256x512_S256x128_0_128).toLoadRect (harg5.unread x3)) (arg5.view.readAt (Elt Ideal) (Rect.unit (s := S256x512) ![0, 256] S256x128.size inb_S256x512_S256x128_0_256).toLoadRect (harg5.unread x3)) (arg5.view.readAt (Elt Ideal) (Rect.unit (s := S256x512) ![0, 384] S256x128.size inb_S256x512_S256x128_0_384).toLoadRect (harg5.unread x3))) (arg6.view.readAt (Elt Ideal) (Rect.unit (s := S1536x128) (k0_off2 i) S256x128.size (k0_off2_inb i)).toLoadRect (harg6.unread x4))) (k0_pay12 (F := Ideal) (BitVec.ofNat 32 (i 0).val) (k0_pay3 i) (iota .tc S1024x256 32 [1] iota_S1024x256_d1_w32) (k0_pay4 (F := Ideal) i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos)))) (k0_pay5 (F := Ideal) i (arg2.view.readAt (Elt Ideal) (Rect.unit (s := S4) ![2] S1.size inb_S4_S1_2).toLoadRect (harg2.unread x0) (Shape.Idx.first (numel1_S1.symm ▸ Nat.one_pos)))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))) x4 x5 (k0_pay14 (F := Ideal) (k0_pay1 (F := Ideal) (arg3.view.readAt (Elt Ideal) (Rect.unit (s := S8) (k0_off1 i) S1.size (k0_off1_inb i)).toLoadRect (harg3.unread x1) (Shape.Idx.first (numel1_S1.symm ▸ Nat.one_pos)))) (k0_pay7 (F := Ideal)) (k0_pay11 (F := Ideal) (k0_pay2 (F := Ideal) (arg5.view.readAt (Elt Ideal) (Rect.unit (s := S256x512) ![0, 0] S256x128.size inb_S256x512_S256x128_0_0).toLoadRect (harg5.unread x3)) (arg5.view.readAt (Elt Ideal) (Rect.unit (s := S256x512) ![0, 128] S256x128.size inb_S256x512_S256x128_0_128).toLoadRect (harg5.unread x3)) (arg5.view.readAt (Elt Ideal) (Rect.unit (s := S256x512) ![0, 256] S256x128.size inb_S256x512_S256x128_0_256).toLoadRect (harg5.unread x3)) (arg5.view.readAt (Elt Ideal) (Rect.unit (s := S256x512) ![0, 384] S256x128.size inb_S256x512_S256x128_0_384).toLoadRect (harg5.unread x3))) (arg6.view.readAt (Elt Ideal) (Rect.unit (s := S1536x128) (k0_off2 i) S256x128.size (k0_off2_inb i)).toLoadRect (harg6.unread x4))) (k0_pay12 (F := Ideal) (BitVec.ofNat 32 (i 0).val) (k0_pay3 i) (iota .tc S1024x256 32 [1] iota_S1024x256_d1_w32) (k0_pay4 (F := Ideal) i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos)))) (k0_pay5 (F := Ideal) i (arg2.view.readAt (Elt Ideal) (Rect.unit (s := S4) ![2] S1.size inb_S4_S1_2).toLoadRect (harg2.unread x0) (Shape.Idx.first (numel1_S1.symm ▸ Nat.one_pos)))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))), k0_pay17 (F := Ideal) (k0_pay1 (F := Ideal) (arg3.view.readAt (Elt Ideal) (Rect.unit (s := S8) (k0_off1 i) S1.size (k0_off1_inb i)).toLoadRect (harg3.unread x1) (Shape.Idx.first (numel1_S1.symm ▸ Nat.one_pos)))) (k0_pay7 (F := Ideal)) (k0_pay8 (F := Ideal)) (k0_pay11 (F := Ideal) (k0_pay2 (F := Ideal) (arg5.view.readAt (Elt Ideal) (Rect.unit (s := S256x512) ![0, 0] S256x128.size inb_S256x512_S256x128_0_0).toLoadRect (harg5.unread x3)) (arg5.view.readAt (Elt Ideal) (Rect.unit (s := S256x512) ![0, 128] S256x128.size inb_S256x512_S256x128_0_128).toLoadRect (harg5.unread x3)) (arg5.view.readAt (Elt Ideal) (Rect.unit (s := S256x512) ![0, 256] S256x128.size inb_S256x512_S256x128_0_256).toLoadRect (harg5.unread x3)) (arg5.view.readAt (Elt Ideal) (Rect.unit (s := S256x512) ![0, 384] S256x128.size inb_S256x512_S256x128_0_384).toLoadRect (harg5.unread x3))) (arg6.view.readAt (Elt Ideal) (Rect.unit (s := S1536x128) (k0_off2 i) S256x128.size (k0_off2_inb i)).toLoadRect (harg6.unread x4))) (k0_pay12 (F := Ideal) (BitVec.ofNat 32 (i 0).val) (k0_pay3 i) (iota .tc S1024x256 32 [1] iota_S1024x256_d1_w32) (k0_pay4 (F := Ideal) i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos)))) (k0_pay5 (F := Ideal) i (arg2.view.readAt (Elt Ideal) (Rect.unit (s := S4) ![2] S1.size inb_S4_S1_2).toLoadRect (harg2.unread x0) (Shape.Idx.first (numel1_S1.symm ▸ Nat.one_pos)))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))), k0_pay18 (F := Ideal) (k0_pay1 (F := Ideal) (arg3.view.readAt (Elt Ideal) (Rect.unit (s := S8) (k0_off1 i) S1.size (k0_off1_inb i)).toLoadRect (harg3.unread x1) (Shape.Idx.first (numel1_S1.symm ▸ Nat.one_pos)))) (arg4.view.readAt (Elt Ideal) (Rect.unit (s := S8) (k0_off1 i) S1.size (k0_off1_inb i)).toLoadRect (harg4.unread x2) (Shape.Idx.first (numel1_S1.symm ▸ Nat.one_pos))) (k0_pay7 (F := Ideal)) (k0_pay9 (F := Ideal)) (k0_pay10 (F := Ideal) (arg7.view.readAt (Elt Ideal) (Rect.unit (s := S1536x128) (k0_off2 i) S256x128.size (k0_off2_inb i)).toLoadRect (harg7.unread x5))) (k0_pay11 (F := Ideal) (k0_pay2 (F := Ideal) (arg5.view.readAt (Elt Ideal) (Rect.unit (s := S256x512) ![0, 0] S256x128.size inb_S256x512_S256x128_0_0).toLoadRect (harg5.unread x3)) (arg5.view.readAt (Elt Ideal) (Rect.unit (s := S256x512) ![0, 128] S256x128.size inb_S256x512_S256x128_0_128).toLoadRect (harg5.unread x3)) (arg5.view.readAt (Elt Ideal) (Rect.unit (s := S256x512) ![0, 256] S256x128.size inb_S256x512_S256x128_0_256).toLoadRect (harg5.unread x3)) (arg5.view.readAt (Elt Ideal) (Rect.unit (s := S256x512) ![0, 384] S256x128.size inb_S256x512_S256x128_0_384).toLoadRect (harg5.unread x3))) (arg6.view.readAt (Elt Ideal) (Rect.unit (s := S1536x128) (k0_off2 i) S256x128.size (k0_off2_inb i)).toLoadRect (harg6.unread x4))) (k0_pay12 (F := Ideal) (BitVec.ofNat 32 (i 0).val) (k0_pay3 i) (iota .tc S1024x256 32 [1] iota_S1024x256_d1_w32) (k0_pay4 (F := Ideal) i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos)))) (k0_pay5 (F := Ideal) i (arg2.view.readAt (Elt Ideal) (Rect.unit (s := S4) ![2] S1.size inb_S4_S1_2).toLoadRect (harg2.unread x0) (Shape.Idx.first (numel1_S1.symm ▸ Nat.one_pos)))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))))) _ le_rfl
  have h2 := st2_eq Variants.none c none i arg2 harg2 arg3 harg3 arg4 harg4 arg5 harg5 arg6 harg6 arg7 harg7 arg8 harg8 (BitVec.ofNat 32 (i 0).val) (k0_pay1 (F := Ideal) (arg3.view.readAt (Elt Ideal) (Rect.unit (s := S8) (k0_off1 i) S1.size (k0_off1_inb i)).toLoadRect (harg3.unread x1) (Shape.Idx.first (numel1_S1.symm ▸ Nat.one_pos)))) (arg4.view.readAt (Elt Ideal) (Rect.unit (s := S8) (k0_off1 i) S1.size (k0_off1_inb i)).toLoadRect (harg4.unread x2) (Shape.Idx.first (numel1_S1.symm ▸ Nat.one_pos))) (k0_pay2 (F := Ideal) (arg5.view.readAt (Elt Ideal) (Rect.unit (s := S256x512) ![0, 0] S256x128.size inb_S256x512_S256x128_0_0).toLoadRect (harg5.unread x3)) (arg5.view.readAt (Elt Ideal) (Rect.unit (s := S256x512) ![0, 128] S256x128.size inb_S256x512_S256x128_0_128).toLoadRect (harg5.unread x3)) (arg5.view.readAt (Elt Ideal) (Rect.unit (s := S256x512) ![0, 256] S256x128.size inb_S256x512_S256x128_0_256).toLoadRect (harg5.unread x3)) (arg5.view.readAt (Elt Ideal) (Rect.unit (s := S256x512) ![0, 384] S256x128.size inb_S256x512_S256x128_0_384).toLoadRect (harg5.unread x3))) (k0_pay3 i) (iota .tc S1024x256 32 [1] iota_S1024x256_d1_w32) (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![2] S1.size inb_S4_S1_2).toLoadRect (harg2.unread x0) (Shape.Idx.first (numel1_S1.symm ▸ Nat.one_pos))) (k0_pay6 (F := Ideal) (k0_pay3 i) (k0_pay4 (F := Ideal) i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos)))) (k0_pay5 (F := Ideal) i (arg2.view.readAt (Elt Ideal) (Rect.unit (s := S4) ![2] S1.size inb_S4_S1_2).toLoadRect (harg2.unread x0) (Shape.Idx.first (numel1_S1.symm ▸ Nat.one_pos)))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))) (arg2.view.readAt (Elt Ideal) (Rect.unit (s := S4) ![3] S1.size inb_S4_S1_3).toLoadRect (harg2.unread x0) (Shape.Idx.first (numel1_S1.symm ▸ Nat.one_pos))) hw (k0_pay7 (F := Ideal)) (k0_pay8 (F := Ideal)) (k0_pay9 (F := Ideal)) (k0_pay10 (F := Ideal) (arg7.view.readAt (Elt Ideal) (Rect.unit (s := S1536x128) (k0_off2 i) S256x128.size (k0_off2_inb i)).toLoadRect (harg7.unread x5))) (k0_pay11 (F := Ideal) (k0_pay2 (F := Ideal) (arg5.view.readAt (Elt Ideal) (Rect.unit (s := S256x512) ![0, 0] S256x128.size inb_S256x512_S256x128_0_0).toLoadRect (harg5.unread x3)) (arg5.view.readAt (Elt Ideal) (Rect.unit (s := S256x512) ![0, 128] S256x128.size inb_S256x512_S256x128_0_128).toLoadRect (harg5.unread x3)) (arg5.view.readAt (Elt Ideal) (Rect.unit (s := S256x512) ![0, 256] S256x128.size inb_S256x512_S256x128_0_256).toLoadRect (harg5.unread x3)) (arg5.view.readAt (Elt Ideal) (Rect.unit (s := S256x512) ![0, 384] S256x128.size inb_S256x512_S256x128_0_384).toLoadRect (harg5.unread x3))) (arg6.view.readAt (Elt Ideal) (Rect.unit (s := S1536x128) (k0_off2 i) S256x128.size (k0_off2_inb i)).toLoadRect (harg6.unread x4))) (k0_pay12 (F := Ideal) (BitVec.ofNat 32 (i 0).val) (k0_pay3 i) (iota .tc S1024x256 32 [1] iota_S1024x256_d1_w32) (k0_pay4 (F := Ideal) i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos)))) (k0_pay5 (F := Ideal) i (arg2.view.readAt (Elt Ideal) (Rect.unit (s := S4) ![2] S1.size inb_S4_S1_2).toLoadRect (harg2.unread x0) (Shape.Idx.first (numel1_S1.symm ▸ Nat.one_pos)))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))) x4 x5 (st_k0_t1 (F := Ideal) Variants.none c none i arg2 harg2 arg3 harg3 arg4 harg4 arg5 harg5 arg6 harg6 arg7 harg7 arg8 harg8 (BitVec.ofNat 32 (i 0).val) (k0_pay1 (F := Ideal) (arg3.view.readAt (Elt Ideal) (Rect.unit (s := S8) (k0_off1 i) S1.size (k0_off1_inb i)).toLoadRect (harg3.unread x1) (Shape.Idx.first (numel1_S1.symm ▸ Nat.one_pos)))) (arg4.view.readAt (Elt Ideal) (Rect.unit (s := S8) (k0_off1 i) S1.size (k0_off1_inb i)).toLoadRect (harg4.unread x2) (Shape.Idx.first (numel1_S1.symm ▸ Nat.one_pos))) (k0_pay2 (F := Ideal) (arg5.view.readAt (Elt Ideal) (Rect.unit (s := S256x512) ![0, 0] S256x128.size inb_S256x512_S256x128_0_0).toLoadRect (harg5.unread x3)) (arg5.view.readAt (Elt Ideal) (Rect.unit (s := S256x512) ![0, 128] S256x128.size inb_S256x512_S256x128_0_128).toLoadRect (harg5.unread x3)) (arg5.view.readAt (Elt Ideal) (Rect.unit (s := S256x512) ![0, 256] S256x128.size inb_S256x512_S256x128_0_256).toLoadRect (harg5.unread x3)) (arg5.view.readAt (Elt Ideal) (Rect.unit (s := S256x512) ![0, 384] S256x128.size inb_S256x512_S256x128_0_384).toLoadRect (harg5.unread x3))) (k0_pay3 i) (iota .tc S1024x256 32 [1] iota_S1024x256_d1_w32) (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![2] S1.size inb_S4_S1_2).toLoadRect (harg2.unread x0) (Shape.Idx.first (numel1_S1.symm ▸ Nat.one_pos))) (k0_pay6 (F := Ideal) (k0_pay3 i) (k0_pay4 (F := Ideal) i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos)))) (k0_pay5 (F := Ideal) i (arg2.view.readAt (Elt Ideal) (Rect.unit (s := S4) ![2] S1.size inb_S4_S1_2).toLoadRect (harg2.unread x0) (Shape.Idx.first (numel1_S1.symm ▸ Nat.one_pos)))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) hw (startAt (Scalar.muli (BitVec.ofNat 32 (i 0).val) 256#32) (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))) (k0_pay7 (F := Ideal)) (k0_pay8 (F := Ideal)) (k0_pay9 (F := Ideal)) (k0_pay10 (F := Ideal) (arg7.view.readAt (Elt Ideal) (Rect.unit (s := S1536x128) (k0_off2 i) S256x128.size (k0_off2_inb i)).toLoadRect (harg7.unread x5))) (k0_pay11 (F := Ideal) (k0_pay2 (F := Ideal) (arg5.view.readAt (Elt Ideal) (Rect.unit (s := S256x512) ![0, 0] S256x128.size inb_S256x512_S256x128_0_0).toLoadRect (harg5.unread x3)) (arg5.view.readAt (Elt Ideal) (Rect.unit (s := S256x512) ![0, 128] S256x128.size inb_S256x512_S256x128_0_128).toLoadRect (harg5.unread x3)) (arg5.view.readAt (Elt Ideal) (Rect.unit (s := S256x512) ![0, 256] S256x128.size inb_S256x512_S256x128_0_256).toLoadRect (harg5.unread x3)) (arg5.view.readAt (Elt Ideal) (Rect.unit (s := S256x512) ![0, 384] S256x128.size inb_S256x512_S256x128_0_384).toLoadRect (harg5.unread x3))) (arg6.view.readAt (Elt Ideal) (Rect.unit (s := S1536x128) (k0_off2 i) S256x128.size (k0_off2_inb i)).toLoadRect (harg6.unread x4))) (k0_pay12 (F := Ideal) (BitVec.ofNat 32 (i 0).val) (k0_pay3 i) (iota .tc S1024x256 32 [1] iota_S1024x256_d1_w32) (k0_pay4 (F := Ideal) i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos)))) (k0_pay5 (F := Ideal) i (arg2.view.readAt (Elt Ideal) (Rect.unit (s := S4) ![2] S1.size inb_S4_S1_2).toLoadRect (harg2.unread x0) (Shape.Idx.first (numel1_S1.symm ▸ Nat.one_pos)))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))) (harg6.unread x4) (harg7.unread x5) (k0_pay14 (F := Ideal) (k0_pay1 (F := Ideal) (arg3.view.readAt (Elt Ideal) (Rect.unit (s := S8) (k0_off1 i) S1.size (k0_off1_inb i)).toLoadRect (harg3.unread x1) (Shape.Idx.first (numel1_S1.symm ▸ Nat.one_pos)))) (k0_pay7 (F := Ideal)) (k0_pay11 (F := Ideal) (k0_pay2 (F := Ideal) (arg5.view.readAt (Elt Ideal) (Rect.unit (s := S256x512) ![0, 0] S256x128.size inb_S256x512_S256x128_0_0).toLoadRect (harg5.unread x3)) (arg5.view.readAt (Elt Ideal) (Rect.unit (s := S256x512) ![0, 128] S256x128.size inb_S256x512_S256x128_0_128).toLoadRect (harg5.unread x3)) (arg5.view.readAt (Elt Ideal) (Rect.unit (s := S256x512) ![0, 256] S256x128.size inb_S256x512_S256x128_0_256).toLoadRect (harg5.unread x3)) (arg5.view.readAt (Elt Ideal) (Rect.unit (s := S256x512) ![0, 384] S256x128.size inb_S256x512_S256x128_0_384).toLoadRect (harg5.unread x3))) (arg6.view.readAt (Elt Ideal) (Rect.unit (s := S1536x128) (k0_off2 i) S256x128.size (k0_off2_inb i)).toLoadRect (harg6.unread x4))) (k0_pay12 (F := Ideal) (BitVec.ofNat 32 (i 0).val) (k0_pay3 i) (iota .tc S1024x256 32 [1] iota_S1024x256_d1_w32) (k0_pay4 (F := Ideal) i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos)))) (k0_pay5 (F := Ideal) i (arg2.view.readAt (Elt Ideal) (Rect.unit (s := S4) ![2] S1.size inb_S4_S1_2).toLoadRect (harg2.unread x0) (Shape.Idx.first (numel1_S1.symm ▸ Nat.one_pos)))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))), k0_pay17 (F := Ideal) (k0_pay1 (F := Ideal) (arg3.view.readAt (Elt Ideal) (Rect.unit (s := S8) (k0_off1 i) S1.size (k0_off1_inb i)).toLoadRect (harg3.unread x1) (Shape.Idx.first (numel1_S1.symm ▸ Nat.one_pos)))) (k0_pay7 (F := Ideal)) (k0_pay8 (F := Ideal)) (k0_pay11 (F := Ideal) (k0_pay2 (F := Ideal) (arg5.view.readAt (Elt Ideal) (Rect.unit (s := S256x512) ![0, 0] S256x128.size inb_S256x512_S256x128_0_0).toLoadRect (harg5.unread x3)) (arg5.view.readAt (Elt Ideal) (Rect.unit (s := S256x512) ![0, 128] S256x128.size inb_S256x512_S256x128_0_128).toLoadRect (harg5.unread x3)) (arg5.view.readAt (Elt Ideal) (Rect.unit (s := S256x512) ![0, 256] S256x128.size inb_S256x512_S256x128_0_256).toLoadRect (harg5.unread x3)) (arg5.view.readAt (Elt Ideal) (Rect.unit (s := S256x512) ![0, 384] S256x128.size inb_S256x512_S256x128_0_384).toLoadRect (harg5.unread x3))) (arg6.view.readAt (Elt Ideal) (Rect.unit (s := S1536x128) (k0_off2 i) S256x128.size (k0_off2_inb i)).toLoadRect (harg6.unread x4))) (k0_pay12 (F := Ideal) (BitVec.ofNat 32 (i 0).val) (k0_pay3 i) (iota .tc S1024x256 32 [1] iota_S1024x256_d1_w32) (k0_pay4 (F := Ideal) i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos)))) (k0_pay5 (F := Ideal) i (arg2.view.readAt (Elt Ideal) (Rect.unit (s := S4) ![2] S1.size inb_S4_S1_2).toLoadRect (harg2.unread x0) (Shape.Idx.first (numel1_S1.symm ▸ Nat.one_pos)))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))), k0_pay18 (F := Ideal) (k0_pay1 (F := Ideal) (arg3.view.readAt (Elt Ideal) (Rect.unit (s := S8) (k0_off1 i) S1.size (k0_off1_inb i)).toLoadRect (harg3.unread x1) (Shape.Idx.first (numel1_S1.symm ▸ Nat.one_pos)))) (arg4.view.readAt (Elt Ideal) (Rect.unit (s := S8) (k0_off1 i) S1.size (k0_off1_inb i)).toLoadRect (harg4.unread x2) (Shape.Idx.first (numel1_S1.symm ▸ Nat.one_pos))) (k0_pay7 (F := Ideal)) (k0_pay9 (F := Ideal)) (k0_pay10 (F := Ideal) (arg7.view.readAt (Elt Ideal) (Rect.unit (s := S1536x128) (k0_off2 i) S256x128.size (k0_off2_inb i)).toLoadRect (harg7.unread x5))) (k0_pay11 (F := Ideal) (k0_pay2 (F := Ideal) (arg5.view.readAt (Elt Ideal) (Rect.unit (s := S256x512) ![0, 0] S256x128.size inb_S256x512_S256x128_0_0).toLoadRect (harg5.unread x3)) (arg5.view.readAt (Elt Ideal) (Rect.unit (s := S256x512) ![0, 128] S256x128.size inb_S256x512_S256x128_0_128).toLoadRect (harg5.unread x3)) (arg5.view.readAt (Elt Ideal) (Rect.unit (s := S256x512) ![0, 256] S256x128.size inb_S256x512_S256x128_0_256).toLoadRect (harg5.unread x3)) (arg5.view.readAt (Elt Ideal) (Rect.unit (s := S256x512) ![0, 384] S256x128.size inb_S256x512_S256x128_0_384).toLoadRect (harg5.unread x3))) (arg6.view.readAt (Elt Ideal) (Rect.unit (s := S1536x128) (k0_off2 i) S256x128.size (k0_off2_inb i)).toLoadRect (harg6.unread x4))) (k0_pay12 (F := Ideal) (BitVec.ofNat 32 (i 0).val) (k0_pay3 i) (iota .tc S1024x256 32 [1] iota_S1024x256_d1_w32) (k0_pay4 (F := Ideal) i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos)))) (k0_pay5 (F := Ideal) i (arg2.view.readAt (Elt Ideal) (Rect.unit (s := S4) ![2] S1.size inb_S4_S1_2).toLoadRect (harg2.unread x0) (Shape.Idx.first (numel1_S1.symm ▸ Nat.one_pos)))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))))) (k0_t1_loop i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos)))).trips)
  refine Eq.trans ?_ (hE _ (h2.trans (h1.trans ?_)))
  · rfl
  · unfold carried
    rw [ht, ← hb, ← hk, ← hv]
    rfl

end Cert.AttnIdeal.Value
-- ==== Proof.AttnRun.Online.lean ====
/- The running maximum, sum and product over blocks of keys, on the extended reals: taking one block after another yields what all
   the keys together yield. -/
module

public import Idealize.ShloMosaic.Lib.Pipeline.ValueKit
public import Idealize.ShloMosaic.Lib.Pointwise

@[expose] public section

noncomputable section

namespace Cert.AttnOnline

open Idealize.ShloMosaic

/-- Two to the power `x`. -/
abbrev ex (x : EReal) : EReal := Ideal.exp2 x

theorem ex_coe (r : ℝ) : ex (r : EReal) = (Real.rpow 2 r : EReal) := rfl

/-- The ceiling, the infinities fixed. -/
abbrev up : EReal → EReal := Ideal.liftRound Int.ceil

theorem up_bot : up ⊥ = ⊥ := rfl
theorem up_top : up ⊤ = ⊤ := rfl
theorem up_coe (r : ℝ) : up (r : EReal) = ((⌈r⌉ : ℝ) : EReal) := rfl

theorem le_up (x : EReal) : x ≤ up x := by
  induction x using EReal.rec with
  | bot => exact le_rfl
  | top => exact le_rfl
  | coe r => rw [up_coe]; exact EReal.coe_le_coe_iff.2 (Int.le_ceil r)

theorem up_mono : Monotone up := by
  intro x y h
  induction x using EReal.rec with
  | bot => exact bot_le
  | top => rw [top_le_iff.1 h]
  | coe r =>
    induction y using EReal.rec with
    | bot => exact absurd h (by simp)
    | top => exact le_top
    | coe t =>
      rw [up_coe, up_coe]
      exact EReal.coe_le_coe_iff.2 (Int.cast_le.2 (Int.ceil_mono (EReal.coe_le_coe_iff.1 h)))

theorem exp2_nonneg (x : EReal) : 0 ≤ ex x := by
  induction x using EReal.rec with
  | bot => exact le_rfl
  | top => exact le_top
  | coe r => rw [ex_coe]; exact EReal.coe_nonneg.2 (Real.rpow_nonneg (by norm_num) r)

/-- A factor between a running maximum and a later one is finite. -/
theorem exp2_ne_top {x y : EReal} (h : x ≤ y) : ex (x - y) ≠ ⊤ := by
  induction y using EReal.rec with
  | bot => rw [le_bot_iff.1 h]; simp
  | top => simp [EReal.sub_top]
  | coe t =>
    induction x using EReal.rec with
    | bot => simp
    | top => exact absurd h (by simp)
    | coe r => rw [← EReal.coe_sub, ex_coe]; exact EReal.coe_ne_top _

/-- Moving a weight from a running maximum to a later one. -/
theorem exp2_shift {s m m' : EReal} (h : s ≤ m) (h' : m ≤ m') : ex (s - m) * ex (m - m') = ex (s - m') := by
  induction m' using EReal.rec with
  | bot =>
    have hm := le_bot_iff.1 h'
    subst hm
    have hs := le_bot_iff.1 h
    subst hs
    simp
  | top => simp [EReal.sub_top]
  | coe t =>
    induction m using EReal.rec with
    | bot =>
      have hs := le_bot_iff.1 h
      subst hs
      simp
    | top => exact absurd h' (by simp)
    | coe r =>
      induction s using EReal.rec with
      | bot => simp
      | top => exact absurd h (by simp)
      | coe q =>
        rw [← EReal.coe_sub, ← EReal.coe_sub, ← EReal.coe_sub, ex_coe, ex_coe, ex_coe, ← EReal.coe_mul]
        have := Real.rpow_add (x := 2) (by norm_num) (q - r) (r - t)
        rw [show q - t = (q - r) + (r - t) by ring]
        exact congrArg _ this.symm

theorem sum_mul {ι : Type} (B : Finset ι) (g : ι → EReal) {α : EReal} (h0 : 0 ≤ α) (h1 : α ≠ ⊤) : (∑ j ∈ B, g j) * α = ∑ j ∈ B, g j * α := by
  classical
  induction B using Finset.induction with
  | empty => simp
  | insert a B ha ih => rw [Finset.sum_insert ha, Finset.sum_insert ha, ← ih, EReal.right_distrib_of_nonneg_of_ne_top h0 h1]

/-- The rounded maximum of a row's scores. -/
def top {ι : Type} [Fintype ι] (s : ι → EReal) : EReal := up (Finset.univ.fold max ⊥ s)

theorem le_fold {ι : Type} [Fintype ι] (s : ι → EReal) (k : ι) : s k ≤ Finset.univ.fold max ⊥ s :=
  ((Finset.fold_max_le (f := s) (b := ⊥) (s := Finset.univ) _).1 le_rfl).2 k (Finset.mem_univ k)

theorem le_top' {ι : Type} [Fintype ι] (s : ι → EReal) (k : ι) : s k ≤ top s := (le_fold s k).trans (le_up _)

def stepM (m : EReal) (s : Fin 256 → EReal) : EReal := max m (top s)

def stepL (m l : EReal) (s : Fin 256 → EReal) : EReal := l * ex (m - stepM m s) + ∑ k, ex (s k - stepM m s)

def stepA (m a : EReal) (s : Fin 256 → EReal) (w : EReal) (u : Fin 256 → EReal) : EReal :=
  a * ex (m - stepM m s) + ∑ k, ex (s k - stepM m s) * w * u k

/-- The carried values after the blocks of `B`. -/
def Inv (s u : ℕ → Fin 256 → EReal) (w : EReal) (B : Finset ℕ) (m l a : EReal) : Prop :=
  m = B.sup (fun j => top (s j)) ∧ l = ∑ j ∈ B, ∑ k, ex (s j k - m) ∧ a = ∑ j ∈ B, ∑ k, ex (s j k - m) * w * u j k

theorem Inv.empty (s u : ℕ → Fin 256 → EReal) (w : EReal) : Inv s u w ∅ ⊥ 0 0 := ⟨by simp, by simp, by simp⟩

theorem Inv.step {s u : ℕ → Fin 256 → EReal} {w : EReal} {B : Finset ℕ} {m l a : EReal} (h : Inv s u w B m l a) (j : ℕ) (hj : j ∉ B) :
    Inv s u w (insert j B) (stepM m (s j)) (stepL m l (s j)) (stepA m a (s j) w (u j)) := by
  obtain ⟨hm, hl, ha⟩ := h
  have hle : m ≤ stepM m (s j) := le_max_left _ _
  have hα0 := exp2_nonneg (m - stepM m (s j))
  have hα1 := exp2_ne_top hle
  have hs : ∀ i ∈ B, ∀ k, s i k ≤ m := fun i hi k => (le_top' (s i) k).trans (hm ▸ Finset.le_sup (f := fun j => top (s j)) hi)
  refine ⟨?_, ?_, ?_⟩
  · rw [Finset.sup_insert, ← hm]
    exact max_comm _ _
  · rw [Finset.sum_insert hj, add_comm]
    unfold stepL
    congr 1
    rw [hl, sum_mul _ _ hα0 hα1]
    refine Finset.sum_congr rfl fun i hi => ?_
    rw [sum_mul _ _ hα0 hα1]
    exact Finset.sum_congr rfl fun k _ => exp2_shift (hs i hi k) hle
  · rw [Finset.sum_insert hj, add_comm]
    unfold stepA
    congr 1
    rw [ha, sum_mul _ _ hα0 hα1]
    refine Finset.sum_congr rfl fun i hi => ?_
    rw [sum_mul _ _ hα0 hα1]
    refine Finset.sum_congr rfl fun k _ => ?_
    rw [← exp2_shift (hs i hi k) hle, mul_right_comm (ex _ * w), mul_right_comm (ex _) w]

/-- Entry `key` of the row made of the blocks' rows. -/
def flat (s : ℕ → Fin 256 → EReal) : Fin 1536 → EReal := fun key => s (key.val / 256) ⟨key.val % 256, Nat.mod_lt _ (by decide)⟩

theorem sum_flat (g : Fin 1536 → EReal) (h : ℕ → Fin 256 → EReal) (hg : g = flat h) : ∑ key, g key = ∑ j ∈ Finset.range 6, ∑ k, h j k := by
  subst hg
  rw [Finset.sum_range, ← Fintype.sum_prod_type']
  refine (Fintype.sum_equiv (finProdFinEquiv (m := 6) (n := 256)) _ _ fun p => ?_).symm
  obtain ⟨j, k⟩ := p
  show h j.val k = h ((k.val + 256 * j.val) / 256) ⟨(k.val + 256 * j.val) % 256, _⟩
  have h1 : (k.val + 256 * j.val) / 256 = j.val := by have := k.isLt; omega
  have h2 : (k.val + 256 * j.val) % 256 = k.val := by have := k.isLt; omega
  rw [h1]
  exact congrArg (h j.val) (Fin.ext h2.symm)

theorem fold_flat (s : ℕ → Fin 256 → EReal) : Finset.univ.fold max ⊥ (flat s) = (Finset.range 6).sup fun j => Finset.univ.fold max ⊥ (s j) := by
  apply le_antisymm
  · refine (Finset.fold_max_le _).2 ⟨bot_le, fun key _ => ?_⟩
    have h6 : key.val / 256 ∈ Finset.range 6 := Finset.mem_range.2 (by have := key.isLt; omega)
    exact le_trans (le_fold (s (key.val / 256)) ⟨key.val % 256, Nat.mod_lt _ (by decide)⟩) (Finset.le_sup (f := fun j => Finset.univ.fold max ⊥ (s j)) h6)
  · refine Finset.sup_le fun j hj => (Finset.fold_max_le _).2 ⟨bot_le, fun k _ => ?_⟩
    have hj6 := Finset.mem_range.1 hj
    have hk := k.isLt
    have h := le_fold (flat s) ⟨256 * j + k.val, by omega⟩
    refine le_trans (le_of_eq ?_) h
    show s j k = s ((256 * j + k.val) / 256) ⟨(256 * j + k.val) % 256, _⟩
    have h1 : (256 * j + k.val) / 256 = j := by omega
    have h2 : (256 * j + k.val) % 256 = k.val := by omega
    rw [h1]
    exact congrArg (s j) (Fin.ext h2.symm)

theorem top_flat (s : ℕ → Fin 256 → EReal) : top (flat s) = (Finset.range 6).sup fun j => top (s j) := by
  unfold top
  rw [fold_flat]
  exact Finset.comp_sup_eq_sup_comp up (fun x y => up_mono.map_sup x y) up_bot

theorem top_masked {s : Fin 256 → EReal} (h : ∀ k, s k = ⊥) : top s = ⊥ := by
  unfold top
  have : Finset.univ.fold max ⊥ s = ⊥ := le_bot_iff.1 ((Finset.fold_max_le _).2 ⟨le_rfl, fun k _ => le_of_eq (h k)⟩)
  rw [this]; rfl

/-- The blocks outside `B` fully masked, the carried values after `B` are those of all the keys. -/
theorem Inv.all {s u : ℕ → Fin 256 → EReal} {w : EReal} {B : Finset ℕ} {m l a : EReal} (h : Inv s u w B m l a) (hB : B ⊆ Finset.range 6)
    (hmask : ∀ j < 6, j ∉ B → ∀ k, s j k = ⊥) :
    l = ∑ key, ex (flat s key - top (flat s)) ∧ a = ∑ key, ex (flat s key - top (flat s)) * w * flat u key := by
  obtain ⟨hm, hl, ha⟩ := h
  have hM : top (flat s) = m := by
    rw [top_flat, hm]
    apply le_antisymm
    · refine Finset.sup_le fun j hj => ?_
      by_cases hjB : j ∈ B
      · exact Finset.le_sup (f := fun j => top (s j)) hjB
      · rw [top_masked (hmask j (Finset.mem_range.1 hj) hjB)]; exact bot_le
    · exact Finset.sup_mono hB
  rw [hM]
  constructor
  · rw [hl, sum_flat (fun key => ex (flat s key - m)) (fun j k => ex (s j k - m)) rfl]
    refine Finset.sum_subset hB fun j hj hjB => Finset.sum_eq_zero fun k _ => ?_
    rw [hmask j (Finset.mem_range.1 hj) hjB k]; simp
  · rw [ha, sum_flat (fun key => ex (flat s key - m) * w * flat u key) (fun j k => ex (s j k - m) * w * u j k) rfl]
    refine Finset.sum_subset hB fun j hj hjB => Finset.sum_eq_zero fun k _ => ?_
    rw [hmask j (Finset.mem_range.1 hj) hjB k]; simp

end Cert.AttnOnline
-- ==== Proof.AttnRun.StepForms.lean ====
/- The attention call's operations read at an index. -/
module

public import proofs.«01_k».proof.Proof.AttnRun.Trip
public import proofs.«01_k».proof.Proof.AttnRun.Online
public import Idealize.ShloMosaic.Lib.Pipeline.ValueKit

@[expose] public section

set_option maxRecDepth 16384

noncomputable section

namespace Cert.AttnIdeal.Value

open Idealize.ShloMosaic Idealize.ShloMosaic.TcCoe Idealize.SL.Sem
open Cert.AttnIdeal Cert.AttnIdeal.Gen Cert.AttnOnline Cert.AttnWords

theorem mask_value : (Named.named (F := Ideal) κ "mask" 0xF149F2CA#32 : Ideal .f32) = (⊥ : EReal) :=
  IdealRules.named_const.ideal_named_scalar _ _ _ _ rfl

theorem bits_bot : (Ideal.ofBits .f32 0xFF800000#32 : EReal) = ⊥ := by simp [Ideal.ofBits, Ideal.ieee]

/-- The score of one key: hidden keys' is `⊥`. -/
def score (b : BitVec 1) (x y : EReal) : EReal := Scalar.select b (x * y) ⊥

section
variable (v3 v5 : EReal) (m l : FVec Ideal S1024x1 .f32) (a : FVec Ideal S1024x128 .f32) (x p : FVec Ideal S1024x256 .f32) (b : IVec S1024x256 1)
  (vb : FVec Ideal S256x128 .bf16) (r : Fin 1024) (k : Fin 256) (d : Fin 128)

theorem pay13_form : k0_pay13 (F := Ideal) v3 x b (ix2 r k) = score (b (ix2 r k)) (x (ix2 r k)) v3 := by
  unfold score
  rw [← mask_value]
  generalize hE : Scalar.select (α := EReal) _ _ _ = E
  pointwise [k0_pay13]
  exact hE

theorem pay14_form' : (maximumf m (ceil (shapeCast S1024x1 (multiReduction (F := Ideal) .maximumf [1] S1024 p 0xFF800000#32 reduces_S1024x256_S1024 (.inl rfl) rfl) shapeCasts_S1024_S1024x1)) : FVec Ideal S1024x1 .f32) (ix2 r 0)
    = stepM (m (ix2 r 0)) (fun k => p (ix2 r k)) := by
  unfold stepM top up
  rw [← bits_bot]
  generalize hE : max (m (ix2 r 0) : EReal) _ = E
  pointwise
  exact hE

theorem pay14_form : k0_pay14 (F := Ideal) v3 m x b (ix2 r 0) = stepM (m (ix2 r 0)) (fun k => score (b (ix2 r k)) (x (ix2 r k)) v3) := by
  delta k0_pay14
  refine (pay14_form' m _ r).trans (congrArg (stepM _) (funext fun k => pay13_form v3 x b r k))

theorem pay15_form' : (exp2 (subf p (broadcastTo S1024x256 m broadcasts_S1024x1_S1024x256)) : FVec Ideal S1024x256 .f32) (ix2 r k)
    = ex (p (ix2 r k) - m (ix2 r 0)) := by
  generalize hE : ex _ = E
  pointwise
  exact hE

theorem pay15_form : k0_pay15 (F := Ideal) v3 m x b (ix2 r k)
    = ex (score (b (ix2 r k)) (x (ix2 r k)) v3 - stepM (m (ix2 r 0)) (fun k => score (b (ix2 r k)) (x (ix2 r k)) v3)) := by
  delta k0_pay15
  refine (pay15_form' _ _ r k).trans ?_
  rw [pay13_form, pay14_form]

theorem pay16_form' (m' : FVec Ideal S1024x1 .f32) : (exp2 (subf m m') : FVec Ideal S1024x1 .f32) (ix2 r 0) = ex (m (ix2 r 0) - m' (ix2 r 0)) := by
  generalize hE : ex _ = E
  pointwise
  exact hE

theorem pay16_form : k0_pay16 (F := Ideal) v3 m x b (ix2 r 0)
    = ex (m (ix2 r 0) - stepM (m (ix2 r 0)) (fun k => score (b (ix2 r k)) (x (ix2 r k)) v3)) := by
  delta k0_pay16
  refine (pay16_form' _ r _).trans ?_
  rw [pay14_form]

theorem pay17_form' : (addf (mulf l m) (shapeCast S1024x1 (multiReduction (F := Ideal) .add [1] S1024 p 0x00000000#32 reduces_S1024x256_S1024 (.inl rfl) rfl) shapeCasts_S1024_S1024x1) : FVec Ideal S1024x1 .f32) (ix2 r 0)
    = l (ix2 r 0) * m (ix2 r 0) + ∑ k, p (ix2 r k) := by
  generalize hE : l (ix2 r 0) * m (ix2 r 0) + _ = E
  pointwise
  exact hE

theorem pay17_form : k0_pay17 (F := Ideal) v3 m l x b (ix2 r 0)
    = stepL (m (ix2 r 0)) (l (ix2 r 0)) (fun k => score (b (ix2 r k)) (x (ix2 r k)) v3) := by
  delta k0_pay17
  refine (pay17_form' _ _ _ r).trans ?_
  unfold stepL
  rw [pay16_form]
  exact congrArg _ (Finset.sum_congr rfl fun k _ => pay15_form v3 m x b r k)

theorem pay18_form' : (addf (mulf a (broadcastTo S1024x128 m broadcasts_S1024x1_S1024x128))
      (matmul dot_S1024x256_S256x128_S1024x128_1_0_0_1_n_n none (truncf .bf16 (mulf p (broadcast S1024x256 (v5 : Ideal .f32))) bitsLt_bf16_f32) vb (constant S1024x128 .f32 0x00000000#32)) : FVec Ideal S1024x128 .f32) (ix2 r d)
    = a (ix2 r d) * m (ix2 r 0) + ∑ k, p (ix2 r k) * v5 * vb (ix2 k d) := by
  generalize hE : a (ix2 r d) * m (ix2 r 0) + _ = E
  pointwise
  exact hE

theorem pay18_form : k0_pay18 (F := Ideal) v3 v5 m a vb x b (ix2 r d)
    = stepA (m (ix2 r 0)) (a (ix2 r d)) (fun k => score (b (ix2 r k)) (x (ix2 r k)) v3) v5 (fun k => vb (ix2 k d)) := by
  delta k0_pay18
  refine (pay18_form' v5 _ _ _ _ r d).trans ?_
  unfold stepA
  rw [pay16_form]
  exact congrArg _ (Finset.sum_congr rfl fun k _ => by rw [pay15_form])

theorem pay11_form (q : FVec Ideal S1024x128 .bf16) (kb : FVec Ideal S256x128 .fp8e4m3) : k0_pay11 (F := Ideal) q kb (ix2 r k) = ∑ t, q (ix2 r t) * kb (ix2 k t) := by
  generalize hE : (∑ t, (q (ix2 r t) : EReal) * kb (ix2 k t)) = E
  pointwise [k0_pay11]
  exact hE

theorem pay10_form (vb : FVec Ideal S256x128 .fp8e4m3) : k0_pay10 (F := Ideal) vb (ix2 k d) = vb (ix2 k d) := by
  generalize hE : vb _ = E
  pointwise [k0_pay10]
  exact hE

theorem pay7_form : k0_pay7 (F := Ideal) (ix2 r 0) = (⊥ : EReal) := by
  rw [← mask_value]
  generalize hE : (Named.named (F := Ideal) κ "mask" 0xF149F2CA#32 : Ideal .f32) = E
  pointwise [k0_pay7]
  exact hE

theorem pay8_form : k0_pay8 (F := Ideal) (ix2 r 0) = (0 : EReal) := by
  pointwise [k0_pay8]

theorem pay9_form : k0_pay9 (F := Ideal) (ix2 r d) = (0 : EReal) := by
  pointwise [k0_pay9]

theorem pay31_form : k0_pay31 (F := Ideal) l a (ix2 r d) = Ideal.div (a (ix2 r d)) (l (ix2 r 0)) := by
  generalize hE : Ideal.div _ _ = E
  pointwise [k0_pay31]
  exact hE

end

end Cert.AttnIdeal.Value
-- ==== Proof.AttnRun.Masks.lean ====
/- Which keys a row sees: the attention call's test against the sequence's first key and the reference's comparison of sequence
   numbers agree, and no key outside the visited blocks passes. -/
module

public import proofs.«01_k».proof.Proof.AttnRun.Words
public import Idealize.ShloMosaic.Lib.Pipeline.ValueKit

@[expose] public section

namespace Cert.AttnWords

open Idealize.ShloMosaic

/-- The call's test of key `k` against row `r`. -/
def kerMask (a b c : BitVec 32) (k r : Nat) : BitVec 1 :=
  IntOp.andi (IntOp.cmpi .sle (BitVec.ofNat 32 k) (BitVec.ofNat 32 r)) (IntOp.cmpi .sge (BitVec.ofNat 32 k) (startAt (BitVec.ofNat 32 r) a b c))

/-- The number of bounds not past token `t`, as a word. -/
def segOf (cu : Fin 3 → BitVec 32) (t : Nat) : BitVec 32 :=
  Finset.fold IntOp.addi 0#32 (fun x => BitVec.setWidth 32 (IntOp.cmpi .sge (BitVec.ofNat 32 t) (cu x))) Finset.univ

/-- The reference's test: the same sequence, and the key not past the row. -/
def refMask (cu : Fin 3 → BitVec 32) (k r : Nat) : BitVec 1 :=
  IntOp.andi (IntOp.cmpi .eq (segOf cu k) (segOf cu r)) (IntOp.cmpi .sle (BitVec.ofNat 32 k) (BitVec.ofNat 32 r))

theorem small_toInt {k : Nat} (hk : k < 1536) : (BitVec.ofNat 32 k).toInt = k := by
  rw [BitVec.toInt_eq_toNat_of_lt] <;> rw [BitVec.toNat_ofNat, Nat.mod_eq_of_lt (by omega)]
  omega

theorem sle_bit (x y : BitVec 32) : IntOp.cmpi .sle x y = BitVec.ofBool (decide (x.toInt ≤ y.toInt)) := rfl

theorem sge_bit (x y : BitVec 32) : IntOp.cmpi .sge x y = BitVec.ofBool (decide (y.toInt ≤ x.toInt)) := rfl

theorem segOf_eq (cu : Fin 3 → BitVec 32) (t : Nat) : segOf cu t
    = BitVec.setWidth 32 (IntOp.cmpi .sge (BitVec.ofNat 32 t) (cu 0)) + (BitVec.setWidth 32 (IntOp.cmpi .sge (BitVec.ofNat 32 t) (cu 1))
      + (BitVec.setWidth 32 (IntOp.cmpi .sge (BitVec.ofNat 32 t) (cu 2)) + 0#32)) := rfl

theorem bits_eq : ∀ a a' b b' c c' : Bool, (a → a') → (b → b') → (c → c') →
    BitVec.ofBool (((a' → a) ∧ (b' → b) ∧ (c' → c) : Prop))
      = IntOp.cmpi .eq (BitVec.setWidth 32 (BitVec.ofBool a) + (BitVec.setWidth 32 (BitVec.ofBool b) + (BitVec.setWidth 32 (BitVec.ofBool c) + 0#32)))
        (BitVec.setWidth 32 (BitVec.ofBool a') + (BitVec.setWidth 32 (BitVec.ofBool b') + (BitVec.setWidth 32 (BitVec.ofBool c') + 0#32))) := by
  decide

theorem masks_eq (cu : Fin 3 → BitVec 32) {k r : Nat} (hk : k < 1536) (hr : r < 1536) :
    kerMask (cu 0) (cu 1) (cu 2) k r = refMask cu k r := by
  unfold kerMask refMask
  have hk' := small_toInt hk
  have hr' := small_toInt hr
  by_cases h : k ≤ r
  · have hle := le_startAt (BitVec.ofNat 32 r) (BitVec.ofNat 32 k) (cu 0) (cu 1) (cu 2) (by omega) (by omega)
    rw [sge_bit, segOf_eq, segOf_eq, sge_bit, sge_bit, sge_bit, sge_bit, sge_bit, sge_bit]
    have hb := bits_eq (decide ((cu 0).toInt ≤ (BitVec.ofNat 32 k).toInt)) (decide ((cu 0).toInt ≤ (BitVec.ofNat 32 r).toInt))
      (decide ((cu 1).toInt ≤ (BitVec.ofNat 32 k).toInt)) (decide ((cu 1).toInt ≤ (BitVec.ofNat 32 r).toInt))
      (decide ((cu 2).toInt ≤ (BitVec.ofNat 32 k).toInt)) (decide ((cu 2).toInt ≤ (BitVec.ofNat 32 r).toInt))
      (fun h => decide_eq_true (by have := of_decide_eq_true h; omega)) (fun h => decide_eq_true (by have := of_decide_eq_true h; omega))
      (fun h => decide_eq_true (by have := of_decide_eq_true h; omega))
    rw [← hb]
    have hd : decide ((startAt (BitVec.ofNat 32 r) (cu 0) (cu 1) (cu 2)).toInt ≤ (BitVec.ofNat 32 k).toInt)
        = decide ((decide ((cu 0).toInt ≤ (BitVec.ofNat 32 r).toInt) = true → decide ((cu 0).toInt ≤ (BitVec.ofNat 32 k).toInt) = true)
          ∧ (decide ((cu 1).toInt ≤ (BitVec.ofNat 32 r).toInt) = true → decide ((cu 1).toInt ≤ (BitVec.ofNat 32 k).toInt) = true)
          ∧ (decide ((cu 2).toInt ≤ (BitVec.ofNat 32 r).toInt) = true → decide ((cu 2).toInt ≤ (BitVec.ofNat 32 k).toInt) = true)) := by
      refine decide_eq_decide.2 (hle.trans ?_)
      simp only [decide_eq_true_eq]
    rw [hd]
    exact BitVec.and_comm _ _
  · have h0 : IntOp.cmpi .sle (BitVec.ofNat 32 k) (BitVec.ofNat 32 r) = 0#1 := by
      rw [sle_bit, decide_eq_false (by omega)]; rfl
    rw [h0]
    show 0#1 &&& _ = _ &&& 0#1
    simp

theorem kerMask_out (a b c : BitVec 32) {n j : Nat} (hn : n < 6) (hj : j < 6) (h : j < firstNat n a b c ∨ n < j) {k y : Nat} (hk : k < 256) (hy : y < 256) :
    kerMask a b c (256 * j + k) (256 * n + y) = 0#1 := by
  unfold kerMask
  have hk' := small_toInt (k := 256 * j + k) (by omega)
  have hr' := small_toInt (k := 256 * n + y) (by omega)
  rcases h with h | h
  · have h1 := firstNat_le hn a b c
    have h2 := startAt_mono (Scalar.muli (BitVec.ofNat 32 n) 256#32) (BitVec.ofNat 32 (256 * n + y)) a b c (by rw [base_toInt hn, hr']; omega)
    have h0 : IntOp.cmpi .sge (BitVec.ofNat 32 (256 * j + k)) (startAt (BitVec.ofNat 32 (256 * n + y)) a b c) = 0#1 := by
      rw [sge_bit, decide_eq_false (by omega)]; rfl
    rw [h0]
    show _ &&& 0#1 = _
    simp
  · have h0 : IntOp.cmpi .sle (BitVec.ofNat 32 (256 * j + k)) (BitVec.ofNat 32 (256 * n + y)) = 0#1 := by
      rw [sle_bit, decide_eq_false (by omega)]; rfl
    rw [h0]
    show 0#1 &&& _ = _
    simp

end Cert.AttnWords
-- ==== Proof.AttnRun.Carried.lean ====
/- The attention call's carried values at the end, as sums over all the keys, and the block of results a point leaves. -/
module

public import proofs.«01_k».proof.Proof.AttnRun.Out
public import proofs.«01_k».proof.Proof.AttnRun.StepForms
public import proofs.«01_k».proof.Proof.AttnRun.Masks

@[expose] public section

set_option maxRecDepth 16384

noncomputable section

namespace Cert.AttnIdeal.Value

open Idealize.ShloMosaic Idealize.ShloMosaic.TcCoe Idealize.SL.Sem
open Cert.AttnIdeal Cert.AttnIdeal.Gen Cert.AttnOnline Cert.AttnWords

theorem rem256 : ∀ r : Fin 1024, IntOp.remsi .vector (BitVec.ofNat 32 r.val) 256#32 = BitVec.ofNat 32 (r.val % 256) := by decide +kernel

/-- The token of row `r` of the four stacked heads. -/
theorem row_form (i : grid0.Coords) (r : Fin 1024) (k : Fin 256) : k0_pay3 i (ix2 r k) = BitVec.ofNat 32 (256 * (i 0).val + r.val % 256) := by
  have h0 : Scalar.muli (BitVec.ofNat 32 (i 0).val) 256#32 = BitVec.ofNat 32 (256 * (i 0).val) := by
    have h := trip_base (f := 0) (k := (i 0).val) (by have := lt6 i; omega)
    rw [trip_word, Nat.zero_add] at h
    exact h
  have h1 : IntOp.addi (BitVec.ofNat 32 (256 * (i 0).val)) (BitVec.ofNat 32 (r.val % 256)) = BitVec.ofNat 32 (256 * (i 0).val + r.val % 256) := by
    unfold IntOp.addi
    rw [← BitVec.ofNat_add]
  rw [← h1, ← h0, ← rem256 r]
  generalize hE : IntOp.addi _ _ = E
  pointwise [k0_pay3]
  exact hE

theorem start_form' (v16 v25 : IVec S1024x256 32) (v34 : IVec S1024x256 1) (b c : BitVec 32) (r : Fin 1024) (k : Fin 256) :
    k0_pay6 (F := Ideal) v16 v25 v34 b c c (ix2 r k)
      = later (v16 (ix2 r k)) c (Scalar.select (v34 (ix2 r k)) (IntOp.maxsi b (v25 (ix2 r k))) (v25 (ix2 r k))) := by
  unfold later Scalar.cmpi Scalar.maxsi
  generalize hE : Scalar.select (α := BitVec 32) (IntOp.cmpi .sle c _) _ _ = E
  pointwise [k0_pay6]
  exact hE

theorem pay4_form (i : grid0.Coords) (a : BitVec 32) (r : Fin 1024) (k : Fin 256) :
    k0_pay4 (F := Ideal) i a a (ix2 r k) = later (k0_pay3 i (ix2 r k)) a 0#32 := by
  delta k0_pay4
  generalize k0_pay3 i = w
  rfl

theorem pay5_form (i : grid0.Coords) (b : BitVec 32) (r : Fin 1024) (k : Fin 256) :
    k0_pay5 (F := Ideal) i b (ix2 r k) = IntOp.cmpi .sle b (k0_pay3 i (ix2 r k)) := by
  delta k0_pay5
  generalize k0_pay3 i = w
  rfl

/-- The first key row `r` sees. -/
theorem start_form (i : grid0.Coords) (a b c : BitVec 32) (r : Fin 1024) (k : Fin 256) :
    k0_pay6 (F := Ideal) (k0_pay3 i) (k0_pay4 (F := Ideal) i a a) (k0_pay5 (F := Ideal) i b) b c c (ix2 r k)
      = startAt (BitVec.ofNat 32 (256 * (i 0).val + r.val % 256)) a b c := by
  rw [start_form', pay4_form, pay5_form, row_form]
  rfl

theorem maskAt_form (v16 v51 : IVec S1024x256 32) (w : BitVec 32) (r : Fin 1024) (k : Fin 256) :
    maskAt v16 (iota .tc S1024x256 32 [1] iota_S1024x256_d1_w32) v51 w (ix2 r k)
      = IntOp.andi (IntOp.cmpi .sle (IntOp.addi (BitVec.ofNat 32 k.val) w) (v16 (ix2 r k))) (IntOp.cmpi .sge (IntOp.addi (BitVec.ofNat 32 k.val) w) (v51 (ix2 r k))) := by
  generalize hE : IntOp.andi _ _ = E
  pointwise [maskAt]
  exact hE

/-- The mask of the block `j` of keys. -/
abbrev blockMask (i : grid0.Coords) (a b c : BitVec 32) (j : ℕ) : IVec S1024x256 1 :=
  maskAt (k0_pay3 i) (iota .tc S1024x256 32 [1] iota_S1024x256_d1_w32) (k0_pay6 (F := Ideal) (k0_pay3 i) (k0_pay4 (F := Ideal) i a a) (k0_pay5 (F := Ideal) i b) b c c) (BitVec.ofNat 32 (256 * j))

theorem blockMask_form (i : grid0.Coords) (a b c : BitVec 32) (j : ℕ) (r : Fin 1024) (k : Fin 256) :
    blockMask i a b c j (ix2 r k) = kerMask a b c (256 * j + k.val) (256 * (i 0).val + r.val % 256) := by
  refine (maskAt_form _ _ _ r k).trans ?_
  rw [start_form, row_form]
  have h : IntOp.addi (BitVec.ofNat 32 k.val) (BitVec.ofNat 32 (256 * j)) = BitVec.ofNat 32 (256 * j + k.val) := by
    unfold IntOp.addi
    rw [← BitVec.ofNat_add, Nat.add_comm]
  rw [h]
  rfl

theorem score_hidden (x y : EReal) : score 0#1 x y = ⊥ := rfl

section
variable (v3 v5 : EReal) (q : FVec Ideal S1024x128 .bf16) (mask : ℕ → IVec S1024x256 1) (xk xv : Vec Ideal S1536x128 .fp8e4m3) (r : Fin 1024) (d : Fin 128)

/-- Row `r`'s scores of the keys of block `j`. -/
def scores (j : ℕ) (k : Fin 256) : EReal := score (mask j (ix2 r k)) (∑ t, q (ix2 r t) * rowsOf xk j (ix2 k t)) v3

/-- Column `d` of the values of block `j`. -/
def values (j : ℕ) (k : Fin 256) : EReal := rowsOf xv j (ix2 k d)

theorem step_inv (B : Finset ℕ) (j : ℕ) (hj : j ∉ B) (x : Carry)
    (h : Inv (scores v3 q mask xk r) (values xv d) v5 B (x.1 (ix2 r 0)) (x.2.1 (ix2 r 0)) (x.2.2 (ix2 r d))) :
    Inv (scores v3 q mask xk r) (values xv d) v5 (insert j B) ((blockStep v3 v5 q (mask j) (rowsOf xk j) (rowsOf xv j) x).1 (ix2 r 0))
      ((blockStep v3 v5 q (mask j) (rowsOf xk j) (rowsOf xv j) x).2.1 (ix2 r 0)) ((blockStep v3 v5 q (mask j) (rowsOf xk j) (rowsOf xv j) x).2.2 (ix2 r d)) := by
  have hs : (fun k => score (mask j (ix2 r k)) (k0_pay11 (F := Ideal) q (rowsOf xk j) (ix2 r k)) v3) = scores v3 q mask xk r j :=
    funext fun k => by rw [pay11_form]; rfl
  have hu : (fun k => k0_pay10 (F := Ideal) (rowsOf xv j) (ix2 k d)) = values xv d j := funext fun k => pay10_form k d _
  have := h.step j hj
  unfold blockStep
  dsimp only
  rw [pay14_form, pay17_form, pay18_form, hs, hu]
  exact this

theorem trips_inv (f : ℕ) (B : Finset ℕ) (x : Carry)
    (h : Inv (scores v3 q mask xk r) (values xv d) v5 B (x.1 (ix2 r 0)) (x.2.1 (ix2 r 0)) (x.2.2 (ix2 r d))) :
    ∀ k, (∀ j, f ≤ j → j < f + k → j ∉ B) →
      Inv (scores v3 q mask xk r) (values xv d) v5 (Finset.Ico f (f + k) ∪ B) ((trips v3 v5 q mask xk xv f x k).1 (ix2 r 0))
        ((trips v3 v5 q mask xk xv f x k).2.1 (ix2 r 0)) ((trips v3 v5 q mask xk xv f x k).2.2 (ix2 r d)) := by
  intro k
  induction k with
  | zero => intro _; simpa [trips] using h
  | succ k ih =>
    intro hB
    have h1 := ih fun j h1 h2 => hB j h1 (by omega)
    have h2 := step_inv v3 v5 q mask xk xv r d _ (f + k) (by
      simp only [Finset.mem_union, Finset.mem_Ico, not_or]
      exact ⟨by omega, hB _ (by omega) (by omega)⟩) _ h1
    have hset : Finset.Ico f (f + (k + 1)) ∪ B = insert (f + k) (Finset.Ico f (f + k) ∪ B) := by
      ext j
      simp only [Finset.mem_union, Finset.mem_Ico, Finset.mem_insert]
      constructor
      · rintro (h | h)
        · by_cases hj : j = f + k
          · exact .inl hj
          · exact .inr (.inl (by omega))
        · exact .inr (.inr h)
      · rintro (h | h | h)
        · exact .inl (by omega)
        · exact .inl (by omega)
        · exact .inr h
    rw [hset]
    exact h2

end

/-- Row `r`'s score of a key. -/
def keyScore (i : grid0.Coords) (v3 : EReal) (q : FVec Ideal S1024x128 .bf16) (a b c : BitVec 32) (xk : Vec Ideal S1536x128 .fp8e4m3) (r : Fin 1024) (key : Fin 1536) : EReal :=
  score (kerMask a b c key.val (256 * (i 0).val + r.val % 256)) (∑ t, q (ix2 r t) * xk (ix2 key t)) v3

theorem rowsOf_flat (x : Vec Ideal S1536x128 .fp8e4m3) (key : Fin 1536) (t : Fin 128) :
    rowsOf x (key.val / 256) (ix2 ⟨key.val % 256, Nat.mod_lt _ (by decide)⟩ t) = x (ix2 key t) := by
  have h : (256 * (key.val / 256) + key.val % 256) % 1536 = key.val := by have := key.isLt; omega
  show x (ix2 ⟨(256 * (key.val / 256) + key.val % 256) % 1536, _⟩ t) = _
  exact congrArg (fun z => x (ix2 z t)) (Fin.ext h)

theorem carried_form (i : grid0.Coords) (v3 v5 : EReal) (q : FVec Ideal S1024x128 .bf16) (a b c : BitVec 32) (xk xv : Vec Ideal S1536x128 .fp8e4m3) (r : Fin 1024) (d : Fin 128) :
    (carried i v3 v5 q a b c xk xv).2.1 (ix2 r 0) = (∑ key, ex (keyScore i v3 q a b c xk r key - top (keyScore i v3 q a b c xk r)) : EReal)
      ∧ (carried i v3 v5 q a b c xk xv).2.2 (ix2 r d)
        = (∑ key, ex (keyScore i v3 q a b c xk r key - top (keyScore i v3 q a b c xk r)) * v5 * xv (ix2 key d) : EReal) := by
  have h6 := lt6 i
  have hf := (firstBlock_eq h6 a b c).2
  have h0 : Inv (scores v3 q (blockMask i a b c) xk r) (values xv d) v5 ∅ (k0_pay7 (F := Ideal) (ix2 r 0)) (k0_pay8 (F := Ideal) (ix2 r 0)) (k0_pay9 (F := Ideal) (ix2 r d)) := by
    rw [pay7_form, pay8_form, pay9_form]
    exact Inv.empty _ _ _
  have h1 := step_inv v3 v5 q (blockMask i a b c) xk xv r d ∅ (i 0).val (by simp) (k0_pay7 (F := Ideal), k0_pay8 (F := Ideal), k0_pay9 (F := Ideal)) h0
  have h2 := trips_inv v3 v5 q (blockMask i a b c) xk xv r d (firstNat (i 0).val a b c) _ _ h1 ((i 0).val - firstNat (i 0).val a b c) (by
    intro j hj1 hj2
    simp only [Finset.mem_insert, Finset.notMem_empty, or_false]
    omega)
  have hS : flat (scores v3 q (blockMask i a b c) xk r) = keyScore i v3 q a b c xk r := by
    funext key
    unfold flat scores keyScore
    rw [blockMask_form]
    have h : 256 * (key.val / 256) + key.val % 256 = key.val := by omega
    rw [h]
    exact congrArg (fun z => score _ z v3) (Finset.sum_congr rfl fun t _ => congrArg _ (rowsOf_flat xk key t))
  have hU : flat (values xv d) = fun key => (xv (ix2 key d) : EReal) := funext fun key => rowsOf_flat xv key d
  have h3 := h2.all (by
      intro j hj
      simp only [Finset.mem_union, Finset.mem_Ico, Finset.mem_insert, Finset.notMem_empty, or_false] at hj
      exact Finset.mem_range.2 (by omega))
    (by
      intro j hj hB k
      simp only [Finset.mem_union, Finset.mem_Ico, Finset.mem_insert, Finset.notMem_empty, or_false] at hB
      unfold scores
      rw [blockMask_form, kerMask_out a b c h6 hj (by omega) k.isLt (Nat.mod_lt _ (by decide))]
      rfl)
  rw [hS, hU] at h3
  exact h3

end Cert.AttnIdeal.Value
-- ==== Proof.AttnRun.Entry.lean ====
/- One entry of the attention's result, from its row of scores. -/
module

public import proofs.«01_k».proof.Proof.AttnRun.StepForms

@[expose] public section

noncomputable section

namespace Cert.AttnOnline

open Idealize.ShloMosaic Idealize.ShloMosaic.TcCoe Idealize.SL.Sem
open Cert.AttnIdeal.Value

/-- A row's scores of all the keys, those its mask hides at `⊥`. -/
def scoreRow (mask : Fin 1536 → BitVec 1) (q : Fin 128 → EReal) (k : Fin 1536 → Fin 128 → EReal) (y : EReal) : Fin 1536 → EReal :=
  fun key => score (mask key) (∑ t, q t * k key t) y

/-- The values weighed by base-two exponentials of the scores, over the sum of the exponentials. -/
def entry (S : Fin 1536 → EReal) (vs : EReal) (v : Fin 1536 → EReal) : EReal :=
  Ideal.div (∑ key, ex (S key - top S) * vs * v key) (∑ key, ex (S key - top S))

end Cert.AttnOnline
-- ==== Proof.AttnRun.Tile.lean ====
/- The block of results a point of the attention's grid leaves, read at an index. -/
module

public import proofs.«01_k».proof.Proof.AttnRun.Carried
public import proofs.«01_k».proof.Proof.AttnRun.Entry

@[expose] public section

set_option maxRecDepth 16384

noncomputable section

namespace Cert.AttnIdeal.Value

open Idealize.ShloMosaic Idealize.ShloMosaic.TcCoe Idealize.SL.Sem
open Cert.AttnIdeal Cert.AttnIdeal.Gen Cert.AttnOnline Cert.AttnWords

theorem lt8 (i : grid0.Coords) : (i 1).val < 8 := (i 1).isLt

theorem off1_eq : ∀ i : grid0.Coords, k0_off1 i = ![(i 1).val] := by decide +kernel

theorem read_word {τ : EltTy} {n : ℕ} (m : Memref sig .tc .smem ⟨1, ![n]⟩ τ) (hm : m.IsWhole) (x : Vec Ideal ⟨1, ![n]⟩ τ) (j : ℕ) (hj : j < n)
    (off : Fin 1 → ℕ) (inb : ∀ a, off a + S1.size a ≤ (⟨1, ![n]⟩ : Shape).size a) (hoff : off = ![j]) :
    m.view.readAt (Elt Ideal) (Rect.unit (s := ⟨1, ![n]⟩) off S1.size inb).toLoadRect (hm.unread x) (Shape.Idx.first (numel1_S1.symm ▸ Nat.one_pos)) = x (ix1 ⟨j, hj⟩) := by
  subst hoff
  refine (Memref.IsWhole.readAt_unread hm x _ _).trans (congrArg x ?_)
  funext a
  match a with
  | ⟨0, _⟩ => exact Fin.ext (show j + 1 * 0 = j by omega)

theorem read_head (m : Memref sig .tc .vmem S256x512 .bf16) (hm : m.IsWhole) (x : Vec Ideal S256x512 .bf16) (j : ℕ) (hj : j < 4)
    (off : Fin 2 → ℕ) (inb : ∀ a, off a + S256x128.size a ≤ S256x512.size a) (hoff : off = ![0, 128 * j]) (y : Fin 256) (t : Fin 128) :
    m.view.readAt (Elt Ideal) (Rect.unit (s := S256x512) off S256x128.size inb).toLoadRect (hm.unread x) (ix2 y t) = x (ix2 y ⟨128 * j + t.val, by omega⟩) := by
  subst hoff
  refine (Memref.IsWhole.readAt_unread hm x _ _).trans (congrArg x ?_)
  funext a
  match a with
  | ⟨0, _⟩ => exact Fin.ext (show 0 + 1 * y.val = y.val by omega)
  | ⟨1, _⟩ => exact Fin.ext (show 128 * j + 1 * t.val = 128 * j + t.val by omega)

section
variable (q0 q1 q2 q3 : FVec Ideal S256x128 .bf16) (l : FVec Ideal S1024x1 .f32) (o : FVec Ideal S1024x128 .f32) (y : Fin 256) (t : Fin 128)

theorem pay2_at0 : k0_pay2 (F := Ideal) q0 q1 q2 q3 (ix2 ⟨y.val, by omega⟩ t) = q0 (ix2 y t) := by
  generalize hE : q0 (ix2 y t) = E
  pointwise [k0_pay2]
  exact hE

theorem pay2_at1 : k0_pay2 (F := Ideal) q0 q1 q2 q3 (ix2 ⟨256 + y.val, by omega⟩ t) = q1 (ix2 y t) := by
  generalize hE : q1 (ix2 y t) = E
  pointwise [k0_pay2]
  exact hE

theorem pay2_at2 : k0_pay2 (F := Ideal) q0 q1 q2 q3 (ix2 ⟨512 + y.val, by omega⟩ t) = q2 (ix2 y t) := by
  generalize hE : q2 (ix2 y t) = E
  pointwise [k0_pay2]
  rw [dif_neg (by omega), dif_neg (by omega), dif_pos (by omega), ← hE]
  exact congrArg (fun z => q2 (ix2 z t)) (Fin.ext (by simp; omega))

theorem pay2_at3 : k0_pay2 (F := Ideal) q0 q1 q2 q3 (ix2 ⟨768 + y.val, by omega⟩ t) = q3 (ix2 y t) := by
  generalize hE : q3 (ix2 y t) = E
  pointwise [k0_pay2]
  rw [dif_neg (by omega), dif_neg (by omega), dif_neg (by omega), ← hE]
  exact congrArg (fun z => q3 (ix2 z t)) (Fin.ext (by simp; omega))

theorem pay32_form : k0_pay32 (F := Ideal) l o (ix2 y t) = Ideal.div (o (ix2 ⟨y.val, by omega⟩ t)) (l (ix2 ⟨y.val, by omega⟩ 0)) := by
  rw [← pay31_form]
  delta k0_pay32
  generalize k0_pay31 (F := Ideal) l o = w
  generalize hE : w (ix2 ⟨y.val, by omega⟩ t) = E
  pointwise
  exact hE

theorem pay33_form : k0_pay33 (F := Ideal) l o (ix2 y t) = Ideal.div (o (ix2 ⟨256 + y.val, by omega⟩ t)) (l (ix2 ⟨256 + y.val, by omega⟩ 0)) := by
  rw [← pay31_form]
  delta k0_pay33
  generalize k0_pay31 (F := Ideal) l o = w
  generalize hE : w (ix2 ⟨256 + y.val, by omega⟩ t) = E
  pointwise
  exact hE

theorem pay34_form : k0_pay34 (F := Ideal) l o (ix2 y t) = Ideal.div (o (ix2 ⟨512 + y.val, by omega⟩ t)) (l (ix2 ⟨512 + y.val, by omega⟩ 0)) := by
  rw [← pay31_form]
  delta k0_pay34
  generalize k0_pay31 (F := Ideal) l o = w
  generalize hE : w (ix2 ⟨512 + y.val, by omega⟩ t) = E
  pointwise
  exact hE

theorem pay35_form : k0_pay35 (F := Ideal) l o (ix2 y t) = Ideal.div (o (ix2 ⟨768 + y.val, by omega⟩ t)) (l (ix2 ⟨768 + y.val, by omega⟩ 0)) := by
  rw [← pay31_form]
  delta k0_pay35
  generalize k0_pay31 (F := Ideal) l o = w
  generalize hE : w (ix2 ⟨768 + y.val, by omega⟩ t) = E
  pointwise
  exact hE

theorem pay1_form (v : EReal) : k0_pay1 (F := Ideal) v = (v * Ideal.ofBits .f32 0x3DB504F3#32 * Ideal.ofBits .f32 0x3FB8AA3B#32 : EReal) := rfl

end

/-- An entry of a point's block: row `y0`, column `y1`. -/
def tile (i : grid0.Coords) (x0 : Vec Ideal S4 .i32) (x1 x2 : Vec Ideal S8 .f32) (x3 : Vec Ideal S256x512 .bf16) (x4 x5 : Vec Ideal S1536x128 .fp8e4m3)
    (y0 : Fin 256) (y1 : Fin 512) : EReal :=
  entry (scoreRow (fun key => kerMask (x0 (ix1 1)) (x0 (ix1 2)) (x0 (ix1 3)) key.val (256 * (i 0).val + y0.val)) (fun t => x3 (ix2 y0 ⟨128 * (y1.val / 128) + t.val, by omega⟩))
    (fun key t => x4 (ix2 key t)) (x1 (ix1 ⟨(i 1).val, lt8 i⟩) * Ideal.ofBits .f32 0x3DB504F3#32 * Ideal.ofBits .f32 0x3FB8AA3B#32))
    (x2 (ix1 ⟨(i 1).val, lt8 i⟩)) (fun key => x5 (ix2 key ⟨y1.val % 128, Nat.mod_lt _ (by decide)⟩))

/-- The quotient of the carried sums is the entry. -/
theorem carried_entry (i : grid0.Coords) (v3 v5 : EReal) (q : FVec Ideal S1024x128 .bf16) (a b c : BitVec 32) (xk xv : Vec Ideal S1536x128 .fp8e4m3)
    (n : ℕ) (hn : n < 4) (y : Fin 256) (d : Fin 128) (r : Fin 1024) (hr : r.val = 256 * n + y.val) (qr : Fin 128 → EReal) (hq : ∀ t, q (ix2 r t) = qr t) :
    Ideal.div ((carried i v3 v5 q a b c xk xv).2.2 (ix2 r d)) ((carried i v3 v5 q a b c xk xv).2.1 (ix2 r 0))
      = entry (scoreRow (fun key => kerMask a b c key.val (256 * (i 0).val + y.val)) qr (fun key t => xk (ix2 key t)) v3) v5 (fun key => xv (ix2 key d)) := by
  have hS : keyScore i v3 q a b c xk r = scoreRow (fun key => kerMask a b c key.val (256 * (i 0).val + y.val)) qr (fun key t => xk (ix2 key t)) v3 := by
    funext key
    unfold keyScore scoreRow
    have h : r.val % 256 = y.val := by omega
    simp only [h, hq]
  rw [(carried_form i v3 v5 q a b c xk xv r d).1, (carried_form i v3 v5 q a b c xk xv r d).2, hS]
  rfl

theorem col_lt (n : ℕ) (hn : n < 4) (d : Fin 128) : 128 * n + d.val < 512 := by omega

theorem tile_at (i : grid0.Coords) (x0 : Vec Ideal S4 .i32) (x1 x2 : Vec Ideal S8 .f32) (x3 : Vec Ideal S256x512 .bf16) (x4 x5 : Vec Ideal S1536x128 .fp8e4m3)
    (y0 : Fin 256) (n : ℕ) (hn : n < 4) (d : Fin 128) (E : EReal) (hE : tile i x0 x1 x2 x3 x4 x5 y0 ⟨128 * n + d.val, by omega⟩ = E) :
    entry (scoreRow (fun key => kerMask (x0 (ix1 ⟨1, by decide⟩)) (x0 (ix1 ⟨2, by decide⟩)) (x0 (ix1 ⟨3, by decide⟩)) key.val (256 * (i 0).val + y0.val))
      (fun t => x3 (ix2 y0 ⟨128 * n + t.val, by omega⟩)) (fun key t => x4 (ix2 key t)) (k0_pay1 (F := Ideal) (x1 (ix1 ⟨(i 1).val, lt8 i⟩))))
      (x2 (ix1 ⟨(i 1).val, lt8 i⟩)) (fun key => x5 (ix2 key d)) = E := by
  rw [← hE]
  unfold tile
  have h1 : (128 * n + d.val) / 128 = n := by omega
  have h2 : (128 * n + d.val) % 128 = d.val := by omega
  simp only [h1, h2]
  rfl

/-- The block of results a point leaves, read at an index. -/
theorem stored_tile (c : Dev nD) (i : grid0.Coords) (arg2 : Memref sig .tc .smem S4 .i32) (harg2 : arg2.IsWhole) (arg3 : Memref sig .tc .smem S8 .f32) (harg3 : arg3.IsWhole) (arg4 : Memref sig .tc .smem S8 .f32) (harg4 : arg4.IsWhole) (arg5 : Memref sig .tc .vmem S256x512 .bf16) (harg5 : arg5.IsWhole) (arg6 : Memref sig .tc .vmem S1536x128 .fp8e4m3) (harg6 : arg6.IsWhole) (arg7 : Memref sig .tc .vmem S1536x128 .fp8e4m3) (harg7 : arg7.IsWhole) (arg8 : Memref sig .tc .vmem S256x512 .f32) (harg8 : arg8.IsWhole)
    (x0 : Vec Ideal S4 .i32) (x1 : Vec Ideal S8 .f32) (x2 : Vec Ideal S8 .f32) (x3 : Vec Ideal S256x512 .bf16) (x4 : Vec Ideal S1536x128 .fp8e4m3) (x5 : Vec Ideal S1536x128 .fp8e4m3)
    (hw : k0_chk1 i (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![1] S1.size inb_S4_S1_1).toLoadRect (harg2.unread x0) (Shape.Idx.first (numel1_S1.symm ▸ Nat.one_pos))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![2] S1.size inb_S4_S1_2).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))) (arg2.view.readAt (Elt Ideal) (Rect.unit (s := S4) ![3] S1.size inb_S4_S1_3).toLoadRect (harg2.unread x0) (Shape.Idx.first (numel1_S1.symm ▸ Nat.one_pos))))
    (y0 : Fin 256) (y1 : Fin 512) :
    out0_A_6 (F := Ideal) c i arg2 harg2 arg3 harg3 arg4 harg4 arg5 harg5 arg6 harg6 arg7 harg7 arg8 harg8 x0 x1 x2 x3 x4 x5 hw (ix2 y0 y1) = tile i x0 x1 x2 x3 x4 x5 y0 y1 := by
  refine congrFun (out_eq c i arg2 harg2 arg3 harg3 arg4 harg4 arg5 harg5 arg6 harg6 arg7 harg7 arg8 harg8 x0 x1 x2 x3 x4 x5 hw (fun y => tile i x0 x1 x2 x3 x4 x5 ⟨(y 0).val, (y 0).isLt⟩ ⟨(y 1).val, (y 1).isLt⟩) fun K hK => funext fun y => ?_) (ix2 y0 y1)
  clear y0 y1
  idx_vars y
  have hc1 := read_word arg2 harg2 x0 1 (by decide) _ inb_S4_S1_1 rfl
  have hc2 := read_word arg2 harg2 x0 2 (by decide) _ inb_S4_S1_2 rfl
  have hc3 := read_word arg2 harg2 x0 3 (by decide) _ inb_S4_S1_3 rfl
  have hs := read_word arg3 harg3 x1 (i 1).val (lt8 i) _ (k0_off1_inb i) (off1_eq i)
  have hv := read_word arg4 harg4 x2 (i 1).val (lt8 i) _ (k0_off1_inb i) (off1_eq i)
  generalize hE : tile i x0 x1 x2 x3 x4 x5 _ _ = E
  frame_out
  canon_tiles z h
  all_goals idx_vars z
  · obtain rfl : y0 = z0 := Fin.ext (h0.trans (by simp))
    obtain rfl : y1 = ⟨128 * 3 + z1.val, col_lt 3 (by decide) z1⟩ := Fin.ext (h1.trans (by simp))
    refine (pay35_form _ _ y0 z1).trans ?_
    rw [hK]
    refine (carried_entry i _ _ _ _ _ _ _ _ 3 (by decide) y0 z1 _ (by simp) (fun t => x3 (ix2 y0 ⟨128 * 3 + t.val, by omega⟩)) fun t => ?_).trans ?_
    · exact (pay2_at3 _ _ _ _ y0 t).trans (read_head arg5 harg5 x3 3 (by decide) _ _ rfl y0 t)
    · rw [hc1, hc2, hc3, hs, hv]
      exact tile_at i x0 x1 x2 x3 x4 x5 y0 3 (by decide) z1 E hE
  · obtain rfl : y0 = z0 := Fin.ext (h0.trans (by simp))
    obtain rfl : y1 = ⟨128 * 2 + z1.val, col_lt 2 (by decide) z1⟩ := Fin.ext (h1.trans (by simp))
    refine (pay34_form _ _ y0 z1).trans ?_
    rw [hK]
    refine (carried_entry i _ _ _ _ _ _ _ _ 2 (by decide) y0 z1 _ (by simp) (fun t => x3 (ix2 y0 ⟨128 * 2 + t.val, by omega⟩)) fun t => ?_).trans ?_
    · exact (pay2_at2 _ _ _ _ y0 t).trans (read_head arg5 harg5 x3 2 (by decide) _ _ rfl y0 t)
    · rw [hc1, hc2, hc3, hs, hv]
      exact tile_at i x0 x1 x2 x3 x4 x5 y0 2 (by decide) z1 E hE
  · obtain rfl : y0 = z0 := Fin.ext (h0.trans (by simp))
    obtain rfl : y1 = ⟨128 * 1 + z1.val, col_lt 1 (by decide) z1⟩ := Fin.ext (h1.trans (by simp))
    refine (pay33_form _ _ y0 z1).trans ?_
    rw [hK]
    refine (carried_entry i _ _ _ _ _ _ _ _ 1 (by decide) y0 z1 _ (by simp) (fun t => x3 (ix2 y0 ⟨128 * 1 + t.val, by omega⟩)) fun t => ?_).trans ?_
    · exact (pay2_at1 _ _ _ _ y0 t).trans (read_head arg5 harg5 x3 1 (by decide) _ _ rfl y0 t)
    · rw [hc1, hc2, hc3, hs, hv]
      exact tile_at i x0 x1 x2 x3 x4 x5 y0 1 (by decide) z1 E hE
  · obtain rfl : y0 = z0 := Fin.ext (h0.trans (by simp))
    obtain rfl : y1 = ⟨128 * 0 + z1.val, col_lt 0 (by decide) z1⟩ := Fin.ext (h1.trans (by simp))
    refine (pay32_form _ _ y0 z1).trans ?_
    rw [hK]
    refine (carried_entry i _ _ _ _ _ _ _ _ 0 (by decide) y0 z1 _ (by simp) (fun t => x3 (ix2 y0 ⟨128 * 0 + t.val, by omega⟩)) fun t => ?_).trans ?_
    · exact (pay2_at0 _ _ _ _ y0 t).trans (read_head arg5 harg5 x3 0 (by decide) _ _ rfl y0 t)
    · rw [hc1, hc2, hc3, hs, hv]
      exact tile_at i x0 x1 x2 x3 x4 x5 y0 0 (by decide) z1 E hE

end Cert.AttnIdeal.Value
-- ==== Proof.AttnRun.Reference.lean ====
/- The attention's reference: its result array as a function of the arguments, and read at an index. -/
module

public import proofs.«01_k».proof.Proof.Gen.AttnReferenceIdeal.Frame
public import proofs.«01_k».proof.Proof.AttnRun.Entry
public import proofs.«01_k».proof.Proof.AttnRun.Masks
public import Idealize.ShloMosaic.Lib.Pipeline.ValueKit
public import Idealize.ShloMosaic.Lib.Pointwise
public import Idealize.ShloMosaic.Lib.Claim

@[expose] public section

set_option maxRecDepth 16384

noncomputable section

namespace Cert.AttnReferenceIdeal.Value

open Idealize.ShloMosaic Idealize.ShloMosaic.TcCoe Idealize.SL.Sem
open Cert.AttnReferenceIdeal Cert.AttnReferenceIdeal.Gen
open Cert.AttnOnline Cert.AttnWords Cert.AttnIdeal.Value

/-- The left half of the columns of the key and value codes. -/
def leftHalf (kv : Vec Ideal S1536x2048 .fp8e4m3) : Vec Ideal S1536x1024 .fp8e4m3 := fun y => kv (ix2 ⟨(y 0).val, (y 0).isLt⟩ ⟨(y 1).val, lt_trans (show (y 1).val < 1024 from (y 1).isLt) (by decide)⟩)

/-- The right half. -/
def rightHalf (kv : Vec Ideal S1536x2048 .fp8e4m3) : Vec Ideal S1536x1024 .fp8e4m3 := fun y => kv (ix2 ⟨(y 0).val, (y 0).isLt⟩ ⟨1024 + (y 1).val, Nat.add_lt_add_left (show (y 1).val < 1024 from (y 1).isLt) 1024⟩)

section Forms
variable (cu : Vec Ideal S4 .i32) (ks vs : Vec Ideal S8 .f32) (q : Vec Ideal S1536x4096 .bf16) (k v : Vec Ideal S1536x1024 .fp8e4m3)
  (g : Fin 8) (a : Fin 4) (r key : Fin 1536) (d : Fin 128)

theorem value_form : k0_pay2 (F := Ideal) v (ix3 r g d) = v (ix2 r ⟨g.val * 128 + d.val, by omega⟩) := by
  generalize hE : v (ix2 r ⟨g.val * 128 + d.val, by omega⟩) = E
  pointwise [k0_pay2]
  exact hE

/-- The row of scores of token `r` in head `a` of group `g`. -/
def refScores : Fin 1536 → EReal :=
  scoreRow (fun key => refMask (fun x => cu (ix1 ⟨1 + x.val, by omega⟩)) key.val r.val) (fun t => q (ix2 r ⟨g.val * 512 + a.val * 128 + t.val, by omega⟩))
    (fun key t => k (ix2 key ⟨g.val * 128 + t.val, by omega⟩)) (ks (ix1 g) * Ideal.ofBits .f32 0x3DB504F3#32 * Ideal.ofBits .f32 0x3FB8AA3B#32)

theorem score_form' : k0_pay3 (F := Ideal) ks k cu q (ix4 g a r key)
    = Scalar.select (refMask (fun x => cu (ix1 ⟨1 + x.val, by omega⟩)) key.val r.val)
      ((∑ t : Fin 128, (k (ix2 key ⟨g.val * 128 + t.val, by omega⟩) : EReal) * q (ix2 r ⟨g.val * 512 + a.val * 128 + t.val, by omega⟩))
        * (ks (ix1 g) * Ideal.ofBits .f32 0x3DB504F3#32) * Ideal.ofBits .f32 0x3FB8AA3B#32) (Ideal.ofBits .f32 0xFF800000#32) := by
  unfold refMask segOf
  generalize hE : Scalar.select (α := EReal) _ _ _ = E
  pointwise [k0_pay3]
  exact hE

theorem score_form : k0_pay3 (F := Ideal) ks k cu q (ix4 g a r key) = refScores cu ks q k g a r key := by
  rw [score_form', bits_bot]
  unfold refScores scoreRow score
  congr 1
  rw [mul_assoc, mul_assoc]
  congr 1
  exact Finset.sum_congr rfl fun t _ => mul_comm _ _

theorem max_form (w : FVec Ideal S8x4x1536x1536 .f32) :
    (multiReduction (F := Ideal) .maximumf [3] S8x4x1536 w 0xFF800000#32 reduces_S8x4x1536x1536_S8x4x1536 (.inl rfl) rfl : FVec Ideal S8x4x1536 .f32) (ix3 g a r)
      = Finset.univ.fold max (⊥ : EReal) (fun key : Fin 1536 => w (ix4 g a r key)) := by
  rw [← bits_bot]
  generalize hE : Finset.fold (max : EReal → EReal → EReal) _ _ _ = E
  pointwise
  exact hE

theorem top_form : up (k0_pay4 (F := Ideal) ks k cu q (ix3 g a r)) = top (refScores cu ks q k g a r) := by
  delta k0_pay4
  unfold top
  exact congrArg up ((max_form g a r _).trans (congrArg (fun f => Finset.univ.fold max (⊥ : EReal) f) (funext fun key => score_form cu ks q k g a r key)))

theorem out_form' (vals : FVec Ideal S1536x8x128 .fp8e4m3) (w : FVec Ideal S8x4x1536x1536 .f32) (z : FVec Ideal S8x4x1536 .f32) :
    k0_pay1 (F := Ideal) vs vals w z (ix2 r ⟨512 * g.val + 128 * a.val + d.val, by omega⟩)
      = Ideal.div (∑ key : Fin 1536, (vals (ix3 key g d) : EReal) * (ex (w (ix4 g a r key) - up (z (ix3 g a r))) * vs (ix1 g)))
        (∑ key : Fin 1536, ex (w (ix4 g a r key) - up (z (ix3 g a r)))) := by
  generalize hE : Ideal.div (∑ key : Fin 1536, (vals (ix3 key g d) : EReal) * (ex (w (ix4 g a r key) - up (z (ix3 g a r))) * vs (ix1 g))) _ = E
  pointwise [k0_pay1]
  exact hE

theorem out_form : k0_pay1 (F := Ideal) vs (k0_pay2 v) (k0_pay3 ks k cu q) (k0_pay4 ks k cu q) (ix2 r ⟨512 * g.val + 128 * a.val + d.val, by omega⟩)
    = entry (refScores cu ks q k g a r) (vs (ix1 g)) (fun key => v (ix2 key ⟨g.val * 128 + d.val, by omega⟩)) := by
  refine (out_form' vs g a r d _ _ _).trans ?_
  rw [top_form]
  unfold entry
  congr 1
  · refine Finset.sum_congr rfl fun key _ => ?_
    rw [score_form, value_form, mul_comm]
  · exact Finset.sum_congr rfl fun key _ => by rw [score_form]

end Forms

section Arrays
variable (m : (ℓ : Loc nD τ sig) → Buf (Elt Ideal) ℓ)

/-- Every window's one block starts at the array's origin. -/
theorem idx : ∀ t : Fin cfg0.N, win0_0.index t = ![0] ∧ win0_1.index t = ![0] ∧ win0_2.index t = ![0]
    ∧ win0_3.index t = ![0, 0] ∧ win0_4.index t = ![0, 0] ∧ win0_5.index t = ![0, 0] :=
  (by decide +kernel : ∀ t : Fin grid0.N, _)

/-- The result. -/
theorem final5 (c : Dev nD) : (dats m 0 c).arrAt 5 (cfgs 0).N
    = k0_pay1 (F := Ideal) (m ((c : Thread nD τ).loc main_arg2)) (k0_pay2 (rightHalf (m ((c : Thread nD τ).loc main_arg4))))
      (k0_pay3 (m ((c : Thread nD τ).loc main_arg1)) (leftHalf (m ((c : Thread nD τ).loc main_arg4))) (m ((c : Thread nD τ).loc main_arg0)) (m ((c : Thread nD τ).loc main_arg3)))
      (k0_pay4 (m ((c : Thread nD τ).loc main_arg1)) (leftHalf (m ((c : Thread nD τ).loc main_arg4))) (m ((c : Thread nD τ).loc main_arg0)) (m ((c : Thread nD τ).loc main_arg3))) := by
  refine (dats m 0 c).arrAt_eq_of_after_last 5 t0_0 (by decide +kernel) _ fun j => ?_
  blk_simp
  rw [after0_5]
  frame_out
  blk_point [iblk, V, idx t0_0]
  · funext y
    idx_vars y
    unfold rightHalf
    blk_point [iblk, V, idx t0_0]
  · funext y
    idx_vars y
    unfold leftHalf
    blk_point [iblk, V, idx t0_0]

end Arrays

end Cert.AttnReferenceIdeal.Value
-- ==== Proof.AttnRun.Arrays.lean ====
/- The attention kernel's result array as a function of the arguments, and its equality with the reference's. -/
module

public import proofs.«01_k».proof.Proof.AttnRun.Tile
public import proofs.«01_k».proof.Proof.AttnRun.AttnIdealHyps
public import proofs.«01_k».proof.Proof.AttnRun.Reference

@[expose] public section

set_option maxRecDepth 16384

noncomputable section

namespace Cert.AttnIdeal.Value

open Idealize.ShloMosaic Idealize.ShloMosaic.TcCoe Idealize.SL.Sem
open Cert.AttnIdeal Cert.AttnIdeal.Gen Cert.AttnOnline Cert.AttnWords

/-- Attention of every token: entry `col` of row `r` is head `col / 128`, whose group is `col / 512`. -/
def attended (cu : Vec Ideal S4 .i32) (ks vs : Vec Ideal S8 .f32) (q : Vec Ideal S1536x4096 .bf16) (kv : Vec Ideal S1536x2048 .fp8e4m3) (r : Fin 1536) (col : Fin 4096) : EReal :=
  entry (scoreRow (fun key => kerMask (cu (ix1 1)) (cu (ix1 2)) (cu (ix1 3)) key.val r.val) (fun t => q (ix2 r ⟨128 * (col.val / 128) + t.val, by omega⟩))
    (fun key t => kv (ix2 key ⟨128 * (col.val / 512) + t.val, by omega⟩)) (ks (ix1 ⟨col.val / 512, by omega⟩) * Ideal.ofBits .f32 0x3DB504F3#32 * Ideal.ofBits .f32 0x3FB8AA3B#32))
    (vs (ix1 ⟨col.val / 512, by omega⟩)) (fun key => kv (ix2 key ⟨1024 + (128 * (col.val / 512) + col.val % 128), by omega⟩))

section Arrays
variable (m : (ℓ : Loc nD τ sig) → Buf (Elt Ideal) ℓ)

theorem idx : ∀ t : Fin cfg0.N, win0_0.index t = ![0] ∧ win0_1.index t = ![0] ∧ win0_2.index t = ![0]
    ∧ win0_3.index t = ![t.val / 8, t.val % 8] ∧ win0_4.index t = ![0, t.val % 8] ∧ win0_5.index t = ![0, 8 + t.val % 8] ∧ win0_6.index t = ![t.val / 8, t.val % 8] :=
  (by decide +kernel : ∀ t : Fin grid0.N, _)

theorem coords_at : ∀ t : Fin cfg0.N, ((grid0.coords t) 0).val = t.val / 8 ∧ ((grid0.coords t) 1).val = t.val % 8 :=
  (by decide +kernel : ∀ t : Fin grid0.N, _)

theorem lt48 (t : Fin cfg0.N) : t.val < 48 := t.isLt

section Blocks
variable (c : Dev nD) (t : Fin cfg0.N)

theorem block0 (j : Fin 4) : (iblk m c 0 t : Vec Ideal S4 .i32) (ix1 j) = (m ((c : Thread nD τ).loc main_arg0) : Vec Ideal S4 .i32) (ix1 j) := by
  blk_point [iblk, V, idx t]

theorem block1 (j : Fin 8) : (iblk m c 1 t : Vec Ideal S8 .f32) (ix1 j) = (m ((c : Thread nD τ).loc main_arg1) : Vec Ideal S8 .f32) (ix1 j) := by
  blk_point [iblk, V, idx t]

theorem block2 (j : Fin 8) : (iblk m c 2 t : Vec Ideal S8 .f32) (ix1 j) = (m ((c : Thread nD τ).loc main_arg2) : Vec Ideal S8 .f32) (ix1 j) := by
  blk_point [iblk, V, idx t]

theorem block3 (y : Fin 256) (x : Fin 512) : (iblk m c 3 t : Vec Ideal S256x512 .bf16) (ix2 y x)
    = (m ((c : Thread nD τ).loc main_arg3) : Vec Ideal S1536x4096 .bf16) (ix2 ⟨t.val / 8 * 256 + y.val, by have := lt48 t; omega⟩ ⟨t.val % 8 * 512 + x.val, by omega⟩) := by
  blk_point [iblk, V, idx t]

theorem block4 (y : Fin 1536) (x : Fin 128) : (iblk m c 4 t : Vec Ideal S1536x128 .fp8e4m3) (ix2 y x)
    = (m ((c : Thread nD τ).loc main_arg4) : Vec Ideal S1536x2048 .fp8e4m3) (ix2 y ⟨t.val % 8 * 128 + x.val, by omega⟩) := by
  blk_point [iblk, V, idx t]

theorem block5 (y : Fin 1536) (x : Fin 128) : (iblk m c 5 t : Vec Ideal S1536x128 .fp8e4m3) (ix2 y x)
    = (m ((c : Thread nD τ).loc main_arg4) : Vec Ideal S1536x2048 .fp8e4m3) (ix2 y ⟨(8 + t.val % 8) * 128 + x.val, by omega⟩) := by
  blk_point [iblk, V, idx t]

/-- A point's entry is the array's. -/
theorem tile_attended (y0 : Fin 256) (y1 : Fin 512) :
    tile (grid0.coords t) (iblk m c 0 t) (iblk m c 1 t) (iblk m c 2 t) (iblk m c 3 t) (iblk m c 4 t) (iblk m c 5 t) y0 y1
      = attended (m ((c : Thread nD τ).loc main_arg0)) (m ((c : Thread nD τ).loc main_arg1)) (m ((c : Thread nD τ).loc main_arg2))
        (m ((c : Thread nD τ).loc main_arg3)) (m ((c : Thread nD τ).loc main_arg4)) ⟨t.val / 8 * 256 + y0.val, by have := lt48 t; omega⟩ ⟨t.val % 8 * 512 + y1.val, by omega⟩ := by
  unfold tile attended
  simp only [block0, block1, block2, block3, block4, block5]
  have e0 : 256 * ((grid0.coords t) 0).val + y0.val = t.val / 8 * 256 + y0.val := by rw [(coords_at t).1]; omega
  have e1 : ∀ h, (⟨((grid0.coords t) 1).val, h⟩ : Fin 8) = ⟨(t.val % 8 * 512 + y1.val) / 512, by omega⟩ := fun h => Fin.ext (by show ((grid0.coords t) 1).val = _; rw [(coords_at t).2]; show _ = (t.val % 8 * 512 + y1.val) / 512; omega)
  have e2 : ∀ (x : Fin 128) h, (⟨t.val % 8 * 512 + (128 * (y1.val / 128) + x.val), h⟩ : Fin 4096) = ⟨128 * ((t.val % 8 * 512 + y1.val) / 128) + x.val, by omega⟩ :=
    fun x h => Fin.ext (by show t.val % 8 * 512 + (128 * (y1.val / 128) + x.val) = 128 * ((t.val % 8 * 512 + y1.val) / 128) + x.val; omega)
  have e3 : ∀ (x : Fin 128) h, (⟨t.val % 8 * 128 + x.val, h⟩ : Fin 2048) = ⟨128 * ((t.val % 8 * 512 + y1.val) / 512) + x.val, by omega⟩ :=
    fun x h => Fin.ext (by show t.val % 8 * 128 + x.val = 128 * ((t.val % 8 * 512 + y1.val) / 512) + x.val; omega)
  have e4 : ∀ h, (⟨(8 + t.val % 8) * 128 + y1.val % 128, h⟩ : Fin 2048) = ⟨1024 + (128 * ((t.val % 8 * 512 + y1.val) / 512) + (t.val % 8 * 512 + y1.val) % 128), by omega⟩ :=
    fun h => Fin.ext (by show (8 + t.val % 8) * 128 + y1.val % 128 = 1024 + (128 * ((t.val % 8 * 512 + y1.val) / 512) + (t.val % 8 * 512 + y1.val) % 128); omega)
  simp only [e0, e1, e2, e3, e4]

end Blocks

/-- The kernel's result array. -/
theorem final6 (c : Dev nD) : (dats m (hyps m) 0 c).arrAt 6 (cfgs 0).N
    = fun i => attended (m ((c : Thread nD τ).loc main_arg0)) (m ((c : Thread nD τ).loc main_arg1)) (m ((c : Thread nD τ).loc main_arg2))
        (m ((c : Thread nD τ).loc main_arg3)) (m ((c : Thread nD τ).loc main_arg4)) ⟨(i 0).val, (i 0).isLt⟩ ⟨(i 1).val, (i 1).isLt⟩ := by
  refine (dats m (hyps m) 0 c).arrAt_eq_of_covers 6 _ (by decide +kernel) fun t _ y => ?_
  have ht := lt48 t
  blk_simp
  rw [after0_6]
  idx_vars y
  refine (stored_tile c (grid0.coords t) _ _ _ _ _ _ _ _ _ _ _ _ _ _ _ _ _ _ _ _ _ y0 y1).trans ((tile_attended m c t y0 y1).trans ?_)
  obtain ⟨-, -, -, -, -, -, h6⟩ := idx t
  have e0 : win0_6.index t 0 = t.val / 8 := congrFun h6 0
  have e1 : win0_6.index t 1 = t.val % 8 := congrFun h6 1
  exact congrArg₂ (attended _ _ _ _ _) (Fin.ext (congrArg (· * 256 + y0.val) e0.symm)) (Fin.ext (congrArg (· * 512 + y1.val) e1.symm))

end Arrays

/-- The kernel's array is the reference's, of the same arguments. -/
theorem attn_eq (cu : Vec Ideal S4 .i32) (ks vs : Vec Ideal S8 .f32) (q : Vec Ideal S1536x4096 .bf16) (kv : Vec Ideal S1536x2048 .fp8e4m3) :
    Cert.AttnReferenceIdeal.Gen.k0_pay1 (F := Ideal) vs (Cert.AttnReferenceIdeal.Gen.k0_pay2 (Cert.AttnReferenceIdeal.Value.rightHalf kv))
      (Cert.AttnReferenceIdeal.Gen.k0_pay3 ks (Cert.AttnReferenceIdeal.Value.leftHalf kv) cu q)
      (Cert.AttnReferenceIdeal.Gen.k0_pay4 ks (Cert.AttnReferenceIdeal.Value.leftHalf kv) cu q)
      = fun i => attended cu ks vs q kv ⟨(i 0).val, (i 0).isLt⟩ ⟨(i 1).val, (i 1).isLt⟩ := by
  funext i
  idx_vars i
  obtain ⟨g, a, d, rfl⟩ : ∃ (g : Fin 8) (a : Fin 4) (d : Fin 128), i1 = ⟨512 * g.val + 128 * a.val + d.val, by omega⟩ :=
    ⟨⟨i1.val / 512, by omega⟩, ⟨i1.val % 512 / 128, by omega⟩, ⟨i1.val % 128, by omega⟩, Fin.ext (by show i1.val = 512 * (i1.val / 512) + 128 * (i1.val % 512 / 128) + i1.val % 128; omega)⟩
  refine (Cert.AttnReferenceIdeal.Value.out_form cu ks vs q _ _ g a i0 d).trans ?_
  show _ = attended cu ks vs q kv i0 ⟨512 * g.val + 128 * a.val + d.val, by omega⟩
  unfold attended Cert.AttnReferenceIdeal.Value.refScores
  have e1 : (512 * g.val + 128 * a.val + d.val) / 512 = g.val := by omega
  have e2 : (512 * g.val + 128 * a.val + d.val) / 128 = 4 * g.val + a.val := by omega
  have e3 : (512 * g.val + 128 * a.val + d.val) % 128 = d.val := by omega
  simp only [e1, e2, e3]
  have hm : ∀ key : Fin 1536, refMask (fun x => cu (ix1 ⟨1 + x.val, by omega⟩)) key.val i0.val = kerMask (cu (ix1 1)) (cu (ix1 2)) (cu (ix1 3)) key.val i0.val :=
    fun key => (masks_eq (fun x : Fin 3 => cu (ix1 ⟨1 + x.val, by omega⟩)) key.isLt i0.isLt).symm
  have hq : ∀ (t : Fin 128) h h', q (ix2 i0 ⟨g.val * 512 + a.val * 128 + t.val, h⟩) = q (ix2 i0 ⟨128 * (4 * g.val + a.val) + t.val, h'⟩) :=
    fun t h h' => congrArg (fun z => q (ix2 i0 z)) (Fin.ext (by show g.val * 512 + a.val * 128 + t.val = 128 * (4 * g.val + a.val) + t.val; omega))
  have hk : ∀ (key : Fin 1536) (t : Fin 128) h h', Cert.AttnReferenceIdeal.Value.leftHalf kv (ix2 key ⟨g.val * 128 + t.val, h⟩) = kv (ix2 key ⟨128 * g.val + t.val, h'⟩) :=
    fun key t h h' => congrArg (fun z => kv (ix2 key z)) (Fin.ext (by show g.val * 128 + t.val = 128 * g.val + t.val; omega))
  have hv : ∀ (key : Fin 1536) h h', Cert.AttnReferenceIdeal.Value.rightHalf kv (ix2 key ⟨g.val * 128 + d.val, h⟩) = kv (ix2 key ⟨1024 + (128 * g.val + d.val), h'⟩) :=
    fun key h h' => congrArg (fun z => kv (ix2 key z)) (Fin.ext (by show 1024 + (g.val * 128 + d.val) = 1024 + (128 * g.val + d.val); omega))
  have eq : (fun t : Fin 128 => (q (ix2 i0 ⟨g.val * 512 + a.val * 128 + t.val, by omega⟩) : EReal)) = fun t => q (ix2 i0 ⟨128 * (4 * g.val + a.val) + t.val, by omega⟩) := funext fun t => hq t _ _
  have ek : (fun (key : Fin 1536) (t : Fin 128) => (Cert.AttnReferenceIdeal.Value.leftHalf kv (ix2 key ⟨g.val * 128 + t.val, by omega⟩) : EReal)) = fun key t => kv (ix2 key ⟨128 * g.val + t.val, by omega⟩) := funext fun key => funext fun t => hk key t _ _
  have ev : (fun key : Fin 1536 => (Cert.AttnReferenceIdeal.Value.rightHalf kv (ix2 key ⟨g.val * 128 + d.val, by omega⟩) : EReal)) = fun key => kv (ix2 key ⟨1024 + (128 * g.val + d.val), by omega⟩) := funext fun key => hv key _ _
  rw [funext hm, eq, ek, ev]

end Cert.AttnIdeal.Value
-- ==== Proof.AttnRun.AttnHyps.lean ====
/- The side conditions the attention call assumes of the bounds it reads hold whatever the bounds are (Attn). -/
module

public import proofs.«01_k».proof.Proof.Gen.Attn.Frame
public import proofs.«01_k».proof.Proof.AttnRun.Words

@[expose] public section

set_option maxRecDepth 16384

noncomputable section

namespace Cert.Attn.Value

open Idealize.ShloMosaic Idealize.ShloMosaic.TcCoe Idealize.SL.Sem
open Cert.Attn Cert.Attn.Gen Cert.AttnWords

theorem loop1_eq (i : grid0.Coords) (a b c : BitVec 32) :
    k0_t1_loop i a a b b c c = loop1 (i 0).val (firstBlock (i 0).val a b c) := rfl

theorem loop2_eq (i : grid0.Coords) (a b c : BitVec 32) :
    k0_t2_loop i a a b b c c = loop2 (i 0).val (firstBlock (i 0).val a b c) := rfl

theorem lt6 (i : grid0.Coords) : (i 0).val < 6 := (i 0).isLt

theorem loops_at (i : grid0.Coords) (a b c : BitVec 32) :
    (k0_t1_loop i a a b b c c).OK ∧ (k0_t2_loop i a a b b c c).OK
      ∧ (k0_t1_loop i a a b b c c).trips = (i 0).val - firstNat (i 0).val a b c ∧ (k0_t2_loop i a a b b c c).trips = 0 := by
  rw [loop1_eq, loop2_eq]
  have h := firstBlock_eq (lt6 i) a b c
  have h6 := lt6 i
  rw [h.1]
  exact loops ⟨(i 0).val, h6⟩ ⟨firstNat (i 0).val a b c, by omega⟩ h.2

/-- The first key of the block a trip visits. -/
theorem mult3_eq (i : grid0.Coords) (a b c : BitVec 32) (k : Fin (k0_t1_loop i a a b b c c).trips) :
    k0_mult3 i a a b b c c k = BitVec.ofNat 32 (256 * (firstNat (i 0).val a b c + k.val))
      ∧ firstNat (i 0).val a b c + k.val < (i 0).val := by
  have hk := k.isLt
  have ht := (loops_at i a b c).2.2.1
  have h := firstBlock_eq (lt6 i) a b c
  have h6 := lt6 i
  refine ⟨?_, by omega⟩
  show Scalar.muli (Scf.iv (firstBlock (i 0).val a b c) 1#32 k.val) 256#32 = _
  rw [h.1]
  exact trip_base (by omega)

theorem off3_eq (i : grid0.Coords) (a b c : BitVec 32) (k : Fin (k0_t1_loop i a a b b c c).trips) :
    k0_off3 i a a b b c c k = ![256 * (firstNat (i 0).val a b c + k.val), 0] := by
  have h := mult3_eq i a b c k
  have h6 := lt6 i
  show ![(k0_mult3 i a a b b c c k).toNat, 0] = _
  rw [h.1, BitVec.toNat_ofNat, Nat.mod_eq_of_lt (by omega)]

theorem chk (i : grid0.Coords) (a b c : BitVec 32) : k0_chk1 i a a b b c c := by
  have hl := loops_at i a b c
  have h6 := lt6 i
  have hd : ∀ k : Fin (k0_t1_loop i a a b b c c).trips, 256 ∣ (k0_mult3 i a a b b c c k).toNat := fun k => by
    have h := mult3_eq i a b c k
    rw [h.1, BitVec.toNat_ofNat, Nat.mod_eq_of_lt (by omega)]
    exact ⟨_, rfl⟩
  have hz : ∀ k : Fin (k0_t2_loop i a a b b c c).trips, False := fun k => by
    have := k.isLt
    have := hl.2.2.2
    omega
  refine ⟨hl.1, hd, fun k a' => ?_, hd, hl.2.1, fun k => (hz k).elim, fun k => (hz k).elim, fun k => (hz k).elim⟩
  have h := mult3_eq i a b c k
  rw [off3_eq i a b c k]
  match a' with
  | ⟨0, _⟩ => show 256 * _ + 256 ≤ 1536; omega
  | ⟨1, _⟩ => show 0 + 128 ≤ 128; omega

variable {F : FTy → Type} [FloatOps F]

theorem hyps (m : (ℓ : Loc nD τ sig) → Buf (Elt F) ℓ) : Hyps m := fun c t => chk (grid0.coords t) _ _ _

end Cert.Attn.Value
-- ==== Proof.Value.Reference.lean ====
/- The reference program's result arrays, each as one function of the argument arrays: the program is one
   call with a single grid point whose blocks are the whole arrays, so what it leaves is what its body stores. -/
module

public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

variable (m : (ℓ : Loc nD τ sig) → Buf (Elt Ideal) ℓ)

/-- Every window's one block starts at the array's origin. -/
theorem idx : ∀ t : Fin cfg0.N, win0_0.index t = ![0, 0] ∧ win0_1.index t = ![0] ∧ win0_2.index t = ![0, 0]
    ∧ win0_3.index t = ![0] ∧ win0_4.index t = ![0, 0] ∧ win0_5.index t = ![0, 0, 0] ∧ win0_6.index t = ![0]
    ∧ win0_7.index t = ![0, 0] ∧ win0_8.index t = ![0] ∧ win0_9.index t = ![0, 0] ∧ win0_10.index t = ![0, 0]
    ∧ win0_11.index t = ![0] ∧ win0_12.index t = ![0, 0, 0] ∧ win0_13.index t = ![0] ∧ win0_14.index t = ![0, 0]
    ∧ win0_15.index t = ![0] :=
  (by decide +kernel : ∀ t : Fin grid0.N, _)

/-- The gate columns of the first projection, scaled back, from the row codes and scales of the normalised input. -/
abbrev gate (x : FVec Ideal S1536x4096 .bf16) (g : FVec Ideal S4096 .f32) (w : FVec Ideal S4096x34816 .fp8e4m3) (ws : FVec Ideal S34816 .f32) :
    FVec Ideal S1536x14336 .f32 :=
  k0_pay12 (k0_pay8 x g) (k0_pay9 x g) w ws
/-- The up columns likewise. -/
abbrev up (x : FVec Ideal S1536x4096 .bf16) (g : FVec Ideal S4096 .f32) (w : FVec Ideal S4096x34816 .fp8e4m3) (ws : FVec Ideal S34816 .f32) :
    FVec Ideal S1536x14336 .f32 :=
  k0_pay13 (k0_pay8 x g) (k0_pay9 x g) w ws

theorem whole0 (c : Dev nD) : View.ld (iblk m c 0 t0_0) r0_0 = m ((c : Thread nD τ).loc main_arg0) := by
  funext j
  blk_point [iblk, V, idx t0_0]

theorem whole1 (c : Dev nD) : View.ld (iblk m c 1 t0_0) r0_1 = m ((c : Thread nD τ).loc main_arg1) := by
  funext j
  blk_point [iblk, V, idx t0_0]

theorem whole2 (c : Dev nD) : View.ld (iblk m c 2 t0_0) r0_3 = m ((c : Thread nD τ).loc main_arg2) := by
  funext j
  blk_point [iblk, V, idx t0_0]

theorem whole3 (c : Dev nD) : View.ld (iblk m c 3 t0_0) r0_4 = m ((c : Thread nD τ).loc main_arg3) := by
  funext j
  blk_point [iblk, V, idx t0_0]

/-- The output. -/
theorem final9 (c : Dev nD) : (dats m 0 c).arrAt 9 (cfgs 0).N
    = k0_pay5 (k0_pay6 (m ((c : Thread nD τ).loc main_arg0))) (gate (m ((c : Thread nD τ).loc main_arg0)) (m ((c : Thread nD τ).loc main_arg1)) (m ((c : Thread nD τ).loc main_arg2)) (m ((c : Thread nD τ).loc main_arg3))) (up (m ((c : Thread nD τ).loc main_arg0)) (m ((c : Thread nD τ).loc main_arg1)) (m ((c : Thread nD τ).loc main_arg2)) (m ((c : Thread nD τ).loc main_arg3))) (k0_pay17 (m ((c : Thread nD τ).loc main_arg4)) (m ((c : Thread nD τ).loc main_arg5))) (m ((c : Thread nD τ).loc main_arg6)) (m ((c : Thread nD τ).loc main_arg7)) (m ((c : Thread nD τ).loc main_arg8)) := by
  refine (dats m 0 c).arrAt_eq_of_after_last 9 t0_0 (by decide +kernel) _ fun j => ?_
  blk_simp
  rw [after0_9]
  frame_out
  blk_point [iblk, V, idx t0_0]
  all_goals first | exact whole0 m c | exact whole1 m c | exact whole2 m c | exact whole3 m c

/-- The row codes of the normalised input. -/
theorem final10 (c : Dev nD) : (dats m 0 c).arrAt 10 (cfgs 0).N
    = k0_pay9 (m ((c : Thread nD τ).loc main_arg0)) (m ((c : Thread nD τ).loc main_arg1)) := by
  refine (dats m 0 c).arrAt_eq_of_after_last 10 t0_0 (by decide +kernel) _ fun j => ?_
  blk_simp
  rw [after0_10]
  frame_out
  blk_point [iblk, V, idx t0_0]

/-- Their scales. -/
theorem final11 (c : Dev nD) : (dats m 0 c).arrAt 11 (cfgs 0).N
    = k0_pay10 (m ((c : Thread nD τ).loc main_arg0)) (m ((c : Thread nD τ).loc main_arg1)) := by
  refine (dats m 0 c).arrAt_eq_of_after_last 11 t0_0 (by decide +kernel) _ fun j => ?_
  blk_simp
  rw [after0_11]
  frame_out
  blk_point [iblk, V, idx t0_0]

/-- The row codes of the attention output. -/
theorem final12 (c : Dev nD) : (dats m 0 c).arrAt 12 (cfgs 0).N
    = k0_pay16 (m ((c : Thread nD τ).loc main_arg4)) := by
  refine (dats m 0 c).arrAt_eq_of_after_last 12 t0_0 (by decide +kernel) _ fun j => ?_
  blk_simp
  rw [after0_12]
  frame_out
  blk_point [iblk, V, idx t0_0]

/-- Their scales. -/
theorem final13 (c : Dev nD) : (dats m 0 c).arrAt 13 (cfgs 0).N
    = k0_pay15 (m ((c : Thread nD τ).loc main_arg4)) := by
  refine (dats m 0 c).arrAt_eq_of_after_last 13 t0_0 (by decide +kernel) _ fun j => ?_
  blk_simp
  rw [after0_13]
  frame_out
  blk_point [iblk, V, idx t0_0]

/-- The row codes of the gated hidden layer. -/
theorem final14 (c : Dev nD) : (dats m 0 c).arrAt 14 (cfgs 0).N
    = k0_pay3 (gate (m ((c : Thread nD τ).loc main_arg0)) (m ((c : Thread nD τ).loc main_arg1)) (m ((c : Thread nD τ).loc main_arg2)) (m ((c : Thread nD τ).loc main_arg3))) (up (m ((c : Thread nD τ).loc main_arg0)) (m ((c : Thread nD τ).loc main_arg1)) (m ((c : Thread nD τ).loc main_arg2)) (m ((c : Thread nD τ).loc main_arg3))) := by
  refine (dats m 0 c).arrAt_eq_of_after_last 14 t0_0 (by decide +kernel) _ fun j => ?_
  blk_simp
  rw [after0_14]
  frame_out
  blk_point [iblk, V, idx t0_0]
  all_goals first | exact whole0 m c | exact whole1 m c | exact whole2 m c | exact whole3 m c

/-- Their scales. -/
theorem final15 (c : Dev nD) : (dats m 0 c).arrAt 15 (cfgs 0).N
    = k0_pay4 (gate (m ((c : Thread nD τ).loc main_arg0)) (m ((c : Thread nD τ).loc main_arg1)) (m ((c : Thread nD τ).loc main_arg2)) (m ((c : Thread nD τ).loc main_arg3))) (up (m ((c : Thread nD τ).loc main_arg0)) (m ((c : Thread nD τ).loc main_arg1)) (m ((c : Thread nD τ).loc main_arg2)) (m ((c : Thread nD τ).loc main_arg3))) := by
  refine (dats m 0 c).arrAt_eq_of_after_last 15 t0_0 (by decide +kernel) _ fun j => ?_
  blk_simp
  rw [after0_15]
  frame_out
  blk_point [iblk, V, idx t0_0]
  all_goals first | exact whole0 m c | exact whole1 m c | exact whole2 m c | exact whole3 m c

end Cert.ReferenceIdeal.Value
-- ==== Proof.lean ====
/- The certificate: the frames of the programs, and the equality over the extended reals of the kernels' results with their
   references'. The five calls' run is `Value.Run`; its results read back to the arguments are `Value.Chain`; the reference's results
   are `Value.Reference`. The q, k and v projection is under `QkvRun`,
   the attention under `AttnRun`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.QkvReferenceIdeal.Skeleton
public import proofs.«01_k».proof.Proof.Gen.QkvReferenceIdeal.Launch
public import proofs.«01_k».proof.Proof.Gen.QkvReferenceIdeal.Points
public import proofs.«01_k».proof.Proof.Gen.QkvReferenceIdeal.Frame
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnReferenceIdeal
public import proofs.«01_k».proof.Proof.Gen.AttnReferenceIdeal.Skeleton
public import proofs.«01_k».proof.Proof.Gen.AttnReferenceIdeal.Launch
public import proofs.«01_k».proof.Proof.Gen.AttnReferenceIdeal.Points
public import proofs.«01_k».proof.Proof.Gen.AttnReferenceIdeal.Frame
public import proofs.«01_k».proof.Proof.Value.Run
public import proofs.«01_k».proof.Proof.Value.Chain
public import proofs.«01_k».proof.Proof.QkvRun.BitsFrame
public import proofs.«01_k».proof.Proof.QkvRun.IdealFrame
public import proofs.«01_k».proof.Proof.QkvRun.Bridge
public import proofs.«01_k».proof.Proof.AttnRun.Arrays
public import proofs.«01_k».proof.Proof.AttnRun.AttnHyps
public import proofs.«01_k».proof.Proof.Value.Reference
public import Idealize.ShloMosaic.Adequacy
public import Idealize.ShloMosaic.Init

@[expose] public section

noncomputable section

namespace Cert.Proof

open Idealize.ShloMosaic Idealize.SL.Sem Cert.Kernel

/-- The first program's seven results are its reference's. -/
theorem values : Cert.algebraic_KernelIdeal_ReferenceIdeal (hKernelIdeal := Cert.KernelIdeal.Gen.facts) (hReferenceIdeal := Cert.ReferenceIdeal.Gen.facts) := by
  intro m g m' g' _ agree
  refine ⟨fun c => Cert.KernelIdeal.Gen.W8 m g c (Proc.devRef .tc Cert.KernelIdeal.main_v9),
    fun c => Cert.KernelIdeal.Gen.W8 m g c (Proc.devRef .tc Cert.KernelIdeal.main_v2_0),
    fun c => Cert.KernelIdeal.Gen.W8 m g c (Proc.devRef .tc Cert.KernelIdeal.main_v10),
    fun c => Cert.KernelIdeal.Gen.W8 m g c (Proc.devRef .tc Cert.KernelIdeal.main_v11),
    fun c => Cert.KernelIdeal.Gen.W8 m g c (Proc.devRef .tc Cert.KernelIdeal.main_v12),
    fun c => Cert.KernelIdeal.Gen.W8 m g c (Proc.devRef .tc Cert.KernelIdeal.main_v5_0),
    fun c => Cert.KernelIdeal.Gen.W8 m g c (Proc.devRef .tc Cert.KernelIdeal.main_v13), ?_, ?_⟩
  · refine (θ_run Cert.KernelIdeal.defs _ _).mono (fun r h c => ?_) (Cert.KernelIdeal.Value.run m g)
    exact ⟨h c _ (Cert.KernelIdeal.Gen.mem_uc Cert.KernelIdeal.main_v9 (by decide)),
      h c _ (Cert.KernelIdeal.Gen.mem_uc Cert.KernelIdeal.main_v2_0 (by decide)),
      h c _ (Cert.KernelIdeal.Gen.mem_uc Cert.KernelIdeal.main_v10 (by decide)),
      h c _ (Cert.KernelIdeal.Gen.mem_uc Cert.KernelIdeal.main_v11 (by decide)),
      h c _ (Cert.KernelIdeal.Gen.mem_uc Cert.KernelIdeal.main_v12 (by decide)),
      h c _ (Cert.KernelIdeal.Gen.mem_uc Cert.KernelIdeal.main_v5_0 (by decide)),
      h c _ (Cert.KernelIdeal.Gen.mem_uc Cert.KernelIdeal.main_v13 (by decide)),
      (h c _ (Cert.KernelIdeal.Gen.mem_uc Cert.KernelIdeal.main_arg0 (by decide))).trans (Cert.KernelIdeal.Gen.W8_main_arg0 m g c),
      (h c _ (Cert.KernelIdeal.Gen.mem_uc Cert.KernelIdeal.main_arg1 (by decide))).trans (Cert.KernelIdeal.Gen.W8_main_arg1 m g c),
      (h c _ (Cert.KernelIdeal.Gen.mem_uc Cert.KernelIdeal.main_arg2 (by decide))).trans (Cert.KernelIdeal.Gen.W8_main_arg2 m g c),
      (h c _ (Cert.KernelIdeal.Gen.mem_uc Cert.KernelIdeal.main_arg3 (by decide))).trans (Cert.KernelIdeal.Gen.W8_main_arg3 m g c),
      (h c _ (Cert.KernelIdeal.Gen.mem_uc Cert.KernelIdeal.main_arg4 (by decide))).trans (Cert.KernelIdeal.Gen.W8_main_arg4 m g c),
      (h c _ (Cert.KernelIdeal.Gen.mem_uc Cert.KernelIdeal.main_arg5 (by decide))).trans (Cert.KernelIdeal.Gen.W8_main_arg5 m g c),
      (h c _ (Cert.KernelIdeal.Gen.mem_uc Cert.KernelIdeal.main_arg6 (by decide))).trans (Cert.KernelIdeal.Gen.W8_main_arg6 m g c),
      (h c _ (Cert.KernelIdeal.Gen.mem_uc Cert.KernelIdeal.main_arg7 (by decide))).trans (Cert.KernelIdeal.Gen.W8_main_arg7 m g c),
      (h c _ (Cert.KernelIdeal.Gen.mem_uc Cert.KernelIdeal.main_arg8 (by decide))).trans (Cert.KernelIdeal.Gen.W8_main_arg8 m g c)⟩
  · refine (θ_run Cert.ReferenceIdeal.defs _ _).mono (fun r h c => ?_) (θ_run_and (Cert.ReferenceIdeal.Gen.run_main m' g') (Cert.ReferenceIdeal.Gen.unchanged m' g'))
    obtain ⟨a0, a1, a2, a3, a4, a5, a6, a7, a8⟩ := agree c
    refine ⟨?_, ?_, ?_, ?_, ?_, ?_, ?_, h.2 c⟩
    · refine (((h.1 c).1 9).trans (Cert.ReferenceIdeal.Value.final9 m' c)).trans (Eq.trans ?_ (Cert.KernelIdeal.Value.out_end m g c).symm)
      rw [a0, a1, a2, a3, a4, a5, a6, a7, a8]
    · refine (((h.1 c).1 10).trans (Cert.ReferenceIdeal.Value.final10 m' c)).trans (Eq.trans ?_ (Cert.KernelIdeal.Value.xc_end m g c).symm)
      rw [a0, a1]
    · refine (((h.1 c).1 11).trans (Cert.ReferenceIdeal.Value.final11 m' c)).trans (Eq.trans ?_ (Cert.KernelIdeal.Value.xs_end m g c).symm)
      rw [a0, a1]
    · refine (((h.1 c).1 12).trans (Cert.ReferenceIdeal.Value.final12 m' c)).trans (Eq.trans ?_ (Cert.KernelIdeal.Value.oc_end m g c).symm)
      rw [a4]
    · refine (((h.1 c).1 13).trans (Cert.ReferenceIdeal.Value.final13 m' c)).trans (Eq.trans ?_ (Cert.KernelIdeal.Value.os_end m g c).symm)
      rw [a4]
    · refine (((h.1 c).1 14).trans (Cert.ReferenceIdeal.Value.final14 m' c)).trans (Eq.trans ?_ (Cert.KernelIdeal.Value.hc_end m g c).symm)
      rw [a0, a1, a2, a3]
    · refine (((h.1 c).1 15).trans (Cert.ReferenceIdeal.Value.final15 m' c)).trans (Eq.trans ?_ (Cert.KernelIdeal.Value.hs_end m g c).symm)
      rw [a0, a1, a2, a3]

/-- The projection's three results are its reference's. -/
theorem qkv_values : Cert.algebraic_QkvIdeal_QkvReferenceIdeal (hQkvIdeal := Cert.QkvIdeal.Gen.facts) (hQkvReferenceIdeal := Cert.QkvReferenceIdeal.Gen.facts) := by
  intro m g m' g' _ agree
  refine ⟨fun c => (Cert.QkvIdeal.Gen.dats m 0 c).arrAt 5 (Cert.QkvIdeal.cfgs 0).N,
    fun c => Pipeline.afterTail₀ Cert.QkvIdeal.cfgs (Cert.QkvIdeal.Gen.dats m) 0 (Cert.QkvIdeal.Gen.V0 m) [Cert.QkvIdeal.Gen.hostOps1] c Cert.QkvIdeal.main_v4,
    fun c => Pipeline.afterTail₀ Cert.QkvIdeal.cfgs (Cert.QkvIdeal.Gen.dats m) 0 (Cert.QkvIdeal.Gen.V0 m) [Cert.QkvIdeal.Gen.hostOps1] c Cert.QkvIdeal.main_v6, ?_, ?_⟩
  · refine (θ_run Cert.QkvIdeal.defs _ _).mono (fun r h c => ?_) (θ_run_and (Cert.QkvIdeal.Gen.run_main m g) (Cert.QkvIdeal.Gen.unchanged m g))
    exact ⟨(h.1 c).1 5, (h.1 c).2 _ (by decide), (h.1 c).2 _ (by decide), h.2 c⟩
  · refine (θ_run Cert.QkvReferenceIdeal.defs _ _).mono (fun r h c => ?_) (θ_run_and (Cert.QkvReferenceIdeal.Gen.run_main m' g') (Cert.QkvReferenceIdeal.Gen.unchanged m' g'))
    obtain ⟨a0, a1, a2, a3, a4, a5⟩ := agree c
    refine ⟨?_, ?_, ?_, h.2 c⟩
    · refine (((h.1 c).1 6).trans (Cert.QkvReferenceIdeal.Value.final6 m' c)).trans (Eq.trans ?_ (Cert.QkvIdeal.Value.q_value m c).symm)
      rw [a0, a1, a2, a3]
    · refine (((h.1 c).1 7).trans (Cert.QkvReferenceIdeal.Value.final7 m' c)).trans (Eq.trans ?_ (Cert.QkvIdeal.Value.k_value m c).symm)
      rw [a0, a1, a2, a3, a4]
    · refine (((h.1 c).1 8).trans (Cert.QkvReferenceIdeal.Value.final8 m' c)).trans (Eq.trans ?_ (Cert.QkvIdeal.Value.v_value m c).symm)
      rw [a0, a1, a2, a3, a5]

/-- The attention kernel and its reference end with the same array. -/
theorem attn_values : Cert.algebraic_AttnIdeal_AttnReferenceIdeal (hAttnIdeal := Cert.AttnIdeal.Gen.facts) (hAttnReferenceIdeal := Cert.AttnReferenceIdeal.Gen.facts) := by
  intro m g m' g' _ agree
  refine ⟨fun c => (Cert.AttnIdeal.Gen.dats m (Cert.AttnIdeal.Value.hyps m) 0 c).arrAt 6 (Cert.AttnIdeal.cfgs 0).N, ?_, ?_⟩
  · refine (θ_run Cert.AttnIdeal.defs _ _).mono (fun r h c => ?_)
      (θ_run_and (Cert.AttnIdeal.Gen.run_main m g (Cert.AttnIdeal.Value.hyps m)) (Cert.AttnIdeal.Gen.unchanged m g (Cert.AttnIdeal.Value.hyps m)))
    exact ⟨(h.1 c).1 6, h.2 c⟩
  · refine (θ_run Cert.AttnReferenceIdeal.defs _ _).mono (fun r h c => ?_) (θ_run_and (Cert.AttnReferenceIdeal.Gen.run_main m' g') (Cert.AttnReferenceIdeal.Gen.unchanged m' g'))
    obtain ⟨a0, a1, a2, a3, a4⟩ := agree c
    refine ⟨?_, h.2 c⟩
    refine (((h.1 c).1 5).trans (Cert.AttnReferenceIdeal.Value.final5 m' c)).trans (Eq.trans ?_ (Cert.AttnIdeal.Value.final6 m c).symm)
    rw [a0, a1, a2, a3, a4]
    exact Cert.AttnIdeal.Value.attn_eq _ _ _ _ _

/-- The frames of the nine programs; no operation but the attention's mask constant was rewritten in the kernels; the kernels' results are their references'. -/
theorem claim : Cert.Claim :=
  ⟨Cert.Kernel.Gen.facts, Cert.KernelIdeal.Gen.facts, Cert.ReferenceIdeal.Gen.facts,
    Cert.Qkv.Gen.facts, Cert.QkvIdeal.Gen.facts, Cert.QkvReferenceIdeal.Gen.facts,
    Cert.Attn.Gen.facts, Cert.AttnIdeal.Gen.facts, Cert.AttnReferenceIdeal.Gen.facts,
    fun m ρ _ => Cert.Kernel.Gen.frame m ρ, fun m ρ _ => Cert.KernelIdeal.Gen.frame m ρ,
    fun m ρ _ => Cert.ReferenceIdeal.Gen.frame m ρ,
    fun m ρ _ => Cert.Qkv.Gen.frame m ρ, fun m ρ _ => Cert.QkvIdeal.Gen.frame m ρ,
    fun m ρ _ => Cert.QkvReferenceIdeal.Gen.frame m ρ,
    fun m ρ _ => Cert.Attn.Gen.frame m ρ (Cert.Attn.Value.hyps m), fun m ρ _ => Cert.AttnIdeal.Gen.frame m ρ (Cert.AttnIdeal.Value.hyps m),
    fun m ρ _ => Cert.AttnReferenceIdeal.Gen.frame m ρ, trivial, values, trivial, qkv_values,
    IdealRules.named_const.statement _ _ _ _ _ rfl, attn_values⟩

end Cert.Proof

end
